-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v19) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v36) = v0 c
          ∧ r.2.mem ((c.tc : Thread Cert.Reference14Ideal.nD Cert.Reference14Ideal.τ).loc Cert.Reference14Ideal.main_v37) = v1 c
          ∧ r.2.mem ((c.tc : Thread Cert.Reference14Ideal.nD Cert.Reference14Ideal.τ).loc Cert.Reference14Ideal.main_v38) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_v14) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v50) = v0 c
          ∧ r.2.mem ((c.tc : Thread Cert.Reference16Ideal.nD Cert.Reference16Ideal.τ).loc Cert.Reference16Ideal.main_v51) = v1 c
          ∧ r.2.mem ((c.tc : Thread Cert.Reference16Ideal.nD Cert.Reference16Ideal.τ).loc Cert.Reference16Ideal.main_v52) = v2 c
          ∧ r.2.mem ((c.tc : Thread Cert.Reference16Ideal.nD Cert.Reference16Ideal.τ).loc Cert.Reference16Ideal.main_v53) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v5)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v41) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v257) = v0 c
          ∧ r.2.mem ((c.tc : Thread Cert.Reference18Ideal.nD Cert.Reference18Ideal.τ).loc Cert.Reference18Ideal.main_v258) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S4096x3584 : Shape := ⟨2, ![4096, 3584]⟩
abbrev S4096x2048 : Shape := ⟨2, ![4096, 2048]⟩
abbrev S512 : Shape := ⟨1, ![512]⟩
abbrev S8x128x128 : Shape := ⟨3, ![8, 128, 128]⟩
abbrev S8x128 : Shape := ⟨2, ![8, 128]⟩
abbrev S_ : Shape := ⟨0, ![]⟩

class Facts : Prop where
  bcast_S_S4096x3584 : S_.BroadcastsInDim S4096x3584 (![] : Fin 0 → Fin S4096x3584.rank)
  bcast_S_S4096x2048 : S_.BroadcastsInDim S4096x2048 (![] : Fin 0 → Fin S4096x2048.rank)
  bcast_S_S512 : S_.BroadcastsInDim S512 (![] : Fin 0 → Fin S512.rank)
  bcast_S_S8x128x128 : S_.BroadcastsInDim S8x128x128 (![] : Fin 0 → Fin S8x128x128.rank)

variable [Facts]

def fn {F : FTy → Type} [FloatOps F] (main_arg0 : FVec F S4096x3584 .f32) (main_arg1 : FVec F S4096x2048 .f32) (main_arg2 : FVec F S512 .f32) (main_arg3 : FVec F S512 .f32) (main_arg4 : FVec F S8x128x128 .f32) (main_arg5 : FVec F S8x128 .f32) : IVec S4096x3584 1 × IVec S4096x2048 1 × IVec S512 1 × IVec S8x128x128 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S8x128x128 .f32 := Host.absf main_arg4
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  (main_v2, main_v5, main_v8, main_v11)
-- ==== Pre_finite2.lean ====
abbrev S4096x2048 : Shape := ⟨2, ![4096, 2048]⟩
abbrev S5632x2048 : Shape := ⟨2, ![5632, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S_ : Shape := ⟨0, ![]⟩

class Facts : Prop where
  slices_S2x4096x5632_S1x4096x5632_1_0_0 : S2x4096x5632.Slices ![1, 0, 0] S1x4096x5632
  shapeCasts_S1x4096x5632_S4096x5632 : S1x4096x5632.ShapeCasts S4096x5632
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S2x4096x5632 .bf16) : IVec S4096x2048 1 × IVec S5632x2048 1 × IVec S4096x5632 1 :=
  let main_v0 : FVec F S1x4096x5632 .bf16 := (extractStridedSlice S1x4096x5632 ![1, 0, 0] · slices_S2x4096x5632_S1x4096x5632_1_0_0) main_arg2
  let main_v1 : FVec F S4096x5632 .bf16 := shapeCast S4096x5632 main_v0 shapeCasts_S1x4096x5632_S4096x5632
  let main_v2 : FVec F S4096x2048 .f32 := (extf .f32 · bitsLt_bf16_f32) main_arg0
  let main_v3 : FVec F S4096x2048 .f32 := Host.absf main_v2
  let main_cst : FVec F S_ .f32 := constant S_ .f32 0x7F800000#32
  let main_v4 : FVec F S4096x2048 .f32 := broadcastInDim S4096x2048 ![] bcast_S_S4096x2048 main_cst
  let main_v5 : IVec S4096x2048 1 := cmpf .olt main_v3 main_v4
  let main_v6 : FVec F S5632x2048 .f32 := (extf .f32 · bitsLt_bf16_f32) main_arg1
  let main_v7 : FVec F S5632x2048 .f32 := Host.absf main_v6
  let main_cst_0 : FVec F S_ .f32 := constant S_ .f32 0x7F800000#32
  let main_v8 : FVec F S5632x2048 .f32 := broadcastInDim S5632x2048 ![] bcast_S_S5632x2048 main_cst_0
  let main_v9 : IVec S5632x2048 1 := cmpf .olt main_v7 main_v8
  let main_v10 : FVec F S4096x5632 .f32 := (extf .f32 · bitsLt_bf16_f32) main_v1
  let main_v11 : FVec F S4096x5632 .f32 := Host.absf main_v10
  let main_cst_1 : FVec F S_ .f32 := constant S_ .f32 0x7F800000#32
  let main_v12 : FVec F S4096x5632 .f32 := broadcastInDim S4096x5632 ![] bcast_S_S4096x5632 main_cst_1
  let main_v13 : IVec S4096x5632 1 := cmpf .olt main_v11 main_v12
  (main_v5, main_v9, main_v13)
-- ==== Kernel.lean ====
abbrev S4096x3584 : Shape := ⟨2, ![4096, 3584]⟩
abbrev S4096x2048 : Shape := ⟨2, ![4096, 2048]⟩
abbrev S512 : Shape := ⟨1, ![512]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S1x512 : Shape := ⟨2, ![1, 512]⟩
abbrev S4096x1024 : Shape := ⟨2, ![4096, 1024]⟩
abbrev S128x128 : Shape := ⟨2, ![128, 128]⟩
abbrev S256x512 : Shape := ⟨2, ![256, 512]⟩
abbrev S256x1024 : Shape := ⟨2, ![256, 1024]⟩
abbrev S8x512 : Shape := ⟨2, ![8, 512]⟩
abbrev S256 : Shape := ⟨1, ![256]⟩
abbrev S256x1 : Shape := ⟨2, ![256, 1]⟩
abbrev S1x128x128 : Shape := ⟨3, ![1, 128, 128]⟩
abbrev S32x8x512 : Shape := ⟨3, ![32, 8, 512]⟩
abbrev S512x128 : Shape := ⟨2, ![512, 128]⟩

abbrev nBuf : Space → Nat
  | .hbm => 17
  | .vmem => 21
  | .smem => 0
  | _ => 0

abbrev bufTy : (tb : Table) → Fin (tcTables nBuf tb) → BufTy
  | .hbm, ⟨0, _⟩ => ⟨S4096x3584, .f32⟩
  | .hbm, ⟨1, _⟩ => ⟨S4096x2048, .f32⟩
  | .hbm, ⟨2, _⟩ => ⟨S512, .f32⟩
  | .hbm, ⟨3, _⟩ => ⟨S512, .f32⟩
  | .hbm, ⟨4, _⟩ => ⟨S8x128x128, .f32⟩
  | .hbm, ⟨5, _⟩ => ⟨S8x128, .f32⟩
  | .hbm, ⟨6, _⟩ => ⟨S128x8, .f32⟩
  | .hbm, ⟨7, _⟩ => ⟨S128x8x64, .f32⟩
  | .hbm, ⟨8, _⟩ => ⟨S128x512, .f32⟩
  | .hbm, ⟨9, _⟩ => ⟨S1x512, .f32⟩
  | .hbm, ⟨10, _⟩ => ⟨S1x512, .f32⟩
  | .hbm, ⟨11, _⟩ => ⟨S8x128x128, .f32⟩
  | .hbm, ⟨12, _⟩ => ⟨S4096x1024, .bf16⟩
  | .hbm, ⟨13, _⟩ => ⟨S8x128x128, .f32⟩
  | .hbm, ⟨14, _⟩ => ⟨S128x128, .f32⟩
  | .hbm, ⟨15, _⟩ => ⟨S1x512, .f32⟩
  | .hbm, ⟨16, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S8x128x128, .f32⟩
  | .local _ .vmem, ⟨9, _⟩ => ⟨S8x128x128, .f32⟩
  | .local _ .vmem, ⟨10, _⟩ => ⟨S128x512, .f32⟩
  | .local _ .vmem, ⟨11, _⟩ => ⟨S256x1024, .bf16⟩
  | .local _ .vmem, ⟨12, _⟩ => ⟨S256x1024, .bf16⟩
  | .local _ .vmem, ⟨13, _⟩ => ⟨S8x128x128, .f32⟩
  | .local _ .vmem, ⟨14, _⟩ => ⟨S128x128, .f32⟩
  | .local _ .vmem, ⟨15, _⟩ => ⟨S1x512, .f32⟩
  | .local _ .vmem, ⟨16, _⟩ => ⟨S1x512, .f32⟩
  | .local _ .vmem, ⟨17, _⟩ => ⟨S256x512, .f32⟩
  | .local _ .vmem, ⟨18, _⟩ => ⟨S128x512, .f32⟩
  | .local _ .vmem, ⟨19, _⟩ => ⟨S8x512, .f32⟩
  | .local _ .vmem, ⟨20, _⟩ => ⟨S8x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v548 : BitVec 1 := Scalar.cmpi .eq arg0 c15_i32
  let v549 : BitVec 32 := Scalar.extui v548
  let c0_i32_313 : BitVec 32 := 0#32
  let v550 : BitVec 1 := Scalar.cmpi .ne v549 c0_i32_313
  v550

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x3584 : Shape := ⟨2, ![4096, 3584]⟩
abbrev S4096x2048 : Shape := ⟨2, ![4096, 2048]⟩
abbrev S512 : Shape := ⟨1, ![512]⟩
abbrev S8x128x128 : Shape := ⟨3, ![8, 128, 128]⟩
abbrev S8x128 : Shape := ⟨2, ![8, 128]⟩
abbrev S4096x1024 : Shape := ⟨2, ![4096, 1024]⟩
abbrev S1x4096x1024 : Shape := ⟨3, ![1, 4096, 1024]⟩
abbrev S1x4096x512 : Shape := ⟨3, ![1, 4096, 512]⟩
abbrev S_ : Shape := ⟨0, ![]⟩
abbrev S1x4096 : Shape := ⟨2, ![1, 4096]⟩
abbrev S1x4096x1 : Shape := ⟨3, ![1, 4096, 1]⟩
abbrev S1x1x512 : Shape := ⟨3, ![1, 1, 512]⟩
abbrev S1x32x128x8x64 : Shape := ⟨5, ![1, 32, 128, 8, 64]⟩
abbrev S128x128 : Shape := ⟨2, ![128, 128]⟩
abbrev S1x128x128 : Shape := ⟨3, ![1, 128, 128]⟩
abbrev S8x1x32x64x128 : Shape := ⟨5, ![8, 1, 32, 64, 128]⟩
abbrev S128x8 : Shape := ⟨2, ![128, 8]⟩
abbrev S1x1x128x8x1 : Shape := ⟨5, ![1, 1, 128, 8, 1]⟩
abbrev S4096x512 : Shape := ⟨2, ![4096, 512]⟩
abbrev S1x128x8 : Shape := ⟨3, ![1, 128, 8]⟩
abbrev S1x512 : Shape := ⟨2, ![1, 512]⟩
abbrev S4096 : Shape := ⟨1, ![4096]⟩

abbrev nBuf : Space → Nat
  | .hbm => 143
  | .vmem => 0
  | .smem => 0
  | _ => 0

abbrev hbmTy0_0 (i : Nat) : BufTy := match i % 128 with
  | 0 => ⟨S4096x3584, .f32⟩
  | 1 => ⟨S4096x2048, .f32⟩
  | 2 => ⟨S512, .f32⟩
  | 3 => ⟨S512, .f32⟩
  | 4 => ⟨S8x128x128, .f32⟩
  | 5 => ⟨S8x128, .f32⟩
  | 6 => ⟨S4096x1024, .f32⟩
  | 7 => ⟨S1x4096x1024, .f32⟩
  | 8 => ⟨S1x4096x512, .f32⟩
  | 9 => ⟨S1x4096x512, .f32⟩
  | 10 => ⟨S_, .f32⟩
  | 11 => ⟨S1x4096, .f32⟩
  | 12 => ⟨S1x4096x1, .f32⟩
  | 13 => ⟨S_, .f32⟩
  | 14 => ⟨S1x4096x1, .f32⟩
  | 15 => ⟨S1x4096x1, .f32⟩
  | 16 => ⟨S1x4096x512, .f32⟩
  | 17 => ⟨S1x4096x512, .f32⟩
  | 18 => ⟨S1x4096x512, .f32⟩
  | 19 => ⟨S_, .f32⟩
  | 20 => ⟨S1x4096, .f32⟩
  | 21 => ⟨S1x4096x1, .f32⟩
  | 22 => ⟨S_, .f32⟩
  | 23 => ⟨S1x4096x1, .f32⟩
  | 24 => ⟨S1x4096x1, .f32⟩
  | 25 => ⟨S_, .f32⟩
  | 26 => ⟨S1x4096x1, .f32⟩
  | 27 => ⟨S1x4096x1, .f32⟩
  | 28 => ⟨S1x4096x1, .f32⟩
  | 29 => ⟨S1x4096x1, .f32⟩
  | 30 => ⟨S_, .f32⟩
  | 31 => ⟨S1x4096x1, .f32⟩
  | 32 => ⟨S1x4096x1, .f32⟩
  | 33 => ⟨S1x4096x512, .f32⟩
  | 34 => ⟨S1x4096x512, .f32⟩
  | 35 => ⟨S1x1x512, .f32⟩
  | 36 => ⟨S1x4096x512, .f32⟩
  | 37 => ⟨S1x4096x512, .f32⟩
  | 38 => ⟨S1x1x512, .f32⟩
  | 39 => ⟨S1x4096x512, .f32⟩
  | 40 => ⟨S1x4096x512, .f32⟩
  | 41 => ⟨S1x32x128x8x64, .f32⟩
  | 42 => ⟨S_, .i1⟩
  | 43 => ⟨S128x128, .i1⟩
  | 44 => ⟨S128x128, .i32⟩
  | 45 => ⟨S_, .i32⟩
  | 46 => ⟨S128x128, .i32⟩
  | 47 => ⟨S128x128, .i32⟩
  | 48 => ⟨S128x128, .i32⟩
  | 49 => ⟨S128x128, .i1⟩
  | 50 => ⟨S_, .i1⟩
  | 51 => ⟨S128x128, .i1⟩
  | 52 => ⟨S128x128, .i1⟩
  | 53 => ⟨S1x128x128, .i1⟩
  | 54 => ⟨S_, .f32⟩
  | 55 => ⟨S8x128x128, .f32⟩
  | 56 => ⟨S8x128x128, .i1⟩
  | 57 => ⟨S8x128x128, .f32⟩
  | 58 => ⟨S_, .f32⟩
  | 59 => ⟨S8x128x128, .f32⟩
  | 60 => ⟨S8x1x32x64x128, .f32⟩
  | 61 => ⟨S1x32x128x8x64, .f32⟩
  | 62 => ⟨S128x8, .f32⟩
  | 63 => ⟨S1x1x128x8x1, .f32⟩
  | 64 => ⟨S1x32x128x8x64, .f32⟩
  | 65 => ⟨S1x32x128x8x64, .f32⟩
  | 66 => ⟨S1x4096x512, .f32⟩
  | 67 => ⟨S1x4096x512, .f32⟩
  | 68 => ⟨S4096x512, .f32⟩
  | 69 => ⟨S1x4096x512, .f32⟩
  | 70 => ⟨S1x4096x512, .f32⟩
  | 71 => ⟨S1x4096x512, .f32⟩
  | 72 => ⟨S1x32x128x8x64, .f32⟩
  | 73 => ⟨S_, .f32⟩
  | 74 => ⟨S1x128x8, .f32⟩
  | 75 => ⟨S1x1x128x8x1, .f32⟩
  | 76 => ⟨S_, .f32⟩
  | 77 => ⟨S128x8, .f32⟩
  | 78 => ⟨S8x128, .f32⟩
  | 79 => ⟨S8x1x32x64x128, .f32⟩
  | 80 => ⟨S8x128x128, .f32⟩
  | 81 => ⟨S8x1x32x64x128, .f32⟩
  | 82 => ⟨S1x32x128x8x64, .f32⟩
  | 83 => ⟨S_, .f32⟩
  | 84 => ⟨S8x128x128, .f32⟩
  | 85 => ⟨S8x128x128, .f32⟩
  | 86 => ⟨S1x4096x512, .f32⟩
  | 87 => ⟨S_, .f32⟩
  | 88 => ⟨S1x512, .f32⟩
  | 89 => ⟨S1x1x512, .f32⟩
  | 90 => ⟨S_, .f32⟩
  | 91 => ⟨S512, .f32⟩
  | 92 => ⟨S1x4096x512, .f32⟩
  | 93 => ⟨S_, .f32⟩
  | 94 => ⟨S1x512, .f32⟩
  | 95 => ⟨S1x1x512, .f32⟩
  | 96 => ⟨S1x4096x512, .f32⟩
  | 97 => ⟨S1x4096x512, .f32⟩
  | 98 => ⟨S_, .f32⟩
  | 99 => ⟨S512, .f32⟩
  | 100 => ⟨S1x4096x512, .f32⟩
  | 101 => ⟨S_, .f32⟩
  | 102 => ⟨S1x4096, .f32⟩
  | 103 => ⟨S1x4096x1, .f32⟩
  | 104 => ⟨S1x4096x512, .f32⟩
  | 105 => ⟨S1x4096x512, .f32⟩
  | 106 => ⟨S1x4096x1, .f32⟩
  | 107 => ⟨S_, .f32⟩
  | 108 => ⟨S1x4096x1, .f32⟩
  | 109 => ⟨S1x4096x1, .f32⟩
  | 110 => ⟨S_, .f32⟩
  | 111 => ⟨S4096, .f32⟩
  | 112 => ⟨S1x4096, .f32⟩
  | 113 => ⟨S1x4096x512, .f32⟩
  | 114 => ⟨S1x4096x512, .f32⟩
  | 115 => ⟨S1x4096x512, .f32⟩
  | 116 => ⟨S1x4096x512, .f32⟩
  | 117 => ⟨S1x4096x512, .f32⟩
  | 118 => ⟨S1x4096x512, .f32⟩
  | 119 => ⟨S_, .f32⟩
  | 120 => ⟨S1x4096, .f32⟩
  | 121 => ⟨S1x4096x1, .f32⟩
  | 122 => ⟨S_, .f32⟩
  | 123 => ⟨S1x4096x1, .f32⟩
  | 124 => ⟨S1x4096x1, .f32⟩
  | 125 => ⟨S_, .f32⟩
  | 126 => ⟨S4096, .f32⟩
  | 127 => ⟨S1x4096, .f32⟩
  | _ => ⟨S4096x3584, .f32⟩

abbrev hbmTy0_1 (i : Nat) : BufTy := match i % 128 with
  | 0 => ⟨S1x4096x512, .f32⟩
  | 1 => ⟨S1x4096x512, .f32⟩
  | 2 => ⟨S_, .f32⟩
  | 3 => ⟨S1x4096x1024, .f32⟩
  | 4 => ⟨S_, .f32⟩
  | 5 => ⟨S1x4096x1024, .f32⟩
  | 6 => ⟨S1x4096x1024, .f32⟩
  | 7 => ⟨S4096x1024, .f32⟩
  | 8 => ⟨S4096x1024, .bf16⟩
  | 9 => ⟨S128x8, .f32⟩
  | 10 => ⟨S_, .i32⟩
  | 11 => ⟨S_, .f32⟩
  | 12 => ⟨S128x128, .f32⟩
  | 13 => ⟨S1x512, .f32⟩
  | 14 => ⟨S1x512, .f32⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_v30 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_0 : Ref sig .tc := ⟨.hbm, 50, rfl⟩
abbrev main_call0_v5 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34_1 : Ref sig .tc := ⟨.hbm, 56, rfl⟩
abbrev main_v34_0 : Ref sig .tc := ⟨.hbm, 57, rfl⟩
abbrev main_call1_cst : Ref sig .tc := ⟨.hbm, 58, rfl⟩
abbrev main_v34_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call2_cst : Ref sig .tc := ⟨.hbm, 83, rfl⟩
abbrev main_call2_v0 : Ref sig .tc := ⟨.hbm, 84, rfl⟩
abbrev main_v56 : Ref sig .tc := ⟨.hbm, 85, rfl⟩
abbrev main_v57 : Ref sig .tc := ⟨.hbm, 86, rfl⟩
abbrev main_cst_8 : Ref sig .tc := ⟨.hbm, 87, rfl⟩
abbrev main_v58 : Ref sig .tc := ⟨.hbm, 88, rfl⟩
abbrev main_v59 : Ref sig .tc := ⟨.hbm, 89, rfl⟩
abbrev main_cst_9 : Ref sig .tc := ⟨.hbm, 90, rfl⟩
abbrev main_v60 : Ref sig .tc := ⟨.hbm, 91, rfl⟩
abbrev main_v61 : Ref sig .tc := ⟨.hbm, 92, rfl⟩
abbrev main_cst_10 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_11 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_15 : Ref sig .tc := ⟨.hbm, 119, rfl⟩
abbrev main_v83 : Ref sig .tc := ⟨.hbm, 120, rfl⟩
abbrev main_v84 : Ref sig .tc := ⟨.hbm, 121, rfl⟩
abbrev main_cst_16 : Ref sig .tc := ⟨.hbm, 122, rfl⟩
abbrev main_v85 : Ref sig .tc := ⟨.hbm, 123, rfl⟩
abbrev main_v86 : Ref sig .tc := ⟨.hbm, 124, rfl⟩
abbrev main_cst_17 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_cst_19 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_20 : Ref sig .tc := ⟨.hbm, 138, rfl⟩
abbrev main_call3_v0 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩

abbrev nD : Nat := 1
abbrev τ : Topo := Topo.v7x

variable {F : FTy → Type} [FloatOps F]
-- ==== Kernel2.lean ====
abbrev S4096x2048 : Shape := ⟨2, ![4096, 2048]⟩
abbrev S5632x2048 : Shape := ⟨2, ![5632, 2048]⟩
abbrev S2x4096x5632 : Shape := ⟨3, ![2, 4096, 5632]⟩
abbrev S1024x2048 : Shape := ⟨2, ![1024, 2048]⟩
abbrev S512x2048 : Shape := ⟨2, ![512, 2048]⟩
abbrev S2x1024x512 : Shape := ⟨3, ![2, 1024, 512]⟩
abbrev S1024x512 : Shape := ⟨2, ![1024, 512]⟩
abbrev S1x1024x512 : Shape := ⟨3, ![1, 1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S2x4096x5632, .bf16⟩
  | .hbm, ⟨3, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S2x1024x512, .bf16⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x2048 : Shape := ⟨2, ![4096, 2048]⟩
abbrev S5632x2048 : Shape := ⟨2, ![5632, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S2x4096x5632, .bf16⟩
  | .hbm, ⟨3, _⟩ => ⟨S4096x2048, .f32⟩
  | .hbm, ⟨4, _⟩ => ⟨S5632x2048, .f32⟩
  | .hbm, ⟨5, _⟩ => ⟨S2x4096x5632, .f32⟩
  | .hbm, ⟨6, _⟩ => ⟨S1x4096x5632, .f32⟩
  | .hbm, ⟨7, _⟩ => ⟨S4096x5632, .f32⟩
  | .hbm, ⟨8, _⟩ => ⟨S1x4096x5632, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S1x4096x5632, .f32⟩
  | .hbm, ⟨39, _⟩ => ⟨S1x4096x5632, .f32⟩
  | .hbm, ⟨40, _⟩ => ⟨S2x4096x5632, .f32⟩
  | .hbm, ⟨41, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== Kernel3.lean ====
abbrev S2048x4096 : Shape := ⟨2, ![2048, 4096]⟩
abbrev S2x4096x5632 : Shape := ⟨3, ![2, 4096, 5632]⟩
abbrev S2x2048x5632 : Shape := ⟨3, ![2, 2048, 5632]⟩
abbrev S1x4096x512 : Shape := ⟨3, ![1, 4096, 512]⟩
abbrev S1x2048x512 : Shape := ⟨3, ![1, 2048, 512]⟩
abbrev S4096x512 : Shape := ⟨2, ![4096, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2x4096x5632, .bf16⟩
  | .hbm, ⟨2, _⟩ => ⟨S2x2048x5632, .bf16⟩
  | .local _ .vmem, ⟨0, _⟩ => ⟨S2048x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x2048x512, .bf16⟩
  | .local _ .vmem, ⟨4, _⟩ => ⟨S1x2048x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference3Ideal.lean ====
abbrev S2048x4096 : Shape := ⟨2, ![2048, 4096]⟩
abbrev S2x4096x5632 : Shape := ⟨3, ![2, 4096, 5632]⟩
abbrev S4096x2048 : Shape := ⟨2, ![4096, 2048]⟩
abbrev S_ : Shape := ⟨0, ![]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S4096x5632 : Shape := ⟨2, ![4096, 5632]⟩
abbrev S1x4096x5632 : Shape := ⟨3, ![1, 4096, 5632]⟩
abbrev S5632x2048 : Shape := ⟨2, ![5632, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2x4096x5632, .bf16⟩
  | .hbm, ⟨2, _⟩ => ⟨S4096x2048, .bf16⟩
  | .hbm, ⟨3, _⟩ => ⟨S4096x2048, .f32⟩
  | .hbm, ⟨4, _⟩ => ⟨S2x4096x5632, .f32⟩
  | .hbm, ⟨5, _⟩ => ⟨S_, .f32⟩
  | .hbm, ⟨6, _⟩ => ⟨S2x2048x5632, .f32⟩
  | .hbm, ⟨7, _⟩ => ⟨S1x2048x5632, .f32⟩
  | .hbm, ⟨8, _⟩ => ⟨S2048x5632, .f32⟩
  | .hbm, ⟨9, _⟩ => ⟨S4096x5632, .f32⟩
  | .hbm, ⟨10, _⟩ => ⟨S1x2048x5632, .f32⟩
  | .hbm, ⟨11, _⟩ => ⟨S2048x5632, .f32⟩
  | .hbm, ⟨12, _⟩ => ⟨S4096x5632, .f32⟩
  | .hbm, ⟨13, _⟩ => ⟨S1x4096x5632, .f32⟩
  | .hbm, ⟨14, _⟩ => ⟨S1x4096x5632, .f32⟩
  | .hbm, ⟨15, _⟩ => ⟨S2x4096x5632, .f32⟩
  | .hbm, ⟨16, _⟩ => ⟨S1x4096x5632, .f32⟩
  | .hbm, ⟨17, _⟩ => ⟨S4096x5632, .f32⟩
  | .hbm, ⟨18, _⟩ => ⟨S1x4096x5632, .f32⟩
  | .hbm, ⟨19, _⟩ => ⟨S4096x5632, .f32⟩
  | .hbm, ⟨20, _⟩ => ⟨S5632x2048, .f32⟩
  | .hbm, ⟨21, _⟩ => ⟨S2048x5632, .f32⟩
  | .hbm, ⟨22, _⟩ => ⟨S1x2048x5632, .f32⟩
  | .hbm, ⟨23, _⟩ => ⟨S_, .f32⟩
  | .hbm, ⟨24, _⟩ => ⟨S2x2048x5632, .f32⟩
  | .hbm, ⟨25, _⟩ => ⟨S5632x2048, .f32⟩
  | .hbm, ⟨26, _⟩ => ⟨S2048x5632, .f32⟩
  | .hbm, ⟨27, _⟩ => ⟨S1x2048x5632, .f32⟩
  | .hbm, ⟨28, _⟩ => ⟨S_, .f32⟩
  | .hbm, ⟨29, _⟩ => ⟨S2x2048x5632, .f32⟩
  | .hbm, ⟨30, _⟩ => ⟨S2x2048x5632, .f32⟩
  | .hbm, ⟨31, _⟩ => ⟨S2x2048x5632, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Kernel4.lean ====
abbrev S2x4096x5632 : Shape := ⟨3, ![2, 4096, 5632]⟩
abbrev S2x2048x5632 : Shape := ⟨3, ![2, 2048, 5632]⟩
abbrev S4096x2048 : Shape := ⟨2, ![4096, 2048]⟩
abbrev S1x1024x5632 : Shape := ⟨3, ![1, 1024, 5632]⟩
abbrev S1x512x5632 : Shape := ⟨3, ![1, 512, 5632]⟩
abbrev S1024x512 : Shape := ⟨2, ![1024, 512]⟩
abbrev S1024x5632 : Shape := ⟨2, ![1024, 5632]⟩
abbrev S512x5632 : Shape := ⟨2, ![512, 5632]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x5632, .bf16⟩
  | .hbm, ⟨1, _⟩ => ⟨S2x2048x5632, .bf16⟩
  | .hbm, ⟨2, _⟩ => ⟨S4096x2048, .f32⟩
  | .local _ .vmem, ⟨0, _⟩ => ⟨S1x1024x5632, .bf16⟩
  | .local _ .vmem, ⟨1, _⟩ => ⟨S1x1024x5632, .bf16⟩
  | .local _ .vmem, ⟨2, _⟩ => ⟨S1x512x5632, .bf16⟩
  | .local _ .vmem, ⟨3, _⟩ => ⟨S1x512x5632, .bf16⟩
  | .local _ .vmem, ⟨4, _⟩ => ⟨S1024x512, .f32⟩
  | .local _ .vmem, ⟨5, _⟩ => ⟨S1024x512, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4096x5632 : Shape := ⟨3, ![2, 4096, 5632]⟩
abbrev S2x2048x5632 : Shape := ⟨3, ![2, 2048, 5632]⟩
abbrev S_ : Shape := ⟨0, ![]⟩
abbrev S4096x2048 : Shape := ⟨2, ![4096, 2048]⟩
abbrev S1x2048x5632 : Shape := ⟨3, ![1, 2048, 5632]⟩
abbrev S2048x5632 : Shape := ⟨2, ![2048, 5632]⟩
abbrev S4096x5632 : Shape := ⟨2, ![4096, 5632]⟩
abbrev S1x4096x5632 : Shape := ⟨3, ![1, 4096, 5632]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2x2048x5632, .bf16⟩
  | .hbm, ⟨2, _⟩ => ⟨S2x4096x5632, .f32⟩
  | .hbm, ⟨3, _⟩ => ⟨S2x2048x5632, .f32⟩
  | .hbm, ⟨4, _⟩ => ⟨S_, .f32⟩
  | .hbm, ⟨5, _⟩ => ⟨S4096x2048, .f32⟩
  | .hbm, ⟨6, _⟩ => ⟨S1x2048x5632, .f32⟩
  | .hbm, ⟨7, _⟩ => ⟨S2048x5632, .f32⟩
  | .hbm, ⟨8, _⟩ => ⟨S4096x5632, .f32⟩
  | .hbm, ⟨9, _⟩ => ⟨S1x2048x5632, .f32⟩
  | .hbm, ⟨10, _⟩ => ⟨S2048x5632, .f32⟩
  | .hbm, ⟨11, _⟩ => ⟨S4096x5632, .f32⟩
  | .hbm, ⟨12, _⟩ => ⟨S1x4096x5632, .f32⟩
  | .hbm, ⟨13, _⟩ => ⟨S1x4096x5632, .f32⟩
  | .hbm, ⟨14, _⟩ => ⟨S2x4096x5632, .f32⟩
  | .hbm, ⟨15, _⟩ => ⟨S1x4096x5632, .f32⟩
  | .hbm, ⟨16, _⟩ => ⟨S4096x5632, .f32⟩
  | .hbm, ⟨17, _⟩ => ⟨S1x4096x5632, .f32⟩
  | .hbm, ⟨18, _⟩ => ⟨S4096x5632, .f32⟩
  | .hbm, ⟨19, _⟩ => ⟨S4096x2048, .f32⟩
  | .hbm, ⟨20, _⟩ => ⟨S4096x2048, .f32⟩
  | .hbm, ⟨21, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Kernel5.lean ====
abbrev S5632x4096 : Shape := ⟨2, ![5632, 4096]⟩
abbrev S4096x2048 : Shape := ⟨2, ![4096, 2048]⟩
abbrev S1x4096x2048 : Shape := ⟨3, ![1, 4096, 2048]⟩
abbrev S1x5632x2048 : Shape := ⟨3, ![1, 5632, 2048]⟩
abbrev S1408x4096 : Shape := ⟨2, ![1408, 4096]⟩
abbrev S1x4096x512 : Shape := ⟨3, ![1, 4096, 512]⟩
abbrev S1x1408x512 : Shape := ⟨3, ![1, 1408, 512]⟩
abbrev S4096x512 : Shape := ⟨2, ![4096, 512]⟩
abbrev S1408x512 : Shape := ⟨2, ![1408, 512]⟩

abbrev nBuf : Space → Nat
  | .hbm => 4
  | .vmem => 6
  | .smem => 0
  | _ => 0

abbrev bufTy : (tb : Table) → Fin (tcTables nBuf tb) → BufTy
  | .hbm, ⟨0, _⟩ => ⟨S5632x4096, .bf16⟩
  | .hbm, ⟨1, _⟩ => ⟨S4096x2048, .bf16⟩
  | .hbm, ⟨2, _⟩ => ⟨S1x4096x2048, .bf16⟩
  | .hbm, ⟨3, _⟩ => ⟨S1x5632x2048, .bf16⟩
  | .local _ .vmem, ⟨0, _⟩ => ⟨S1408x4096, .bf16⟩
  | .local _ .vmem, ⟨1, _⟩ => ⟨S1408x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1408x512, .bf16⟩
  | .local _ .vmem, ⟨5, _⟩ => ⟨S1x1408x512, .bf16⟩
  | _, _ => ⟨S5632x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference5Ideal.lean ====
abbrev S5632x4096 : Shape := ⟨2, ![5632, 4096]⟩
abbrev S4096x2048 : Shape := ⟨2, ![4096, 2048]⟩
abbrev S4096x5632 : Shape := ⟨2, ![4096, 5632]⟩
abbrev S_ : Shape := ⟨0, ![]⟩
abbrev S5632x2048 : Shape := ⟨2, ![5632, 2048]⟩
abbrev S2048x5632 : Shape := ⟨2, ![2048, 5632]⟩
abbrev S1x5632x2048 : Shape := ⟨3, ![1, 5632, 2048]⟩

abbrev nBuf : Space → Nat
  | .hbm => 18
  | .vmem => 0
  | .smem => 0
  | _ => 0

abbrev bufTy : (tb : Table) → Fin (tcTables nBuf tb) → BufTy
  | .hbm, ⟨0, _⟩ => ⟨S5632x4096, .bf16⟩
  | .hbm, ⟨1, _⟩ => ⟨S4096x2048, .bf16⟩
  | .hbm, ⟨2, _⟩ => ⟨S4096x5632, .bf16⟩
  | .hbm, ⟨3, _⟩ => ⟨S4096x5632, .f32⟩
  | .hbm, ⟨4, _⟩ => ⟨S4096x2048, .f32⟩
  | .hbm, ⟨5, _⟩ => ⟨S_, .f32⟩
  | .hbm, ⟨6, _⟩ => ⟨S5632x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S2048x5632, .f32⟩
  | .hbm, ⟨15, _⟩ => ⟨S5632x2048, .f32⟩
  | .hbm, ⟨16, _⟩ => ⟨S5632x2048, .bf16⟩
  | .hbm, ⟨17, _⟩ => ⟨S1x5632x2048, .bf16⟩
  | _, _ => ⟨S5632x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S4096x2048 : Shape := ⟨2, ![4096, 2048]⟩
abbrev S2x2048x5632 : Shape := ⟨3, ![2, 2048, 5632]⟩
abbrev S2x4096x5632 : Shape := ⟨3, ![2, 4096, 5632]⟩
abbrev S4096x5632 : Shape := ⟨2, ![4096, 5632]⟩
abbrev S5632x4096 : Shape := ⟨2, ![5632, 4096]⟩
abbrev S1024x2048 : Shape := ⟨2, ![1024, 2048]⟩
abbrev S2x2048x512 : Shape := ⟨3, ![2, 2048, 512]⟩
abbrev S2x1024x512 : Shape := ⟨3, ![2, 1024, 512]⟩
abbrev S1024x512 : Shape := ⟨2, ![1024, 512]⟩
abbrev S512x1024 : Shape := ⟨2, ![512, 1024]⟩
abbrev S1x2048x512 : Shape := ⟨3, ![1, 2048, 512]⟩
abbrev S2048x512 : Shape := ⟨2, ![2048, 512]⟩
abbrev S1x1024x512 : Shape := ⟨3, ![1, 1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2x2048x5632, .bf16⟩
  | .hbm, ⟨2, _⟩ => ⟨S2x4096x5632, .bf16⟩
  | .hbm, ⟨3, _⟩ => ⟨S4096x5632, .bf16⟩
  | .hbm, ⟨4, _⟩ => ⟨S5632x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2x2048x512, .bf16⟩
  | .local _ .vmem, ⟨3, _⟩ => ⟨S2x2048x512, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .vmem, ⟨9, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4096x2048 : Shape := ⟨2, ![4096, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S_ : Shape := ⟨0, ![]⟩
abbrev S5632x4096 : Shape := ⟨2, ![5632, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x5632, .bf16⟩
  | .hbm, ⟨2, _⟩ => ⟨S4096x2048, .f32⟩
  | .hbm, ⟨3, _⟩ => ⟨S2x2048x5632, .f32⟩
  | .hbm, ⟨4, _⟩ => ⟨S1x2048x5632, .f32⟩
  | .hbm, ⟨5, _⟩ => ⟨S2048x5632, .f32⟩
  | .hbm, ⟨6, _⟩ => ⟨S4096x5632, .f32⟩
  | .hbm, ⟨7, _⟩ => ⟨S1x2048x5632, .f32⟩
  | .hbm, ⟨8, _⟩ => ⟨S2048x5632, .f32⟩
  | .hbm, ⟨9, _⟩ => ⟨S4096x5632, .f32⟩
  | .hbm, ⟨10, _⟩ => ⟨S1x4096x5632, .f32⟩
  | .hbm, ⟨11, _⟩ => ⟨S1x4096x5632, .f32⟩
  | .hbm, ⟨12, _⟩ => ⟨S2x4096x5632, .f32⟩
  | .hbm, ⟨13, _⟩ => ⟨S1x4096x5632, .f32⟩
  | .hbm, ⟨14, _⟩ => ⟨S4096x5632, .f32⟩
  | .hbm, ⟨15, _⟩ => ⟨S1x4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S_, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .bf16⟩
  | .hbm, ⟨28, _⟩ => ⟨S2x4096x5632, .bf16⟩
  | .hbm, ⟨29, _⟩ => ⟨S5632x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel7.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S2048x4096 : Shape := ⟨2, ![2048, 4096]⟩
abbrev S4096x2048 : Shape := ⟨2, ![4096, 2048]⟩
abbrev S1x4096x2048 : Shape := ⟨3, ![1, 4096, 2048]⟩
abbrev S1x2048x2048 : Shape := ⟨3, ![1, 2048, 2048]⟩
abbrev S1x4096x512 : Shape := ⟨3, ![1, 4096, 512]⟩
abbrev S1x2048x512 : Shape := ⟨3, ![1, 2048, 512]⟩
abbrev S4096x512 : Shape := ⟨2, ![4096, 512]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S1x4096x2048, .bf16⟩
  | .hbm, ⟨3, _⟩ => ⟨S1x2048x2048, .bf16⟩
  | .local _ .vmem, ⟨0, _⟩ => ⟨S2048x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x2048x512, .bf16⟩
  | .local _ .vmem, ⟨4, _⟩ => ⟨S1x2048x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference8Ideal.lean ====
abbrev S2048x4096 : Shape := ⟨2, ![2048, 4096]⟩
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S2048x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S1x2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S1x4096x2048 : Shape := ⟨3, ![1, 4096, 2048]⟩
abbrev S1x2048x2048 : Shape := ⟨3, ![1, 2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S1x4096x2048, .bf16⟩
  | .hbm, ⟨3, _⟩ => ⟨S1x2048x2048, .bf16⟩
  | .hbm, ⟨4, _⟩ => ⟨S4096x2048, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x4096 : Shape := ⟨2, ![2048, 4096]⟩
abbrev S4096x3584 : Shape := ⟨2, ![4096, 3584]⟩
abbrev S1x4096x3584 : Shape := ⟨3, ![1, 4096, 3584]⟩
abbrev S1x2048x3584 : Shape := ⟨3, ![1, 2048, 3584]⟩
abbrev S1x4096x512 : Shape := ⟨3, ![1, 4096, 512]⟩
abbrev S1x2048x512 : Shape := ⟨3, ![1, 2048, 512]⟩
abbrev S4096x512 : Shape := ⟨2, ![4096, 512]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S4096x3584, .bf16⟩
  | .hbm, ⟨2, _⟩ => ⟨S1x4096x3584, .bf16⟩
  | .hbm, ⟨3, _⟩ => ⟨S1x2048x3584, .bf16⟩
  | .local _ .vmem, ⟨0, _⟩ => ⟨S2048x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x2048x512, .bf16⟩
  | .local _ .vmem, ⟨4, _⟩ => ⟨S1x2048x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 1, 7], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference10Ideal.lean ====
abbrev S2048x4096 : Shape := ⟨2, ![2048, 4096]⟩
abbrev S4096x3584 : Shape := ⟨2, ![4096, 3584]⟩
abbrev S4096x2048 : Shape := ⟨2, ![4096, 2048]⟩
abbrev S_ : Shape := ⟨0, ![]⟩
abbrev S2048x3584 : Shape := ⟨2, ![2048, 3584]⟩
abbrev S3584x2048 : Shape := ⟨2, ![3584, 2048]⟩
abbrev S1x2048x3584 : Shape := ⟨3, ![1, 2048, 3584]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x3584, .bf16⟩
  | .hbm, ⟨2, _⟩ => ⟨S4096x2048, .bf16⟩
  | .hbm, ⟨3, _⟩ => ⟨S4096x2048, .f32⟩
  | .hbm, ⟨4, _⟩ => ⟨S4096x3584, .f32⟩
  | .hbm, ⟨5, _⟩ => ⟨S_, .f32⟩
  | .hbm, ⟨6, _⟩ => ⟨S2048x3584, .f32⟩
  | .hbm, ⟨7, _⟩ => ⟨S4096x3584, .f32⟩
  | .hbm, ⟨8, _⟩ => ⟨S3584x2048, .f32⟩
  | .hbm, ⟨9, _⟩ => ⟨S2048x3584, .f32⟩
  | .hbm, ⟨10, _⟩ => ⟨S2048x3584, .bf16⟩
  | .hbm, ⟨11, _⟩ => ⟨S1x2048x3584, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S4096x3584 : Shape := ⟨2, ![4096, 3584]⟩
abbrev S2048x3584 : Shape := ⟨2, ![2048, 3584]⟩
abbrev S1x4096x3584 : Shape := ⟨3, ![1, 4096, 3584]⟩
abbrev S1x2048x3584 : Shape := ⟨3, ![1, 2048, 3584]⟩
abbrev S4096x2048 : Shape := ⟨2, ![4096, 2048]⟩
abbrev S1x512x3584 : Shape := ⟨3, ![1, 512, 3584]⟩
abbrev S2048x512 : Shape := ⟨2, ![2048, 512]⟩
abbrev S512x3584 : Shape := ⟨2, ![512, 3584]⟩

abbrev nBuf : Space → Nat
  | .hbm => 5
  | .vmem => 6
  | .smem => 0
  | _ => 0

abbrev bufTy : (tb : Table) → Fin (tcTables nBuf tb) → BufTy
  | .hbm, ⟨0, _⟩ => ⟨S4096x3584, .bf16⟩
  | .hbm, ⟨1, _⟩ => ⟨S2048x3584, .bf16⟩
  | .hbm, ⟨2, _⟩ => ⟨S1x4096x3584, .bf16⟩
  | .hbm, ⟨3, _⟩ => ⟨S1x2048x3584, .bf16⟩
  | .hbm, ⟨4, _⟩ => ⟨S4096x2048, .f32⟩
  | .local _ .vmem, ⟨0, _⟩ => ⟨S1x2048x3584, .bf16⟩
  | .local _ .vmem, ⟨1, _⟩ => ⟨S1x2048x3584, .bf16⟩
  | .local _ .vmem, ⟨2, _⟩ => ⟨S1x512x3584, .bf16⟩
  | .local _ .vmem, ⟨3, _⟩ => ⟨S1x512x3584, .bf16⟩
  | .local _ .vmem, ⟨4, _⟩ => ⟨S2048x512, .f32⟩
  | .local _ .vmem, ⟨5, _⟩ => ⟨S2048x512, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x3584 : Shape := ⟨2, ![4096, 3584]⟩
abbrev S2048x3584 : Shape := ⟨2, ![2048, 3584]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S2048x3584, .bf16⟩
  | .hbm, ⟨2, _⟩ => ⟨S4096x3584, .f32⟩
  | .hbm, ⟨3, _⟩ => ⟨S2048x3584, .f32⟩
  | .hbm, ⟨4, _⟩ => ⟨S_, .f32⟩
  | .hbm, ⟨5, _⟩ => ⟨S4096x2048, .f32⟩
  | .hbm, ⟨6, _⟩ => ⟨S4096x3584, .f32⟩
  | .hbm, ⟨7, _⟩ => ⟨S4096x2048, .f32⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x2048 : Shape := ⟨2, ![4096, 2048]⟩
abbrev S2048x3584 : Shape := ⟨2, ![2048, 3584]⟩
abbrev S1x2048x3584 : Shape := ⟨3, ![1, 2048, 3584]⟩
abbrev S1x4096x3584 : Shape := ⟨3, ![1, 4096, 3584]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3584, .bf16⟩
  | .hbm, ⟨2, _⟩ => ⟨S1x2048x3584, .bf16⟩
  | .hbm, ⟨3, _⟩ => ⟨S1x4096x3584, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .f32⟩
  | .local _ .vmem, ⟨5, _⟩ => ⟨S1x2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 7], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference12Ideal.lean ====
abbrev S4096x2048 : Shape := ⟨2, ![4096, 2048]⟩
abbrev S2048x3584 : Shape := ⟨2, ![2048, 3584]⟩
abbrev S4096x3584 : Shape := ⟨2, ![4096, 3584]⟩
abbrev S1x4096x3584 : Shape := ⟨3, ![1, 4096, 3584]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3584, .bf16⟩
  | .hbm, ⟨2, _⟩ => ⟨S4096x2048, .f32⟩
  | .hbm, ⟨3, _⟩ => ⟨S2048x3584, .f32⟩
  | .hbm, ⟨4, _⟩ => ⟨S4096x3584, .f32⟩
  | .hbm, ⟨5, _⟩ => ⟨S1x4096x3584, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩
abbrev S64x8x2048 : Shape := ⟨3, ![64, 8, 2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v42 : BitVec 1 := Scalar.cmpi .eq arg0 c7_i32
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel15.lean ====
abbrev S4096x2048 : Shape := ⟨2, ![4096, 2048]⟩
abbrev S2048 : Shape := ⟨1, ![2048]⟩
abbrev S1x2048 : Shape := ⟨2, ![1, 2048]⟩
abbrev S2048x4096 : Shape := ⟨2, ![2048, 4096]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .hbm, ⟨4, _⟩ => ⟨S2048x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x4096 : Shape := ⟨2, ![2048, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel16.lean ====
abbrev S4096x2048 : Shape := ⟨2, ![4096, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩
abbrev S1 : Shape := ⟨1, ![1]⟩
abbrev S32x8x2048 : Shape := ⟨3, ![32, 8, 2048]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x1, .f32⟩
  | .local _ .vmem, ⟨11, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v58 : BitVec 1 := Scalar.cmpi .eq arg0 c15_i32
  let v59 : BitVec 32 := Scalar.extui v58
  let c0_i32_28 : BitVec 32 := 0#32
  let v60 : BitVec 1 := Scalar.cmpi .ne v59 c0_i32_28
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference16Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | .hbm, ⟨72, _⟩ => ⟨S1x2048, .f32⟩
  | .hbm, ⟨73, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel17.lean ====
abbrev S4096x3584 : Shape := ⟨2, ![4096, 3584]⟩
abbrev S512 : Shape := ⟨1, ![512]⟩
abbrev S8x128x128 : Shape := ⟨3, ![8, 128, 128]⟩
abbrev S8x128 : Shape := ⟨2, ![8, 128]⟩
abbrev S1x512 : Shape := ⟨2, ![1, 512]⟩
abbrev S128x8 : Shape := ⟨2, ![128, 8]⟩
abbrev S128x8x64 : Shape := ⟨3, ![128, 8, 64]⟩
abbrev S128x512 : Shape := ⟨2, ![128, 512]⟩
abbrev S4096x512 : Shape := ⟨2, ![4096, 512]⟩
abbrev S256x512 : Shape := ⟨2, ![256, 512]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩

abbrev nBuf : Space → Nat
  | .hbm => 11
  | .vmem => 10
  | .smem => 0
  | _ => 0

abbrev bufTy : (tb : Table) → Fin (tcTables nBuf tb) → BufTy
  | .hbm, ⟨0, _⟩ => ⟨S4096x3584, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S1x512, .f32⟩
  | .hbm, ⟨6, _⟩ => ⟨S1x512, .f32⟩
  | .hbm, ⟨7, _⟩ => ⟨S128x8, .f32⟩
  | .hbm, ⟨8, _⟩ => ⟨S128x8x64, .f32⟩
  | .hbm, ⟨9, _⟩ => ⟨S128x512, .f32⟩
  | .hbm, ⟨10, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S128x512, .f32⟩
  | .local _ .vmem, ⟨8, _⟩ => ⟨S256x512, .bf16⟩
  | .local _ .vmem, ⟨9, _⟩ => ⟨S256x512, .bf16⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4096x3584 : Shape := ⟨2, ![4096, 3584]⟩
abbrev S512 : Shape := ⟨1, ![512]⟩
abbrev S8x128x128 : Shape := ⟨3, ![8, 128, 128]⟩
abbrev S8x128 : Shape := ⟨2, ![8, 128]⟩
abbrev S4096x1024 : Shape := ⟨2, ![4096, 1024]⟩
abbrev S1x4096x1024 : Shape := ⟨3, ![1, 4096, 1024]⟩
abbrev S1x4096x512 : Shape := ⟨3, ![1, 4096, 512]⟩
abbrev S_ : Shape := ⟨0, ![]⟩
abbrev S1x4096 : Shape := ⟨2, ![1, 4096]⟩
abbrev S1x4096x1 : Shape := ⟨3, ![1, 4096, 1]⟩
abbrev S1x1x512 : Shape := ⟨3, ![1, 1, 512]⟩
abbrev S1x32x128x8x64 : Shape := ⟨5, ![1, 32, 128, 8, 64]⟩
abbrev S128x128 : Shape := ⟨2, ![128, 128]⟩
abbrev S1x128x128 : Shape := ⟨3, ![1, 128, 128]⟩
abbrev S8x1x32x64x128 : Shape := ⟨5, ![8, 1, 32, 64, 128]⟩
abbrev S128x8 : Shape := ⟨2, ![128, 8]⟩
abbrev S1x1x128x8x1 : Shape := ⟨5, ![1, 1, 128, 8, 1]⟩
abbrev S4096x512 : Shape := ⟨2, ![4096, 512]⟩

abbrev nBuf : Space → Nat
  | .hbm => 63
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S4096x1024, .f32⟩
  | .hbm, ⟨6, _⟩ => ⟨S1x4096x1024, .f32⟩
  | .hbm, ⟨7, _⟩ => ⟨S1x4096x512, .f32⟩
  | .hbm, ⟨8, _⟩ => ⟨S1x4096x512, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x512, .f32⟩
  | .hbm, ⟨16, _⟩ => ⟨S1x4096x512, .f32⟩
  | .hbm, ⟨17, _⟩ => ⟨S1x4096x512, .f32⟩
  | .hbm, ⟨18, _⟩ => ⟨S_, .f32⟩
  | .hbm, ⟨19, _⟩ => ⟨S1x4096, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S_, .f32⟩
  | .hbm, ⟨25, _⟩ => ⟨S1x4096x1, .f32⟩
  | .hbm, ⟨26, _⟩ => ⟨S1x4096x1, .f32⟩
  | .hbm, ⟨27, _⟩ => ⟨S1x4096x1, .f32⟩
  | .hbm, ⟨28, _⟩ => ⟨S1x4096x512, .f32⟩
  | .hbm, ⟨29, _⟩ => ⟨S1x4096x512, .f32⟩
  | .hbm, ⟨30, _⟩ => ⟨S1x1x512, .f32⟩
  | .hbm, ⟨31, _⟩ => ⟨S1x4096x512, .f32⟩
  | .hbm, ⟨32, _⟩ => ⟨S1x4096x512, .f32⟩
  | .hbm, ⟨33, _⟩ => ⟨S1x1x512, .f32⟩
  | .hbm, ⟨34, _⟩ => ⟨S1x4096x512, .f32⟩
  | .hbm, ⟨35, _⟩ => ⟨S1x4096x512, .f32⟩
  | .hbm, ⟨36, _⟩ => ⟨S1x32x128x8x64, .f32⟩
  | .hbm, ⟨37, _⟩ => ⟨S_, .i1⟩
  | .hbm, ⟨38, _⟩ => ⟨S128x128, .i1⟩
  | .hbm, ⟨39, _⟩ => ⟨S128x128, .i32⟩
  | .hbm, ⟨40, _⟩ => ⟨S_, .i32⟩
  | .hbm, ⟨41, _⟩ => ⟨S128x128, .i32⟩
  | .hbm, ⟨42, _⟩ => ⟨S128x128, .i32⟩
  | .hbm, ⟨43, _⟩ => ⟨S128x128, .i32⟩
  | .hbm, ⟨44, _⟩ => ⟨S128x128, .i1⟩
  | .hbm, ⟨45, _⟩ => ⟨S_, .i1⟩
  | .hbm, ⟨46, _⟩ => ⟨S128x128, .i1⟩
  | .hbm, ⟨47, _⟩ => ⟨S128x128, .i1⟩
  | .hbm, ⟨48, _⟩ => ⟨S1x128x128, .i1⟩
  | .hbm, ⟨49, _⟩ => ⟨S_, .f32⟩
  | .hbm, ⟨50, _⟩ => ⟨S8x128x128, .f32⟩
  | .hbm, ⟨51, _⟩ => ⟨S8x128x128, .i1⟩
  | .hbm, ⟨52, _⟩ => ⟨S8x128x128, .f32⟩
  | .hbm, ⟨53, _⟩ => ⟨S8x1x32x64x128, .f32⟩
  | .hbm, ⟨54, _⟩ => ⟨S1x32x128x8x64, .f32⟩
  | .hbm, ⟨55, _⟩ => ⟨S128x8, .f32⟩
  | .hbm, ⟨56, _⟩ => ⟨S1x1x128x8x1, .f32⟩
  | .hbm, ⟨57, _⟩ => ⟨S1x32x128x8x64, .f32⟩
  | .hbm, ⟨58, _⟩ => ⟨S1x32x128x8x64, .f32⟩
  | .hbm, ⟨59, _⟩ => ⟨S1x4096x512, .f32⟩
  | .hbm, ⟨60, _⟩ => ⟨S1x4096x512, .f32⟩
  | .hbm, ⟨61, _⟩ => ⟨S4096x512, .f32⟩
  | .hbm, ⟨62, _⟩ => ⟨S4096x512, .bf16⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_0 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_call1_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Kernel18.lean ====
abbrev S4096x3584 : Shape := ⟨2, ![4096, 3584]⟩
abbrev S31x512 : Shape := ⟨2, ![31, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S4096x512 : Shape := ⟨2, ![4096, 512]⟩
abbrev S256x512 : Shape := ⟨2, ![256, 512]⟩
abbrev S288x512 : Shape := ⟨2, ![288, 512]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S4096x3584, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S_, .i32⟩
  | .hbm, ⟨6, _⟩ => ⟨S_, .f32⟩
  | .hbm, ⟨7, _⟩ => ⟨S32x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S4096x512, .bf16⟩
  | .hbm, ⟨12, _⟩ => ⟨S4096x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x512, .bf16⟩
  | .local _ .vmem, ⟨13, _⟩ => ⟨S256x512, .bf16⟩
  | .local _ .vmem, ⟨14, _⟩ => ⟨S256x512, .f32⟩
  | .local _ .vmem, ⟨15, _⟩ => ⟨S256x512, .f32⟩
  | .local _ .vmem, ⟨16, _⟩ => ⟨S288x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference18Ideal.lean ====
abbrev S4096x3584 : Shape := ⟨2, ![4096, 3584]⟩
abbrev S31x512 : Shape := ⟨2, ![31, 512]⟩
abbrev S512 : Shape := ⟨1, ![512]⟩
abbrev S4096x1024 : Shape := ⟨2, ![4096, 1024]⟩
abbrev S1x4096x1024 : Shape := ⟨3, ![1, 4096, 1024]⟩
abbrev S1x4096x512 : Shape := ⟨3, ![1, 4096, 512]⟩
abbrev S_ : Shape := ⟨0, ![]⟩
abbrev S1x4126x512 : Shape := ⟨3, ![1, 4126, 512]⟩
abbrev S1x512 : Shape := ⟨2, ![1, 512]⟩
abbrev S1x1x512 : Shape := ⟨3, ![1, 1, 512]⟩
abbrev S1x4096 : Shape := ⟨2, ![1, 4096]⟩
abbrev S1x4096x1 : Shape := ⟨3, ![1, 4096, 1]⟩
abbrev S4096x512 : Shape := ⟨2, ![4096, 512]⟩

abbrev nBuf : Space → Nat
  | .hbm => 282
  | .vmem => 0
  | .smem => 0
  | _ => 0

abbrev hbmTy0_0 (i : Nat) : BufTy := match i % 128 with
  | 0 => ⟨S4096x3584, .f32⟩
  | 1 => ⟨S31x512, .f32⟩
  | 2 => ⟨S512, .f32⟩
  | 3 => ⟨S512, .f32⟩
  | 4 => ⟨S512, .f32⟩
  | 5 => ⟨S4096x1024, .f32⟩
  | 6 => ⟨S1x4096x1024, .f32⟩
  | 7 => ⟨S1x4096x512, .f32⟩
  | 8 => ⟨S1x4096x512, .f32⟩
  | 9 => ⟨S1x4096x512, .f32⟩
  | 10 => ⟨S1x4096x512, .f32⟩
  | 11 => ⟨S_, .f32⟩
  | 12 => ⟨S1x4096x512, .f32⟩
  | 13 => ⟨S1x4096x512, .f32⟩
  | 14 => ⟨S_, .f32⟩
  | 15 => ⟨S1x4096x512, .f32⟩
  | 16 => ⟨S1x4096x512, .f32⟩
  | 17 => ⟨S1x4096x512, .f32⟩
  | 18 => ⟨S_, .i32⟩
  | 19 => ⟨S_, .f32⟩
  | 20 => ⟨S1x4126x512, .f32⟩
  | 21 => ⟨S1x4096x512, .f32⟩
  | 22 => ⟨S1x512, .f32⟩
  | 23 => ⟨S512, .f32⟩
  | 24 => ⟨S1x1x512, .f32⟩
  | 25 => ⟨S1x4096x512, .f32⟩
  | 26 => ⟨S1x4096x512, .f32⟩
  | 27 => ⟨S_, .f32⟩
  | 28 => ⟨S1x4096x512, .f32⟩
  | 29 => ⟨S1x4096x512, .f32⟩
  | 30 => ⟨S1x4096x512, .f32⟩
  | 31 => ⟨S1x512, .f32⟩
  | 32 => ⟨S512, .f32⟩
  | 33 => ⟨S1x1x512, .f32⟩
  | 34 => ⟨S1x4096x512, .f32⟩
  | 35 => ⟨S1x4096x512, .f32⟩
  | 36 => ⟨S1x4096x512, .f32⟩
  | 37 => ⟨S1x4096x512, .f32⟩
  | 38 => ⟨S1x512, .f32⟩
  | 39 => ⟨S512, .f32⟩
  | 40 => ⟨S1x1x512, .f32⟩
  | 41 => ⟨S1x4096x512, .f32⟩
  | 42 => ⟨S1x4096x512, .f32⟩
  | 43 => ⟨S1x4096x512, .f32⟩
  | 44 => ⟨S1x4096x512, .f32⟩
  | 45 => ⟨S1x512, .f32⟩
  | 46 => ⟨S512, .f32⟩
  | 47 => ⟨S1x1x512, .f32⟩
  | 48 => ⟨S1x4096x512, .f32⟩
  | 49 => ⟨S1x4096x512, .f32⟩
  | 50 => ⟨S1x4096x512, .f32⟩
  | 51 => ⟨S1x4096x512, .f32⟩
  | 52 => ⟨S1x512, .f32⟩
  | 53 => ⟨S512, .f32⟩
  | 54 => ⟨S1x1x512, .f32⟩
  | 55 => ⟨S1x4096x512, .f32⟩
  | 56 => ⟨S1x4096x512, .f32⟩
  | 57 => ⟨S1x4096x512, .f32⟩
  | 58 => ⟨S1x4096x512, .f32⟩
  | 59 => ⟨S1x512, .f32⟩
  | 60 => ⟨S512, .f32⟩
  | 61 => ⟨S1x1x512, .f32⟩
  | 62 => ⟨S1x4096x512, .f32⟩
  | 63 => ⟨S1x4096x512, .f32⟩
  | 64 => ⟨S1x4096x512, .f32⟩
  | 65 => ⟨S1x4096x512, .f32⟩
  | 66 => ⟨S1x512, .f32⟩
  | 67 => ⟨S512, .f32⟩
  | 68 => ⟨S1x1x512, .f32⟩
  | 69 => ⟨S1x4096x512, .f32⟩
  | 70 => ⟨S1x4096x512, .f32⟩
  | 71 => ⟨S1x4096x512, .f32⟩
  | 72 => ⟨S1x4096x512, .f32⟩
  | 73 => ⟨S1x512, .f32⟩
  | 74 => ⟨S512, .f32⟩
  | 75 => ⟨S1x1x512, .f32⟩
  | 76 => ⟨S1x4096x512, .f32⟩
  | 77 => ⟨S1x4096x512, .f32⟩
  | 78 => ⟨S1x4096x512, .f32⟩
  | 79 => ⟨S1x4096x512, .f32⟩
  | 80 => ⟨S1x512, .f32⟩
  | 81 => ⟨S512, .f32⟩
  | 82 => ⟨S1x1x512, .f32⟩
  | 83 => ⟨S1x4096x512, .f32⟩
  | 84 => ⟨S1x4096x512, .f32⟩
  | 85 => ⟨S1x4096x512, .f32⟩
  | 86 => ⟨S1x4096x512, .f32⟩
  | 87 => ⟨S1x512, .f32⟩
  | 88 => ⟨S512, .f32⟩
  | 89 => ⟨S1x1x512, .f32⟩
  | 90 => ⟨S1x4096x512, .f32⟩
  | 91 => ⟨S1x4096x512, .f32⟩
  | 92 => ⟨S1x4096x512, .f32⟩
  | 93 => ⟨S1x4096x512, .f32⟩
  | 94 => ⟨S1x512, .f32⟩
  | 95 => ⟨S512, .f32⟩
  | 96 => ⟨S1x1x512, .f32⟩
  | 97 => ⟨S1x4096x512, .f32⟩
  | 98 => ⟨S1x4096x512, .f32⟩
  | 99 => ⟨S1x4096x512, .f32⟩
  | 100 => ⟨S1x4096x512, .f32⟩
  | 101 => ⟨S1x512, .f32⟩
  | 102 => ⟨S512, .f32⟩
  | 103 => ⟨S1x1x512, .f32⟩
  | 104 => ⟨S1x4096x512, .f32⟩
  | 105 => ⟨S1x4096x512, .f32⟩
  | 106 => ⟨S1x4096x512, .f32⟩
  | 107 => ⟨S1x4096x512, .f32⟩
  | 108 => ⟨S1x512, .f32⟩
  | 109 => ⟨S512, .f32⟩
  | 110 => ⟨S1x1x512, .f32⟩
  | 111 => ⟨S1x4096x512, .f32⟩
  | 112 => ⟨S1x4096x512, .f32⟩
  | 113 => ⟨S1x4096x512, .f32⟩
  | 114 => ⟨S1x4096x512, .f32⟩
  | 115 => ⟨S1x512, .f32⟩
  | 116 => ⟨S512, .f32⟩
  | 117 => ⟨S1x1x512, .f32⟩
  | 118 => ⟨S1x4096x512, .f32⟩
  | 119 => ⟨S1x4096x512, .f32⟩
  | 120 => ⟨S1x4096x512, .f32⟩
  | 121 => ⟨S1x4096x512, .f32⟩
  | 122 => ⟨S1x512, .f32⟩
  | 123 => ⟨S512, .f32⟩
  | 124 => ⟨S1x1x512, .f32⟩
  | 125 => ⟨S1x4096x512, .f32⟩
  | 126 => ⟨S1x4096x512, .f32⟩
  | 127 => ⟨S1x4096x512, .f32⟩
  | _ => ⟨S4096x3584, .f32⟩

abbrev hbmTy0_1 (i : Nat) : BufTy := match i % 128 with
  | 0 => ⟨S1x4096x512, .f32⟩
  | 1 => ⟨S1x512, .f32⟩
  | 2 => ⟨S512, .f32⟩
  | 3 => ⟨S1x1x512, .f32⟩
  | 4 => ⟨S1x4096x512, .f32⟩
  | 5 => ⟨S1x4096x512, .f32⟩
  | 6 => ⟨S1x4096x512, .f32⟩
  | 7 => ⟨S1x4096x512, .f32⟩
  | 8 => ⟨S1x512, .f32⟩
  | 9 => ⟨S512, .f32⟩
  | 10 => ⟨S1x1x512, .f32⟩
  | 11 => ⟨S1x4096x512, .f32⟩
  | 12 => ⟨S1x4096x512, .f32⟩
  | 13 => ⟨S1x4096x512, .f32⟩
  | 14 => ⟨S1x4096x512, .f32⟩
  | 15 => ⟨S1x512, .f32⟩
  | 16 => ⟨S512, .f32⟩
  | 17 => ⟨S1x1x512, .f32⟩
  | 18 => ⟨S1x4096x512, .f32⟩
  | 19 => ⟨S1x4096x512, .f32⟩
  | 20 => ⟨S1x4096x512, .f32⟩
  | 21 => ⟨S1x4096x512, .f32⟩
  | 22 => ⟨S1x512, .f32⟩
  | 23 => ⟨S512, .f32⟩
  | 24 => ⟨S1x1x512, .f32⟩
  | 25 => ⟨S1x4096x512, .f32⟩
  | 26 => ⟨S1x4096x512, .f32⟩
  | 27 => ⟨S1x4096x512, .f32⟩
  | 28 => ⟨S1x4096x512, .f32⟩
  | 29 => ⟨S1x512, .f32⟩
  | 30 => ⟨S512, .f32⟩
  | 31 => ⟨S1x1x512, .f32⟩
  | 32 => ⟨S1x4096x512, .f32⟩
  | 33 => ⟨S1x4096x512, .f32⟩
  | 34 => ⟨S1x4096x512, .f32⟩
  | 35 => ⟨S1x4096x512, .f32⟩
  | 36 => ⟨S1x512, .f32⟩
  | 37 => ⟨S512, .f32⟩
  | 38 => ⟨S1x1x512, .f32⟩
  | 39 => ⟨S1x4096x512, .f32⟩
  | 40 => ⟨S1x4096x512, .f32⟩
  | 41 => ⟨S1x4096x512, .f32⟩
  | 42 => ⟨S1x4096x512, .f32⟩
  | 43 => ⟨S1x512, .f32⟩
  | 44 => ⟨S512, .f32⟩
  | 45 => ⟨S1x1x512, .f32⟩
  | 46 => ⟨S1x4096x512, .f32⟩
  | 47 => ⟨S1x4096x512, .f32⟩
  | 48 => ⟨S1x4096x512, .f32⟩
  | 49 => ⟨S1x4096x512, .f32⟩
  | 50 => ⟨S1x512, .f32⟩
  | 51 => ⟨S512, .f32⟩
  | 52 => ⟨S1x1x512, .f32⟩
  | 53 => ⟨S1x4096x512, .f32⟩
  | 54 => ⟨S1x4096x512, .f32⟩
  | 55 => ⟨S1x4096x512, .f32⟩
  | 56 => ⟨S1x4096x512, .f32⟩
  | 57 => ⟨S1x512, .f32⟩
  | 58 => ⟨S512, .f32⟩
  | 59 => ⟨S1x1x512, .f32⟩
  | 60 => ⟨S1x4096x512, .f32⟩
  | 61 => ⟨S1x4096x512, .f32⟩
  | 62 => ⟨S1x4096x512, .f32⟩
  | 63 => ⟨S1x4096x512, .f32⟩
  | 64 => ⟨S1x512, .f32⟩
  | 65 => ⟨S512, .f32⟩
  | 66 => ⟨S1x1x512, .f32⟩
  | 67 => ⟨S1x4096x512, .f32⟩
  | 68 => ⟨S1x4096x512, .f32⟩
  | 69 => ⟨S1x4096x512, .f32⟩
  | 70 => ⟨S1x4096x512, .f32⟩
  | 71 => ⟨S1x512, .f32⟩
  | 72 => ⟨S512, .f32⟩
  | 73 => ⟨S1x1x512, .f32⟩
  | 74 => ⟨S1x4096x512, .f32⟩
  | 75 => ⟨S1x4096x512, .f32⟩
  | 76 => ⟨S1x4096x512, .f32⟩
  | 77 => ⟨S1x4096x512, .f32⟩
  | 78 => ⟨S1x512, .f32⟩
  | 79 => ⟨S512, .f32⟩
  | 80 => ⟨S1x1x512, .f32⟩
  | 81 => ⟨S1x4096x512, .f32⟩
  | 82 => ⟨S1x4096x512, .f32⟩
  | 83 => ⟨S1x4096x512, .f32⟩
  | 84 => ⟨S1x4096x512, .f32⟩
  | 85 => ⟨S1x512, .f32⟩
  | 86 => ⟨S512, .f32⟩
  | 87 => ⟨S1x1x512, .f32⟩
  | 88 => ⟨S1x4096x512, .f32⟩
  | 89 => ⟨S1x4096x512, .f32⟩
  | 90 => ⟨S1x4096x512, .f32⟩
  | 91 => ⟨S1x4096x512, .f32⟩
  | 92 => ⟨S1x512, .f32⟩
  | 93 => ⟨S512, .f32⟩
  | 94 => ⟨S1x1x512, .f32⟩
  | 95 => ⟨S1x4096x512, .f32⟩
  | 96 => ⟨S1x4096x512, .f32⟩
  | 97 => ⟨S1x4096x512, .f32⟩
  | 98 => ⟨S1x4096x512, .f32⟩
  | 99 => ⟨S1x512, .f32⟩
  | 100 => ⟨S512, .f32⟩
  | 101 => ⟨S1x1x512, .f32⟩
  | 102 => ⟨S1x4096x512, .f32⟩
  | 103 => ⟨S1x4096x512, .f32⟩
  | 104 => ⟨S1x4096x512, .f32⟩
  | 105 => ⟨S1x4096x512, .f32⟩
  | 106 => ⟨S1x512, .f32⟩
  | 107 => ⟨S512, .f32⟩
  | 108 => ⟨S1x1x512, .f32⟩
  | 109 => ⟨S1x4096x512, .f32⟩
  | 110 => ⟨S1x4096x512, .f32⟩
  | 111 => ⟨S1x4096x512, .f32⟩
  | 112 => ⟨S1x1x512, .f32⟩
  | 113 => ⟨S1x4096x512, .f32⟩
  | 114 => ⟨S1x4096x512, .f32⟩
  | 115 => ⟨S_, .f32⟩
  | 116 => ⟨S1x4096, .f32⟩
  | 117 => ⟨S1x4096x1, .f32⟩
  | 118 => ⟨S_, .f32⟩
  | 119 => ⟨S1x4096x1, .f32⟩
  | 120 => ⟨S1x4096x1, .f32⟩
  | 121 => ⟨S1x4096x512, .f32⟩
  | 122 => ⟨S1x4096x512, .f32⟩
  | 123 => ⟨S1x4096x512, .f32⟩
  | 124 => ⟨S_, .f32⟩
  | 125 => ⟨S1x4096, .f32⟩
  | 126 => ⟨S1x4096x1, .f32⟩
  | 127 => ⟨S_, .f32⟩
  | _ => ⟨S4096x3584, .f32⟩

abbrev hbmTy0_2 (i : Nat) : BufTy := match i % 128 with
  | 0 => ⟨S1x4096x1, .f32⟩
  | 1 => ⟨S1x4096x1, .f32⟩
  | 2 => ⟨S_, .f32⟩
  | 3 => ⟨S1x4096x1, .f32⟩
  | 4 => ⟨S1x4096x1, .f32⟩
  | 5 => ⟨S1x4096x1, .f32⟩
  | 6 => ⟨S1x4096x512, .f32⟩
  | 7 => ⟨S1x4096x512, .f32⟩
  | 8 => ⟨S1x1x512, .f32⟩
  | 9 => ⟨S1x4096x512, .f32⟩
  | 10 => ⟨S1x4096x512, .f32⟩
  | 11 => ⟨S1x1x512, .f32⟩
  | 12 => ⟨S1x4096x512, .f32⟩
  | 13 => ⟨S1x4096x512, .f32⟩
  | 14 => ⟨S1x4096x512, .f32⟩
  | 15 => ⟨S1x4096x512, .f32⟩
  | 16 => ⟨S_, .f32⟩
  | 17 => ⟨S1x4096x512, .f32⟩
  | 18 => ⟨S1x4096x512, .f32⟩
  | 19 => ⟨S_, .f32⟩
  | 20 => ⟨S1x4096x512, .f32⟩
  | 21 => ⟨S1x4096x512, .f32⟩
  | 22 => ⟨S1x4096x512, .f32⟩
  | 23 => ⟨S4096x512, .f32⟩
  | 24 => ⟨S4096x512, .bf16⟩
  | 25 => ⟨S4096x512, .f32⟩
  | _ => ⟨S4096x3584, .f32⟩

abbrev hbmTy (i : Nat) : BufTy := match i / 128 with
  | 0 => hbmTy0_0 i
  | 1 => hbmTy0_1 i
  | 2 => hbmTy0_2 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_2 : Ref sig .tc := ⟨.hbm, 243, rfl⟩
abbrev main_v233 : Ref sig .tc := ⟨.hbm, 244, rfl⟩
abbrev main_v234 : Ref sig .tc := ⟨.hbm, 245, rfl⟩
abbrev main_cst_3 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_4 : Ref sig .tc := ⟨.hbm, 252, rfl⟩
abbrev main_v240 : Ref sig .tc := ⟨.hbm, 253, rfl⟩
abbrev main_v241 : Ref sig .tc := ⟨.hbm, 254, rfl⟩
abbrev main_cst_5 : Ref sig .tc := ⟨.hbm, 255, rfl⟩
abbrev main_v242 : Ref sig .tc := ⟨.hbm, 256, rfl⟩
abbrev main_v243 : Ref sig .tc := ⟨.hbm, 257, rfl⟩
abbrev main_cst_6 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_call1_v0 : Ref sig .tc := ⟨.hbm, 270, rfl⟩
abbrev main_call1_v1 : Ref sig .tc := ⟨.hbm, 271, rfl⟩
abbrev main_call1_cst : Ref sig .tc := ⟨.hbm, 272, rfl⟩
abbrev main_call1_v2 : Ref sig .tc := ⟨.hbm, 273, rfl⟩
abbrev main_call1_v3 : Ref sig .tc := ⟨.hbm, 274, rfl⟩
abbrev main_call1_cst_0 : Ref sig .tc := ⟨.hbm, 275, rfl⟩
abbrev main_call1_v4 : Ref sig .tc := ⟨.hbm, 276, rfl⟩
abbrev main_call1_v5 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩

abbrev nD : Nat := 1
abbrev τ : Topo := Topo.v7x

variable {F : FTy → Type} [FloatOps F]
-- ==== Proof.SguMath.lean ====
/- The mathematics of the spatial gating unit's gradient, over the extended reals, on one row or one chunk of 128 rows:
   both programs are read as these functions. -/
module

public import Idealize.ShloMosaic.Lib.Pointwise
public import Idealize.ShloMosaic.PureOps.Ideal.Laws

@[expose] public section

set_option maxRecDepth 16384

noncomputable section

open Idealize.ShloMosaic

namespace Cert.Sgu

/-- The width 512 of a row, as the programs' literal word. -/
def c512 : EReal := Ideal.ofBits .f32 0x44000000#32

/-- The stabiliser 1e-5 of the normalisation, as the programs' literal word. -/
def eps : EReal := Ideal.ofBits .f32 0x3727C5AC#32

/-- The mean of a row. -/
def mean (x : Fin 512 → EReal) : EReal := Ideal.div (∑ k, x k) c512

/-- A row less its mean. -/
def cen (x : Fin 512 → EReal) (k : Fin 512) : EReal := x k - mean x

/-- One over the row's standard deviation. -/
def rstd (x : Fin 512 → EReal) : EReal := Ideal.rsqrt (Ideal.div (∑ k, cen x k * cen x k) c512 + eps)

/-- The normalised row. -/
def yh (x : Fin 512 → EReal) (k : Fin 512) : EReal := cen x k * rstd x

/-- The normalised row, scaled and shifted. -/
def vn (g b x : Fin 512 → EReal) (k : Fin 512) : EReal := yh x k * g k + b k

/-- The head a channel belongs to. -/
def hd (c : Fin 512) : Fin 8 := ⟨c.val / 64, by omega⟩

/-- Channel `k` of head `h`. -/
def col (h : Fin 8) (k : Fin 64) : Fin 512 := ⟨64 * h.val + k.val, by omega⟩

/-- The causal part of a head's mixing matrix. -/
def tri (w : Fin 8 → Fin 128 → Fin 128 → EReal) (h : Fin 8) (t s : Fin 128) : EReal := if s.val ≤ t.val then w h t s else 0

/-- The mixed chunk: the causal product along the chunk's rows, and the bias. -/
def mix (w : Fin 8 → Fin 128 → Fin 128 → EReal) (bias : Fin 8 → Fin 128 → EReal) (v : Fin 128 → Fin 512 → EReal)
    (t : Fin 128) (c : Fin 512) : EReal := (∑ s, tri w (hd c) t s * v s c) + bias (hd c) t

/-- The gradient of the chunk's normalised rows: the transposed causal product of the gradient `d` of the mixed chunk. -/
def dv (w : Fin 8 → Fin 128 → Fin 128 → EReal) (d : Fin 128 → Fin 512 → EReal) (s : Fin 128) (c : Fin 512) : EReal :=
  ∑ t, tri w (hd c) t s * d t c

/-- The product over a head's channels of the mixed chunk's gradient with the chunk. -/
def dwf (d v : Fin 128 → Fin 512 → EReal) (h : Fin 8) (t s : Fin 128) : EReal := ∑ k, d t (col h k) * v s (col h k)

/-- The gradient of a row through the normalisation, `y` the gradient of the normalised scaled row. -/
def dln (g x y : Fin 512 → EReal) (k : Fin 512) : EReal :=
  rstd x * ((y k * g k - mean fun l => y l * g l) - yh x k * mean fun l => (y l * g l) * yh x l)

end Cert.Sgu

end
-- ==== Proof.SguCore.lean ====
/- The block-level functions of the kernel's point, and the sums of its masked tiles. -/
module

public import proofs.«01_k».proof.Proof.SguMath
public import proofs.«01_k».proof.Proof.Gen.KernelIdeal.Value
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.KernelIdeal.SguCore

open Cert.KernelIdeal Cert.KernelIdeal.Gen Cert.Sgu

open Cert.KernelIdeal.Value

variable (m : (ℓ : Loc nD τ sig) → Buf (Elt Ideal) ℓ)

/-- A last piece whose index the earlier pieces cover leaves no trace. -/
theorem canon_drop {Val : EltTy → Type} [∀ e, Nonempty (Val e)] {S : Shape} {e : EltTy} (p : View.Piece Val S e) :
    ∀ (L : List (View.Piece Val S e)) (y : S.Idx), (∃ q ∈ L, y ∈ q.1.set) → View.canon (L ++ [p]) y = View.canon L y
  | [], _, h => by
    obtain ⟨q, hq, _⟩ := h
    exact absurd hq List.not_mem_nil
  | q :: L, y, h => by
    by_cases hy : y ∈ q.1.set
    · obtain ⟨x, rfl⟩ := q.1.exists_idx_of_mem hy
      rw [List.cons_append, show q.1.idx x = q.1.emb x from rfl, View.canon_cons_emb, View.canon_cons_emb]
    · rw [List.cons_append, View.canon_cons_of_not_mem _ _ hy, View.canon_cons_of_not_mem _ _ hy]
      refine canon_drop p L y ?_
      obtain ⟨r, hr, hyr⟩ := h
      rcases List.mem_cons.mp hr with rfl | hr
      · exact absurd hyr hy
      · exact ⟨r, hr, hyr⟩

/-- A piece over the same rectangle hides the one stored before it. -/
theorem canon_shadow {Val : EltTy → Type} [∀ e, Nonempty (Val e)] {S : Shape} {e : EltTy} (r : Rect S) (w w' : r.shape.Idx → Val e)
    (M : List (View.Piece Val S e)) (y : S.Idx) : ∀ L : List (View.Piece Val S e),
    View.canon (L ++ (⟨r, w⟩ : View.Piece Val S e) :: ⟨r, w'⟩ :: M) y = View.canon (L ++ (⟨r, w⟩ : View.Piece Val S e) :: M) y
  | [] => by
    by_cases hy : y ∈ r.set
    · obtain ⟨x, rfl⟩ := r.exists_idx_of_mem hy
      rw [show r.idx x = r.emb x from rfl, List.nil_append, List.nil_append, View.canon_cons_emb, View.canon_cons_emb]
    · rw [List.nil_append, List.nil_append, View.canon_cons_of_not_mem (⟨r, w⟩ : View.Piece Val S e) _ hy,
        View.canon_cons_of_not_mem (⟨r, w'⟩ : View.Piece Val S e) _ hy, View.canon_cons_of_not_mem (⟨r, w⟩ : View.Piece Val S e) _ hy]
  | q :: L => by
    by_cases hy : y ∈ q.1.set
    · obtain ⟨x, rfl⟩ := q.1.exists_idx_of_mem hy
      rw [List.cons_append, List.cons_append, show q.1.idx x = q.1.emb x from rfl, View.canon_cons_emb, View.canon_cons_emb]
    · rw [List.cons_append, List.cons_append, View.canon_cons_of_not_mem _ _ hy, View.canon_cons_of_not_mem _ _ hy]
      exact canon_shadow r w w' M y L

/-- A sum over 128 lanes is the sums over its two halves. -/
theorem sum_halves (F : Fin 128 → EReal) : ∑ l, F l = (∑ k : Fin 64, F ⟨k.val, by omega⟩) + ∑ k : Fin 64, F ⟨64 + k.val, by omega⟩ := by
  rw [← Fin.sum_congr' F (show 64 + 64 = 128 from rfl), Fin.sum_univ_add]
  rfl

/-- The lane mask on the lower half. -/
theorem slt_lo (k : Fin 64) : IntOp.cmpi .slt (BitVec.ofNat 32 k.val) 64#32 = 1#1 := by
  rw [WordCmp.cmpi_slt_ofNat (by omega) (by norm_num), decide_eq_true (by omega)]
  rfl

/-- The lane mask on the upper half. -/
theorem slt_hi (k : Fin 64) : IntOp.cmpi .slt (BitVec.ofNat 32 (64 + k.val)) 64#32 = 0#1 := by
  rw [WordCmp.cmpi_slt_ofNat (by omega) (by norm_num), decide_eq_false (by omega)]
  rfl

/-- A sum over 128 lanes, the upper half masked to zero. -/
theorem lane_lo (f : Fin 128 → EReal) :
    ∑ l : Fin 128, Scalar.select (IntOp.cmpi .slt (BitVec.ofNat 32 l.val) 64#32) (f l) 0 = ∑ k : Fin 64, f ⟨k.val, by omega⟩ := by
  rw [sum_halves]
  refine (congrArg₂ (· + ·) (Finset.sum_congr rfl fun k _ => ?_) (Finset.sum_eq_zero fun k _ => ?_)).trans (add_zero _)
  · show Scalar.select (IntOp.cmpi .slt (BitVec.ofNat 32 k.val) 64#32) (f ⟨k.val, _⟩) (0 : EReal) = _
    rw [slt_lo]; rfl
  · show Scalar.select (IntOp.cmpi .slt (BitVec.ofNat 32 (64 + k.val)) 64#32) _ (0 : EReal) = 0
    rw [slt_hi]; rfl

/-- A sum over 128 lanes, the lower half masked to zero. -/
theorem lane_hi (f : Fin 128 → EReal) :
    ∑ l : Fin 128, Scalar.select (IntOp.cmpi .slt (BitVec.ofNat 32 l.val) 64#32) 0 (f l) = ∑ k : Fin 64, f ⟨64 + k.val, by omega⟩ := by
  rw [sum_halves]
  refine (congrArg₂ (· + ·) (Finset.sum_eq_zero fun k _ => ?_) (Finset.sum_congr rfl fun k _ => ?_)).trans (zero_add _)
  · show Scalar.select (IntOp.cmpi .slt (BitVec.ofNat 32 k.val) 64#32) (0 : EReal) _ = 0
    rw [slt_lo]; rfl
  · show Scalar.select (IntOp.cmpi .slt (BitVec.ofNat 32 (64 + k.val)) 64#32) (0 : EReal) (f ⟨64 + k.val, _⟩) = _
    rw [slt_hi]; rfl

/-- The causal mask of a tile's sum, as a condition on the row and the column. -/
theorem mask_eq (a b : Fin 128) (x y : EReal) (h : x = y) :
    Scalar.select (IntOp.cmpi .sge (BitVec.ofNat 32 a.val) (BitVec.ofNat 32 b.val)) x 0 = if b.val ≤ a.val then y else 0 := by
  rw [WordCmp.cmpi_sge_ofNat (by omega) (by omega), h]
  by_cases hab : b.val ≤ a.val
  · rw [if_pos hab, decide_eq_true hab]; rfl
  · rw [if_neg hab, decide_eq_false hab]; rfl

/-- Row `a` of a block's first chunk. -/
def lo (a : Fin 128) : Fin 256 := ⟨a.val, by omega⟩

/-- Row `a` of a block's second chunk. -/
def hi (a : Fin 128) : Fin 256 := ⟨128 + a.val, by omega⟩

/-- What one block adds to the mixing matrices' gradient. -/
def dwpt (D U : FVec Ideal S256x512 .f32) (W : FVec Ideal S256x512 .bf16) (h : Fin 8) (a b : Fin 128) : EReal :=
  if b.val ≤ a.val then
    (∑ k : Fin 64, D (ix2 (lo a) (col h k)) * U (ix2 (lo a) (col h k)) * W (ix2 (lo b) (col h k)))
      + ∑ k : Fin 64, D (ix2 (hi a) (col h k)) * U (ix2 (hi a) (col h k)) * W (ix2 (hi b) (col h k))
  else 0

/-- A lower head's tile of the mixing matrices' gradient, as the tile's own sums. -/
theorem close_lo (A : FVec Ideal S8x128x128 .f32) (D U : FVec Ideal S256x512 .f32) (W : FVec Ideal S256x512 .bf16) (h z : Fin 8) (a b : Fin 128)
    (q : Fin 128 → Fin 512) (hq : ∀ k : Fin 64, (q ⟨k.val, by omega⟩).val = 64 * h.val + k.val) (hz : z.val = h.val) :
    A (ix3 z a b) + Scalar.select (IntOp.cmpi .sge (BitVec.ofNat 32 a.val) (BitVec.ofNat 32 b.val))
      ((∑ l : Fin 128, Scalar.select (IntOp.cmpi .slt (BitVec.ofNat 32 l.val) 64#32) (D (ix2 (lo a) (q l)) * U (ix2 (lo a) (q l)) * W (ix2 (lo b) (q l))) 0)
        + ∑ l : Fin 128, Scalar.select (IntOp.cmpi .slt (BitVec.ofNat 32 l.val) 64#32) (D (ix2 (hi a) (q l)) * U (ix2 (hi a) (q l)) * W (ix2 (hi b) (q l))) 0) 0
    = A (ix3 h a b) + dwpt D U W h a b := by
  rw [Fin.ext hz, lane_lo, lane_lo, mask_eq a b _ _ rfl, dwpt]
  simp only [show ∀ k : Fin 64, q ⟨k.val, by omega⟩ = col h k from fun k => Fin.ext (hq k)]

/-- An upper head's tile of the mixing matrices' gradient, as the tile's own sums. -/
theorem close_hi (A : FVec Ideal S8x128x128 .f32) (D U : FVec Ideal S256x512 .f32) (W : FVec Ideal S256x512 .bf16) (h z : Fin 8) (a b : Fin 128)
    (q : Fin 128 → Fin 512) (hq : ∀ k : Fin 64, (q ⟨64 + k.val, by omega⟩).val = 64 * h.val + k.val) (hz : z.val = h.val) :
    A (ix3 z a b) + Scalar.select (IntOp.cmpi .sge (BitVec.ofNat 32 a.val) (BitVec.ofNat 32 b.val))
      ((∑ l : Fin 128, Scalar.select (IntOp.cmpi .slt (BitVec.ofNat 32 l.val) 64#32) 0 (D (ix2 (lo a) (q l)) * U (ix2 (lo a) (q l)) * W (ix2 (lo b) (q l))))
        + ∑ l : Fin 128, Scalar.select (IntOp.cmpi .slt (BitVec.ofNat 32 l.val) 64#32) 0 (D (ix2 (hi a) (q l)) * U (ix2 (hi a) (q l)) * W (ix2 (hi b) (q l)))) 0
    = A (ix3 h a b) + dwpt D U W h a b := by
  rw [Fin.ext hz, lane_hi, lane_hi, mask_eq a b _ _ rfl, dwpt]
  simp only [show ∀ k : Fin 64, q ⟨64 + k.val, by omega⟩ = col h k from fun k => Fin.ext (hq k)]

/-- Row `s` of the chunk of a block that holds row `r`. -/
def mate (r : Fin 256) (s : Fin 128) : Fin 256 := ⟨128 * (r.val / 128) + s.val, by omega⟩

/-- The place of a block's row in its chunk. -/
def inch (r : Fin 256) : Fin 128 := ⟨r.val % 128, by omega⟩

/-- The mixed value at a block's row and a channel. -/
def mixB (w : FVec Ideal S8x128x128 .f32) (B : FVec Ideal S128x512 .f32) (W : FVec Ideal S256x512 .bf16) (r : Fin 256) (k : Fin 512) : EReal :=
  (∑ s, (if s.val ≤ (inch r).val then w (ix3 (hd k) (inch r) s) else 0) * W (ix2 (mate r s) k)) + B (ix2 (inch r) k)

/-- The gradient of the normalised rows at a block's row and a channel; `T` holds the transposed mixing matrices. -/
def dvB (T : FVec Ideal S8x128x128 .f32) (D U : FVec Ideal S256x512 .f32) (r : Fin 256) (k : Fin 512) : EReal :=
  ∑ s, (if (inch r).val ≤ s.val then T (ix3 (hd k) (inch r) s) else 0) * (D (ix2 (mate r s) k) * U (ix2 (mate r s) k))

/-- A masked product is the product with the masked factor. -/
theorem mask_mul (a b : Fin 128) (x y : EReal) :
    Scalar.select (IntOp.cmpi .sge (BitVec.ofNat 32 a.val) (BitVec.ofNat 32 b.val)) (x * y) 0 = (if b.val ≤ a.val then x else 0) * y := by
  rw [mask_eq a b _ _ rfl]
  by_cases hab : b.val ≤ a.val
  · rw [if_pos hab, if_pos hab]
  · rw [if_neg hab, if_neg hab, zero_mul]

/-- The lane mask chooses between the two heads of a tile: one function of the head read at the channel's head. -/
theorem lane_head (f : Fin 8 → EReal) (q : Fin 128) (k : Fin 512) (p : ℕ) (z0 z1 : Fin 8) (hk : k.val = 128 * p + q.val)
    (hz0 : z0.val = 2 * p) (hz1 : z1.val = 2 * p + 1) :
    Scalar.select (IntOp.cmpi .slt (BitVec.ofNat 32 q.val) 64#32) (f z0) (f z1) = f (hd k) := by
  by_cases hq : q.val < 64
  · rw [show q.val = (⟨q.val, hq⟩ : Fin 64).val from rfl, slt_lo, show hd k = z0 from Fin.ext (by show k.val / 64 = _; omega)]
    rfl
  · rw [show q.val = 64 + (⟨q.val - 64, by omega⟩ : Fin 64).val from by show q.val = 64 + (q.val - 64); omega, slt_hi,
      show hd k = z1 from Fin.ext (by show k.val / 64 = _; omega)]
    rfl

/-- A tile of the mixed chunk. -/
theorem close_mix (d : EReal) (w : FVec Ideal S8x128x128 .f32) (B : FVec Ideal S128x512 .f32) (W : FVec Ideal S256x512 .bf16) (rows : Fin 128 → Fin 256)
    (r : Fin 256) (a q : Fin 128) (k : Fin 512) (p : ℕ) (z0 z1 : Fin 8) (hk : k.val = 128 * p + q.val) (hz0 : z0.val = 2 * p) (hz1 : z1.val = 2 * p + 1)
    (hr : ∀ s, (rows s).val = 128 * (r.val / 128) + s.val) (ha : a.val = r.val % 128) :
    d * (Scalar.select (IntOp.cmpi .slt (BitVec.ofNat 32 q.val) 64#32)
        (∑ s : Fin 128, Scalar.select (IntOp.cmpi .sge (BitVec.ofNat 32 a.val) (BitVec.ofNat 32 s.val)) (w (ix3 z0 a s) * W (ix2 (rows s) k)) 0)
        (∑ s : Fin 128, Scalar.select (IntOp.cmpi .sge (BitVec.ofNat 32 a.val) (BitVec.ofNat 32 s.val)) (w (ix3 z1 a s) * W (ix2 (rows s) k)) 0)
      + B (ix2 a k)) = d * mixB w B W r k := by
  rw [lane_head (fun z => ∑ s : Fin 128, Scalar.select (IntOp.cmpi .sge (BitVec.ofNat 32 a.val) (BitVec.ofNat 32 s.val)) (w (ix3 z a s) * W (ix2 (rows s) k)) 0)
    q k p z0 z1 hk hz0 hz1, mixB, show inch r = a from Fin.ext ha.symm]
  simp only [mask_mul, show ∀ s, rows s = mate r s from fun s => Fin.ext (hr s)]

/-- A tile of the normalised rows' gradient. -/
theorem close_dv (T : FVec Ideal S8x128x128 .f32) (D U : FVec Ideal S256x512 .f32) (rows : Fin 128 → Fin 256)
    (r : Fin 256) (a q : Fin 128) (k : Fin 512) (p : ℕ) (z0 z1 : Fin 8) (hk : k.val = 128 * p + q.val) (hz0 : z0.val = 2 * p) (hz1 : z1.val = 2 * p + 1)
    (hr : ∀ s, (rows s).val = 128 * (r.val / 128) + s.val) (ha : a.val = r.val % 128) :
    Scalar.select (IntOp.cmpi .slt (BitVec.ofNat 32 q.val) 64#32)
        (∑ s : Fin 128, Scalar.select (IntOp.cmpi .sge (BitVec.ofNat 32 s.val) (BitVec.ofNat 32 a.val)) (T (ix3 z0 a s) * (D (ix2 (rows s) k) * U (ix2 (rows s) k))) 0)
        (∑ s : Fin 128, Scalar.select (IntOp.cmpi .sge (BitVec.ofNat 32 s.val) (BitVec.ofNat 32 a.val)) (T (ix3 z1 a s) * (D (ix2 (rows s) k) * U (ix2 (rows s) k))) 0)
      = dvB T D U r k := by
  rw [lane_head (fun z => ∑ s : Fin 128, Scalar.select (IntOp.cmpi .sge (BitVec.ofNat 32 s.val) (BitVec.ofNat 32 a.val)) (T (ix3 z a s) * (D (ix2 (rows s) k) * U (ix2 (rows s) k))) 0)
    q k p z0 z1 hk hz0 hz1, dvB, show inch r = a from Fin.ext ha.symm]
  simp only [mask_mul, show ∀ s, rows s = mate r s from fun s => Fin.ext (hr s)]

/-- A block's part of the bias gradient before it is folded over the channels. -/
def abpt (A : FVec Ideal S128x512 .f32) (D U : FVec Ideal S256x512 .f32) (a : Fin 128) (k : Fin 512) : EReal :=
  A (ix2 a k) + D (ix2 (lo a) k) * U (ix2 (lo a) k) + D (ix2 (hi a) k) * U (ix2 (hi a) k)

/-- Row `8j + a` of a block. -/
def eighth (j : Fin 32) (a : Fin 8) : Fin 256 := ⟨j.val * 8 + a.val, by omega⟩

/-- Row `r` of a block. -/
def brow (V : FVec Ideal S256x512 .f32) (r : Fin 256) (k : Fin 512) : EReal := V (ix2 r k)

/-- A block's part of the scale's gradient, folded to eight rows. -/
def agpt (T : FVec Ideal S8x128x128 .f32) (D U V : FVec Ideal S256x512 .f32) (a : Fin 8) (k : Fin 512) : EReal :=
  ∑ j : Fin 32, dvB T D U (eighth j a) k * yh (brow V (eighth j a)) k

/-- A block's part of the shift's gradient, folded to eight rows. -/
def abbpt (T : FVec Ideal S8x128x128 .f32) (D U : FVec Ideal S256x512 .f32) (a : Fin 8) (k : Fin 512) : EReal :=
  ∑ j : Fin 32, dvB T D U (eighth j a) k

/-- The block's rows' gradient through the normalisation. -/
def davB (G : FVec Ideal S1x512 .f32) (T : FVec Ideal S8x128x128 .f32) (D U V : FVec Ideal S256x512 .f32) (r : Fin 256) (k : Fin 512) : EReal :=
  dln (fun l => G (ix2 0 l)) (brow V r) (fun l => dvB T D U r l) k

/-- The block of the first result: the gating half's gradient, then the normalised half's. -/
def o8B (G : FVec Ideal S1x512 .f32) (B : FVec Ideal S128x512 .f32) (w T : FVec Ideal S8x128x128 .f32) (D U V : FVec Ideal S256x512 .f32)
    (W : FVec Ideal S256x512 .bf16) (r : Fin 256) (k : Fin 1024) : EReal :=
  if hk : k.val < 512 then D (ix2 r ⟨k.val, hk⟩) * mixB w B W r ⟨k.val, hk⟩ else davB G T D U V r ⟨k.val - 512, by omega⟩

/-- The signed floor quotient by 64 of a channel's word, as the program's selects spell it. -/
theorem head_word : ∀ k : Fin 512,
    Scalar.select
      (IntOp.andi
        (IntOp.cmpi .ne
          (IntOp.subi (BitVec.setWidth 32 (IntOp.cmpi .sgt (BitVec.ofNat 32 k.val) 0#32))
            (BitVec.setWidth 32 (IntOp.cmpi .slt (BitVec.ofNat 32 k.val) 0#32)))
          (Scalar.subi (Scalar.extui (Scalar.cmpi .sgt 64#32 0#32)) (Scalar.extui (Scalar.cmpi .slt 64#32 0#32))))
        (IntOp.cmpi .ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32) = BitVec.ofNat 32 (k.val / 64) := by
  decide +kernel

/-- The fold's mask keeps the channels of one head. -/
theorem fold_mask (k : Fin 512) (z : Fin 128) (x : EReal) :
    Scalar.select
      (IntOp.cmpi .eq
        (Scalar.select
          (IntOp.andi
            (IntOp.cmpi .ne
              (IntOp.subi (BitVec.setWidth 32 (IntOp.cmpi .sgt (BitVec.ofNat 32 k.val) 0#32))
                (BitVec.setWidth 32 (IntOp.cmpi .slt (BitVec.ofNat 32 k.val) 0#32)))
              (Scalar.subi (Scalar.extui (Scalar.cmpi .sgt 64#32 0#32)) (Scalar.extui (Scalar.cmpi .slt 64#32 0#32))))
            (IntOp.cmpi .ne (IntOp.remsi ArithUnit.vector (BitVec.ofNat 32 k.val) 64#32) 0#32))
          (IntOp.subi (IntOp.divsi ArithUnit.vector (BitVec.ofNat 32 k.val) 64#32) 1#32)
          (IntOp.divsi ArithUnit.vector (BitVec.ofNat 32 k.val) 64#32))
        (BitVec.ofNat 32 z.val)) x 0 = if k.val / 64 = z.val then x else 0 := by
  rw [head_word k, WordCmp.cmpi_eq_ofNat (by omega) (by omega)]
  by_cases h : k.val / 64 = z.val
  · rw [if_pos h, decide_eq_true h]; rfl
  · rw [if_neg h, decide_eq_false h]; rfl

end Cert.KernelIdeal.SguCore

end
-- ==== Proof.SguA.lean ====
/- What the first point of the grid leaves in each buffer. -/
module

public import proofs.«01_k».proof.Proof.SguCore
public import proofs.«01_k».proof.Proof.Gen.KernelIdeal.Value
public import Idealize.ShloMosaic.Lib.Pointwise
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.SguVal

open Cert.KernelIdeal Cert.KernelIdeal.Gen Cert.Sgu

open Cert.KernelIdeal.Value Cert.KernelIdeal.SguCore

variable (m : (ℓ : Loc nD τ sig) → Buf (Elt Ideal) ℓ)

/-- The first point adds its block's part to the mixing matrices' gradient. -/
theorem dw_A (c : Dev nD) (t : Fin cfg0.N) (acc) (h0 : t.val % 16 = 0) (h1 : ¬t.val % 16 = 15) (h : Fin 8) (a b : Fin 128) :
    (stAt0 (F := Ideal) m c t.val t.isLt acc).2.1 (ix3 h a b)
      = k0_pay5 (F := Ideal) (ix3 h a b) + dwpt (iblk m c 2 t) (iblk m c 0 t) (k0_pay13 (iblk m c 3 t) (iblk m c 1 t) (iblk m c 4 t)) h a b := by
  rw [stAt0_A m c t acc h0 h1]
  frame_open
  simp (disch := decide) only [↓ View.readCov_skip, ↓ View.readCov_cons_toLoadRect, ↓ View.readCov_fill]
  frame_out
  refine (canon_drop _ [_, _, _, _, _, _, _, _] _ (View.cover_of_tiled_head _ _ _ (by rfl) _)).trans ?_
  canon_tiles x h'
  all_goals
    obtain rfl : a = x 1 := Fin.ext h'1
    obtain rfl : b = x 2 := Fin.ext h'2
    generalize k0_pay13 (F := Ideal) _ _ _ = W
    have hh := h'0
    change h.val = _ at hh
    open_payloads
    pointwise
  case piece0 => exact close_hi (k0_pay5 (F := Ideal)) (iblk m c 2 t) (iblk m c 0 t) W h 7 (x 1) (x 2) (fun l => ⟨384 + l.val, by omega⟩) (fun k => by dsimp only; omega) (by show 7 = h.val; omega)
  case piece1 => exact close_lo (k0_pay5 (F := Ideal)) (iblk m c 2 t) (iblk m c 0 t) W h 6 (x 1) (x 2) (fun l => ⟨384 + l.val, by omega⟩) (fun k => by dsimp only; omega) (by show 6 = h.val; omega)
  case piece2 => exact close_hi (k0_pay5 (F := Ideal)) (iblk m c 2 t) (iblk m c 0 t) W h 5 (x 1) (x 2) (fun l => ⟨256 + l.val, by omega⟩) (fun k => by dsimp only; omega) (by show 5 = h.val; omega)
  case piece3 => exact close_lo (k0_pay5 (F := Ideal)) (iblk m c 2 t) (iblk m c 0 t) W h 4 (x 1) (x 2) (fun l => ⟨256 + l.val, by omega⟩) (fun k => by dsimp only; omega) (by show 4 = h.val; omega)
  case piece4 => exact close_hi (k0_pay5 (F := Ideal)) (iblk m c 2 t) (iblk m c 0 t) W h 3 (x 1) (x 2) (fun l => ⟨128 + l.val, by omega⟩) (fun k => by dsimp only; omega) (by show 3 = h.val; omega)
  case piece5 => exact close_lo (k0_pay5 (F := Ideal)) (iblk m c 2 t) (iblk m c 0 t) W h 2 (x 1) (x 2) (fun l => ⟨128 + l.val, by omega⟩) (fun k => by dsimp only; omega) (by show 2 = h.val; omega)
  case piece6 => exact close_hi (k0_pay5 (F := Ideal)) (iblk m c 2 t) (iblk m c 0 t) W h 1 (x 1) (x 2) (fun l => ⟨l.val, by omega⟩) (fun k => by dsimp only; omega) (by show 1 = h.val; omega)
  case piece7 => exact close_lo (k0_pay5 (F := Ideal)) (iblk m c 2 t) (iblk m c 0 t) W h 0 (x 1) (x 2) (fun l => ⟨l.val, by omega⟩) (fun k => by dsimp only; omega) (by show 0 = h.val; omega)

/-- The first point adds its block's part to the bias gradient before the fold over channels. -/
theorem ab_A (c : Dev nD) (t : Fin cfg0.N) (acc) (h0 : t.val % 16 = 0) (h1 : ¬t.val % 16 = 15) (a : Fin 128) (k : Fin 512) :
    (stAt0 (F := Ideal) m c t.val t.isLt acc).2.2.2.2.2.1 (ix2 a k)
      = abpt (k0_pay6 (F := Ideal)) (iblk m c 2 t) (iblk m c 0 t) a k := by
  rw [stAt0_A m c t acc h0 h1]
  frame_open
  simp (disch := decide) only [↓ View.readCov_skip, ↓ View.readCov_cons_toLoadRect, ↓ View.readCov_fill]
  frame_out
  refine (canon_drop _ [_, _, _, _, _, _, _, _] _ (View.cover_of_tiled_head _ _ _ (by rfl) _)).trans ?_
  refine (canon_shadow _ _ _ _ _ []).trans ?_
  refine (canon_shadow _ _ _ _ _ [_]).trans ?_
  refine (canon_shadow _ _ _ _ _ [_, _]).trans ?_
  refine (canon_shadow _ _ _ _ _ [_, _, _]).trans ?_
  dsimp only [List.cons_append, List.nil_append]
  canon_tiles x h'
  all_goals
    obtain rfl : a = x 0 := Fin.ext h'0
    open_payloads
    pointwise
  case piece0 =>
    rw [show k = ⟨384 + (x 1).val, by omega⟩ from Fin.ext h'1]
    rfl
  case piece1 =>
    rw [show k = ⟨256 + (x 1).val, by omega⟩ from Fin.ext h'1]
    rfl
  case piece2 =>
    rw [show k = ⟨128 + (x 1).val, by omega⟩ from Fin.ext h'1]
    rfl
  case piece3 =>
    rw [show k = ⟨(x 1).val, by omega⟩ from Fin.ext h'1]
    rfl

/-- The first point adds its block's part to the scale's gradient, folded to eight rows. -/
theorem ag_A (c : Dev nD) (t : Fin cfg0.N) (acc) (h0 : t.val % 16 = 0) (h1 : ¬t.val % 16 = 15) (a : Fin 8) (k : Fin 512) :
    (stAt0 (F := Ideal) m c t.val t.isLt acc).2.2.2.2.2.2.1 (ix2 a k)
      = k0_pay7 (F := Ideal) (ix2 a k) + agpt (iblk m c 6 t) (iblk m c 2 t) (iblk m c 0 t) (iblk m c 1 t) a k := by
  rw [stAt0_A m c t acc h0 h1]
  frame_open
  dsimp only
  simp (disch := decide) only [↓ View.readCov_fill]
  frame_out
  generalize hDV : View.readCov (Val := Elt Ideal) _ (_ :: _ :: _) _ = DV
  have hdv : ∀ (r : Fin 256) (k : Fin 512), DV (ix2 r k) = dvB (iblk m c 6 t) (iblk m c 2 t) (iblk m c 0 t) r k := by
    intro r k
    rw [← hDV, View.readCov_eq_canon']
    canon_tiles x h'
    all_goals
      open_payloads
      pointwise
    case piece0 =>
      have e0 := h'0
      have e1 := h'1
      change 0 + 1 * r.val = 128 + (x 0).val at e0
      change 0 + 1 * k.val = 384 + (x 1).val at e1
      obtain rfl : r = hi (x 0) := Fin.ext (by dsimp only [lo, hi]; omega)
      rw [show k = ⟨384 + (x 1).val, by omega⟩ from Fin.ext (by dsimp only; omega)]
      exact close_dv (iblk m c 6 t) (iblk m c 2 t) (iblk m c 0 t) hi (hi (x 0)) (x 0) (x 1) ⟨384 + (x 1).val, by omega⟩ 3 6 7 (by simp) rfl rfl (fun s => by show _ = _; dsimp only [lo, hi]; omega) (by dsimp only [lo, hi]; omega)
    case piece1 =>
      have e0 := h'0
      have e1 := h'1
      change 0 + 1 * r.val = (x 0).val at e0
      change 0 + 1 * k.val = 384 + (x 1).val at e1
      obtain rfl : r = lo (x 0) := Fin.ext (by dsimp only [lo, hi]; omega)
      rw [show k = ⟨384 + (x 1).val, by omega⟩ from Fin.ext (by dsimp only; omega)]
      exact close_dv (iblk m c 6 t) (iblk m c 2 t) (iblk m c 0 t) lo (lo (x 0)) (x 0) (x 1) ⟨384 + (x 1).val, by omega⟩ 3 6 7 (by simp) rfl rfl (fun s => by show _ = _; dsimp only [lo, hi]; omega) (by dsimp only [lo, hi]; omega)
    case piece2 =>
      have e0 := h'0
      have e1 := h'1
      change 0 + 1 * r.val = 128 + (x 0).val at e0
      change 0 + 1 * k.val = 256 + (x 1).val at e1
      obtain rfl : r = hi (x 0) := Fin.ext (by dsimp only [lo, hi]; omega)
      rw [show k = ⟨256 + (x 1).val, by omega⟩ from Fin.ext (by dsimp only; omega)]
      exact close_dv (iblk m c 6 t) (iblk m c 2 t) (iblk m c 0 t) hi (hi (x 0)) (x 0) (x 1) ⟨256 + (x 1).val, by omega⟩ 2 4 5 (by simp) rfl rfl (fun s => by show _ = _; dsimp only [lo, hi]; omega) (by dsimp only [lo, hi]; omega)
    case piece3 =>
      have e0 := h'0
      have e1 := h'1
      change 0 + 1 * r.val = (x 0).val at e0
      change 0 + 1 * k.val = 256 + (x 1).val at e1
      obtain rfl : r = lo (x 0) := Fin.ext (by dsimp only [lo, hi]; omega)
      rw [show k = ⟨256 + (x 1).val, by omega⟩ from Fin.ext (by dsimp only; omega)]
      exact close_dv (iblk m c 6 t) (iblk m c 2 t) (iblk m c 0 t) lo (lo (x 0)) (x 0) (x 1) ⟨256 + (x 1).val, by omega⟩ 2 4 5 (by simp) rfl rfl (fun s => by show _ = _; dsimp only [lo, hi]; omega) (by dsimp only [lo, hi]; omega)
    case piece4 =>
      have e0 := h'0
      have e1 := h'1
      change 0 + 1 * r.val = 128 + (x 0).val at e0
      change 0 + 1 * k.val = 128 + (x 1).val at e1
      obtain rfl : r = hi (x 0) := Fin.ext (by dsimp only [lo, hi]; omega)
      rw [show k = ⟨128 + (x 1).val, by omega⟩ from Fin.ext (by dsimp only; omega)]
      exact close_dv (iblk m c 6 t) (iblk m c 2 t) (iblk m c 0 t) hi (hi (x 0)) (x 0) (x 1) ⟨128 + (x 1).val, by omega⟩ 1 2 3 (by simp) rfl rfl (fun s => by show _ = _; dsimp only [lo, hi]; omega) (by dsimp only [lo, hi]; omega)
    case piece5 =>
      have e0 := h'0
      have e1 := h'1
      change 0 + 1 * r.val = (x 0).val at e0
      change 0 + 1 * k.val = 128 + (x 1).val at e1
      obtain rfl : r = lo (x 0) := Fin.ext (by dsimp only [lo, hi]; omega)
      rw [show k = ⟨128 + (x 1).val, by omega⟩ from Fin.ext (by dsimp only; omega)]
      exact close_dv (iblk m c 6 t) (iblk m c 2 t) (iblk m c 0 t) lo (lo (x 0)) (x 0) (x 1) ⟨128 + (x 1).val, by omega⟩ 1 2 3 (by simp) rfl rfl (fun s => by show _ = _; dsimp only [lo, hi]; omega) (by dsimp only [lo, hi]; omega)
    case piece6 =>
      have e0 := h'0
      have e1 := h'1
      change 0 + 1 * r.val = 128 + (x 0).val at e0
      change 0 + 1 * k.val = (x 1).val at e1
      obtain rfl : r = hi (x 0) := Fin.ext (by dsimp only [lo, hi]; omega)
      rw [show k = ⟨(x 1).val, by omega⟩ from Fin.ext (by dsimp only; omega)]
      exact close_dv (iblk m c 6 t) (iblk m c 2 t) (iblk m c 0 t) hi (hi (x 0)) (x 0) (x 1) ⟨(x 1).val, by omega⟩ 0 0 1 (by simp) rfl rfl (fun s => by show _ = _; dsimp only [lo, hi]; omega) (by dsimp only [lo, hi]; omega)
    case piece7 =>
      have e0 := h'0
      have e1 := h'1
      change 0 + 1 * r.val = (x 0).val at e0
      change 0 + 1 * k.val = (x 1).val at e1
      obtain rfl : r = lo (x 0) := Fin.ext (by dsimp only [lo, hi]; omega)
      rw [show k = ⟨(x 1).val, by omega⟩ from Fin.ext (by dsimp only; omega)]
      exact close_dv (iblk m c 6 t) (iblk m c 2 t) (iblk m c 0 t) lo (lo (x 0)) (x 0) (x 1) ⟨(x 1).val, by omega⟩ 0 0 1 (by simp) rfl rfl (fun s => by show _ = _; dsimp only [lo, hi]; omega) (by dsimp only [lo, hi]; omega)
  open_payloads
  pointwise
  simp only [hdv]
  rfl
/-- The first point adds its block's part to the shift's gradient, folded to eight rows. -/
theorem abb_A (c : Dev nD) (t : Fin cfg0.N) (acc) (h0 : t.val % 16 = 0) (h1 : ¬t.val % 16 = 15) (a : Fin 8) (k : Fin 512) :
    (stAt0 (F := Ideal) m c t.val t.isLt acc).2.2.2.2.2.2.2 (ix2 a k)
      = k0_pay8 (F := Ideal) (ix2 a k) + abbpt (iblk m c 6 t) (iblk m c 2 t) (iblk m c 0 t) a k := by
  rw [stAt0_A m c t acc h0 h1]
  frame_open
  dsimp only
  simp (disch := decide) only [↓ View.readCov_fill]
  frame_out
  generalize hDV : View.readCov (Val := Elt Ideal) _ (_ :: _ :: _) _ = DV
  have hdv : ∀ (r : Fin 256) (k : Fin 512), DV (ix2 r k) = dvB (iblk m c 6 t) (iblk m c 2 t) (iblk m c 0 t) r k := by
    intro r k
    rw [← hDV, View.readCov_eq_canon']
    canon_tiles x h'
    all_goals
      open_payloads
      pointwise
    case piece0 =>
      have e0 := h'0
      have e1 := h'1
      change 0 + 1 * r.val = 128 + (x 0).val at e0
      change 0 + 1 * k.val = 384 + (x 1).val at e1
      obtain rfl : r = hi (x 0) := Fin.ext (by dsimp only [lo, hi]; omega)
      rw [show k = ⟨384 + (x 1).val, by omega⟩ from Fin.ext (by dsimp only; omega)]
      exact close_dv (iblk m c 6 t) (iblk m c 2 t) (iblk m c 0 t) hi (hi (x 0)) (x 0) (x 1) ⟨384 + (x 1).val, by omega⟩ 3 6 7 (by simp) rfl rfl (fun s => by show _ = _; dsimp only [lo, hi]; omega) (by dsimp only [lo, hi]; omega)
    case piece1 =>
      have e0 := h'0
      have e1 := h'1
      change 0 + 1 * r.val = (x 0).val at e0
      change 0 + 1 * k.val = 384 + (x 1).val at e1
      obtain rfl : r = lo (x 0) := Fin.ext (by dsimp only [lo, hi]; omega)
      rw [show k = ⟨384 + (x 1).val, by omega⟩ from Fin.ext (by dsimp only; omega)]
      exact close_dv (iblk m c 6 t) (iblk m c 2 t) (iblk m c 0 t) lo (lo (x 0)) (x 0) (x 1) ⟨384 + (x 1).val, by omega⟩ 3 6 7 (by simp) rfl rfl (fun s => by show _ = _; dsimp only [lo, hi]; omega) (by dsimp only [lo, hi]; omega)
    case piece2 =>
      have e0 := h'0
      have e1 := h'1
      change 0 + 1 * r.val = 128 + (x 0).val at e0
      change 0 + 1 * k.val = 256 + (x 1).val at e1
      obtain rfl : r = hi (x 0) := Fin.ext (by dsimp only [lo, hi]; omega)
      rw [show k = ⟨256 + (x 1).val, by omega⟩ from Fin.ext (by dsimp only; omega)]
      exact close_dv (iblk m c 6 t) (iblk m c 2 t) (iblk m c 0 t) hi (hi (x 0)) (x 0) (x 1) ⟨256 + (x 1).val, by omega⟩ 2 4 5 (by simp) rfl rfl (fun s => by show _ = _; dsimp only [lo, hi]; omega) (by dsimp only [lo, hi]; omega)
    case piece3 =>
      have e0 := h'0
      have e1 := h'1
      change 0 + 1 * r.val = (x 0).val at e0
      change 0 + 1 * k.val = 256 + (x 1).val at e1
      obtain rfl : r = lo (x 0) := Fin.ext (by dsimp only [lo, hi]; omega)
      rw [show k = ⟨256 + (x 1).val, by omega⟩ from Fin.ext (by dsimp only; omega)]
      exact close_dv (iblk m c 6 t) (iblk m c 2 t) (iblk m c 0 t) lo (lo (x 0)) (x 0) (x 1) ⟨256 + (x 1).val, by omega⟩ 2 4 5 (by simp) rfl rfl (fun s => by show _ = _; dsimp only [lo, hi]; omega) (by dsimp only [lo, hi]; omega)
    case piece4 =>
      have e0 := h'0
      have e1 := h'1
      change 0 + 1 * r.val = 128 + (x 0).val at e0
      change 0 + 1 * k.val = 128 + (x 1).val at e1
      obtain rfl : r = hi (x 0) := Fin.ext (by dsimp only [lo, hi]; omega)
      rw [show k = ⟨128 + (x 1).val, by omega⟩ from Fin.ext (by dsimp only; omega)]
      exact close_dv (iblk m c 6 t) (iblk m c 2 t) (iblk m c 0 t) hi (hi (x 0)) (x 0) (x 1) ⟨128 + (x 1).val, by omega⟩ 1 2 3 (by simp) rfl rfl (fun s => by show _ = _; dsimp only [lo, hi]; omega) (by dsimp only [lo, hi]; omega)
    case piece5 =>
      have e0 := h'0
      have e1 := h'1
      change 0 + 1 * r.val = (x 0).val at e0
      change 0 + 1 * k.val = 128 + (x 1).val at e1
      obtain rfl : r = lo (x 0) := Fin.ext (by dsimp only [lo, hi]; omega)
      rw [show k = ⟨128 + (x 1).val, by omega⟩ from Fin.ext (by dsimp only; omega)]
      exact close_dv (iblk m c 6 t) (iblk m c 2 t) (iblk m c 0 t) lo (lo (x 0)) (x 0) (x 1) ⟨128 + (x 1).val, by omega⟩ 1 2 3 (by simp) rfl rfl (fun s => by show _ = _; dsimp only [lo, hi]; omega) (by dsimp only [lo, hi]; omega)
    case piece6 =>
      have e0 := h'0
      have e1 := h'1
      change 0 + 1 * r.val = 128 + (x 0).val at e0
      change 0 + 1 * k.val = (x 1).val at e1
      obtain rfl : r = hi (x 0) := Fin.ext (by dsimp only [lo, hi]; omega)
      rw [show k = ⟨(x 1).val, by omega⟩ from Fin.ext (by dsimp only; omega)]
      exact close_dv (iblk m c 6 t) (iblk m c 2 t) (iblk m c 0 t) hi (hi (x 0)) (x 0) (x 1) ⟨(x 1).val, by omega⟩ 0 0 1 (by simp) rfl rfl (fun s => by show _ = _; dsimp only [lo, hi]; omega) (by dsimp only [lo, hi]; omega)
    case piece7 =>
      have e0 := h'0
      have e1 := h'1
      change 0 + 1 * r.val = (x 0).val at e0
      change 0 + 1 * k.val = (x 1).val at e1
      obtain rfl : r = lo (x 0) := Fin.ext (by dsimp only [lo, hi]; omega)
      rw [show k = ⟨(x 1).val, by omega⟩ from Fin.ext (by dsimp only; omega)]
      exact close_dv (iblk m c 6 t) (iblk m c 2 t) (iblk m c 0 t) lo (lo (x 0)) (x 0) (x 1) ⟨(x 1).val, by omega⟩ 0 0 1 (by simp) rfl rfl (fun s => by show _ = _; dsimp only [lo, hi]; omega) (by dsimp only [lo, hi]; omega)
  open_payloads
  pointwise
  simp only [hdv]
  rfl
/-- The first point writes its block of the first result. -/
theorem o8_A (c : Dev nD) (t : Fin cfg0.N) (acc) (h0 : t.val % 16 = 0) (h1 : ¬t.val % 16 = 15) (r : Fin 256) (k : Fin 1024) :
    (stAt0 (F := Ideal) m c t.val t.isLt acc).1 (ix2 r k)
      = o8B (iblk m c 3 t) (iblk m c 7 t) (iblk m c 5 t) (iblk m c 6 t) (iblk m c 2 t) (iblk m c 0 t) (iblk m c 1 t) (k0_pay13 (iblk m c 3 t) (iblk m c 1 t) (iblk m c 4 t)) r k := by
  rw [stAt0_A m c t acc h0 h1]
  frame_open
  dsimp only
  frame_out
  generalize hDV : View.readCov (Val := Elt Ideal) _ (_ :: _ :: _) _ = DV
  have hdv : ∀ (r : Fin 256) (k : Fin 512), DV (ix2 r k) = dvB (iblk m c 6 t) (iblk m c 2 t) (iblk m c 0 t) r k := by
    intro r k
    rw [← hDV, View.readCov_eq_canon']
    canon_tiles x h'
    all_goals
      open_payloads
      pointwise
    case piece0 =>
      have e0 := h'0
      have e1 := h'1
      change 0 + 1 * r.val = 128 + (x 0).val at e0
      change 0 + 1 * k.val = 384 + (x 1).val at e1
      obtain rfl : r = hi (x 0) := Fin.ext (by dsimp only [lo, hi]; omega)
      rw [show k = ⟨384 + (x 1).val, by omega⟩ from Fin.ext (by dsimp only; omega)]
      exact close_dv (iblk m c 6 t) (iblk m c 2 t) (iblk m c 0 t) hi (hi (x 0)) (x 0) (x 1) ⟨384 + (x 1).val, by omega⟩ 3 6 7 (by simp) rfl rfl (fun s => by show _ = _; dsimp only [lo, hi]; omega) (by dsimp only [lo, hi]; omega)
    case piece1 =>
      have e0 := h'0
      have e1 := h'1
      change 0 + 1 * r.val = (x 0).val at e0
      change 0 + 1 * k.val = 384 + (x 1).val at e1
      obtain rfl : r = lo (x 0) := Fin.ext (by dsimp only [lo, hi]; omega)
      rw [show k = ⟨384 + (x 1).val, by omega⟩ from Fin.ext (by dsimp only; omega)]
      exact close_dv (iblk m c 6 t) (iblk m c 2 t) (iblk m c 0 t) lo (lo (x 0)) (x 0) (x 1) ⟨384 + (x 1).val, by omega⟩ 3 6 7 (by simp) rfl rfl (fun s => by show _ = _; dsimp only [lo, hi]; omega) (by dsimp only [lo, hi]; omega)
    case piece2 =>
      have e0 := h'0
      have e1 := h'1
      change 0 + 1 * r.val = 128 + (x 0).val at e0
      change 0 + 1 * k.val = 256 + (x 1).val at e1
      obtain rfl : r = hi (x 0) := Fin.ext (by dsimp only [lo, hi]; omega)
      rw [show k = ⟨256 + (x 1).val, by omega⟩ from Fin.ext (by dsimp only; omega)]
      exact close_dv (iblk m c 6 t) (iblk m c 2 t) (iblk m c 0 t) hi (hi (x 0)) (x 0) (x 1) ⟨256 + (x 1).val, by omega⟩ 2 4 5 (by simp) rfl rfl (fun s => by show _ = _; dsimp only [lo, hi]; omega) (by dsimp only [lo, hi]; omega)
    case piece3 =>
      have e0 := h'0
      have e1 := h'1
      change 0 + 1 * r.val = (x 0).val at e0
      change 0 + 1 * k.val = 256 + (x 1).val at e1
      obtain rfl : r = lo (x 0) := Fin.ext (by dsimp only [lo, hi]; omega)
      rw [show k = ⟨256 + (x 1).val, by omega⟩ from Fin.ext (by dsimp only; omega)]
      exact close_dv (iblk m c 6 t) (iblk m c 2 t) (iblk m c 0 t) lo (lo (x 0)) (x 0) (x 1) ⟨256 + (x 1).val, by omega⟩ 2 4 5 (by simp) rfl rfl (fun s => by show _ = _; dsimp only [lo, hi]; omega) (by dsimp only [lo, hi]; omega)
    case piece4 =>
      have e0 := h'0
      have e1 := h'1
      change 0 + 1 * r.val = 128 + (x 0).val at e0
      change 0 + 1 * k.val = 128 + (x 1).val at e1
      obtain rfl : r = hi (x 0) := Fin.ext (by dsimp only [lo, hi]; omega)
      rw [show k = ⟨128 + (x 1).val, by omega⟩ from Fin.ext (by dsimp only; omega)]
      exact close_dv (iblk m c 6 t) (iblk m c 2 t) (iblk m c 0 t) hi (hi (x 0)) (x 0) (x 1) ⟨128 + (x 1).val, by omega⟩ 1 2 3 (by simp) rfl rfl (fun s => by show _ = _; dsimp only [lo, hi]; omega) (by dsimp only [lo, hi]; omega)
    case piece5 =>
      have e0 := h'0
      have e1 := h'1
      change 0 + 1 * r.val = (x 0).val at e0
      change 0 + 1 * k.val = 128 + (x 1).val at e1
      obtain rfl : r = lo (x 0) := Fin.ext (by dsimp only [lo, hi]; omega)
      rw [show k = ⟨128 + (x 1).val, by omega⟩ from Fin.ext (by dsimp only; omega)]
      exact close_dv (iblk m c 6 t) (iblk m c 2 t) (iblk m c 0 t) lo (lo (x 0)) (x 0) (x 1) ⟨128 + (x 1).val, by omega⟩ 1 2 3 (by simp) rfl rfl (fun s => by show _ = _; dsimp only [lo, hi]; omega) (by dsimp only [lo, hi]; omega)
    case piece6 =>
      have e0 := h'0
      have e1 := h'1
      change 0 + 1 * r.val = 128 + (x 0).val at e0
      change 0 + 1 * k.val = (x 1).val at e1
      obtain rfl : r = hi (x 0) := Fin.ext (by dsimp only [lo, hi]; omega)
      rw [show k = ⟨(x 1).val, by omega⟩ from Fin.ext (by dsimp only; omega)]
      exact close_dv (iblk m c 6 t) (iblk m c 2 t) (iblk m c 0 t) hi (hi (x 0)) (x 0) (x 1) ⟨(x 1).val, by omega⟩ 0 0 1 (by simp) rfl rfl (fun s => by show _ = _; dsimp only [lo, hi]; omega) (by dsimp only [lo, hi]; omega)
    case piece7 =>
      have e0 := h'0
      have e1 := h'1
      change 0 + 1 * r.val = (x 0).val at e0
      change 0 + 1 * k.val = (x 1).val at e1
      obtain rfl : r = lo (x 0) := Fin.ext (by dsimp only [lo, hi]; omega)
      rw [show k = ⟨(x 1).val, by omega⟩ from Fin.ext (by dsimp only; omega)]
      exact close_dv (iblk m c 6 t) (iblk m c 2 t) (iblk m c 0 t) lo (lo (x 0)) (x 0) (x 1) ⟨(x 1).val, by omega⟩ 0 0 1 (by simp) rfl rfl (fun s => by show _ = _; dsimp only [lo, hi]; omega) (by dsimp only [lo, hi]; omega)
  canon_tiles x h' using (View.cover_of_tiledBy _ ![128, 128] (by sl_kernel_rfl) _)
  case piece0 =>
    obtain ⟨a1, a2, rfl⟩ : ∃ (a1 : Fin 256) (a2 : Fin 512), x = ix2 a1 a2 := ⟨x 0, x 1, eq_ix2 x⟩
    obtain rfl : r = a1 := Fin.ext h'0
    have hk : k.val = 512 + a2.val := h'1
    unfold o8B
    rw [dif_neg (show ¬k.val < 512 by omega)]
    rw [show (⟨k.val - 512, by omega⟩ : Fin 512) = a2 from Fin.ext (by show k.val - 512 = a2.val; omega)]
    open_payloads
    pointwise
    have hf : (fun l => dvB (iblk m c 6 t) (iblk m c 2 t) (iblk m c 0 t) r l) = fun l => DV (ix2 r l) := funext fun l => (hdv _ l).symm
    exact congrArg (fun f => dln (fun l => iblk m c 3 t (ix2 0 l)) (brow (iblk m c 1 t) r) f a2) hf.symm
  case piece1 =>
    obtain rfl : r = hi (x 0) := Fin.ext h'0
    have hk : k.val = 384 + (x 1).val := h'1
    unfold o8B
    rw [dif_pos (show k.val < 512 by omega), show (⟨k.val, by omega⟩ : Fin 512) = ⟨384 + (x 1).val, by omega⟩ from Fin.ext hk]
    generalize k0_pay13 (F := Ideal) _ _ _ = W
    open_payloads
    pointwise
    exact close_mix _ (iblk m c 5 t) (iblk m c 7 t) W hi (hi (x 0)) (x 0) (x 1) ⟨384 + (x 1).val, by omega⟩ 3 6 7 (by simp) rfl rfl (fun s => by show _ = _; dsimp only [lo, hi]; omega) (by dsimp only [lo, hi]; omega)
  case piece2 =>
    obtain rfl : r = lo (x 0) := Fin.ext h'0
    have hk : k.val = 384 + (x 1).val := h'1
    unfold o8B
    rw [dif_pos (show k.val < 512 by omega), show (⟨k.val, by omega⟩ : Fin 512) = ⟨384 + (x 1).val, by omega⟩ from Fin.ext hk]
    generalize k0_pay13 (F := Ideal) _ _ _ = W
    open_payloads
    pointwise
    exact close_mix _ (iblk m c 5 t) (iblk m c 7 t) W lo (lo (x 0)) (x 0) (x 1) ⟨384 + (x 1).val, by omega⟩ 3 6 7 (by simp) rfl rfl (fun s => by show _ = _; dsimp only [lo, hi]; omega) (by dsimp only [lo, hi]; omega)
  case piece3 =>
    obtain rfl : r = hi (x 0) := Fin.ext h'0
    have hk : k.val = 256 + (x 1).val := h'1
    unfold o8B
    rw [dif_pos (show k.val < 512 by omega), show (⟨k.val, by omega⟩ : Fin 512) = ⟨256 + (x 1).val, by omega⟩ from Fin.ext hk]
    generalize k0_pay13 (F := Ideal) _ _ _ = W
    open_payloads
    pointwise
    exact close_mix _ (iblk m c 5 t) (iblk m c 7 t) W hi (hi (x 0)) (x 0) (x 1) ⟨256 + (x 1).val, by omega⟩ 2 4 5 (by simp) rfl rfl (fun s => by show _ = _; dsimp only [lo, hi]; omega) (by dsimp only [lo, hi]; omega)
  case piece4 =>
    obtain rfl : r = lo (x 0) := Fin.ext h'0
    have hk : k.val = 256 + (x 1).val := h'1
    unfold o8B
    rw [dif_pos (show k.val < 512 by omega), show (⟨k.val, by omega⟩ : Fin 512) = ⟨256 + (x 1).val, by omega⟩ from Fin.ext hk]
    generalize k0_pay13 (F := Ideal) _ _ _ = W
    open_payloads
    pointwise
    exact close_mix _ (iblk m c 5 t) (iblk m c 7 t) W lo (lo (x 0)) (x 0) (x 1) ⟨256 + (x 1).val, by omega⟩ 2 4 5 (by simp) rfl rfl (fun s => by show _ = _; dsimp only [lo, hi]; omega) (by dsimp only [lo, hi]; omega)
  case piece5 =>
    obtain rfl : r = hi (x 0) := Fin.ext h'0
    have hk : k.val = 128 + (x 1).val := h'1
    unfold o8B
    rw [dif_pos (show k.val < 512 by omega), show (⟨k.val, by omega⟩ : Fin 512) = ⟨128 + (x 1).val, by omega⟩ from Fin.ext hk]
    generalize k0_pay13 (F := Ideal) _ _ _ = W
    open_payloads
    pointwise
    exact close_mix _ (iblk m c 5 t) (iblk m c 7 t) W hi (hi (x 0)) (x 0) (x 1) ⟨128 + (x 1).val, by omega⟩ 1 2 3 (by simp) rfl rfl (fun s => by show _ = _; dsimp only [lo, hi]; omega) (by dsimp only [lo, hi]; omega)
  case piece6 =>
    obtain rfl : r = lo (x 0) := Fin.ext h'0
    have hk : k.val = 128 + (x 1).val := h'1
    unfold o8B
    rw [dif_pos (show k.val < 512 by omega), show (⟨k.val, by omega⟩ : Fin 512) = ⟨128 + (x 1).val, by omega⟩ from Fin.ext hk]
    generalize k0_pay13 (F := Ideal) _ _ _ = W
    open_payloads
    pointwise
    exact close_mix _ (iblk m c 5 t) (iblk m c 7 t) W lo (lo (x 0)) (x 0) (x 1) ⟨128 + (x 1).val, by omega⟩ 1 2 3 (by simp) rfl rfl (fun s => by show _ = _; dsimp only [lo, hi]; omega) (by dsimp only [lo, hi]; omega)
  case piece7 =>
    obtain rfl : r = hi (x 0) := Fin.ext h'0
    have hk : k.val = (x 1).val := h'1
    unfold o8B
    rw [dif_pos (show k.val < 512 by omega), show (⟨k.val, by omega⟩ : Fin 512) = ⟨(x 1).val, by omega⟩ from Fin.ext hk]
    generalize k0_pay13 (F := Ideal) _ _ _ = W
    open_payloads
    pointwise
    exact close_mix _ (iblk m c 5 t) (iblk m c 7 t) W hi (hi (x 0)) (x 0) (x 1) ⟨(x 1).val, by omega⟩ 0 0 1 (by simp) rfl rfl (fun s => by show _ = _; dsimp only [lo, hi]; omega) (by dsimp only [lo, hi]; omega)
  case piece8 =>
    obtain rfl : r = lo (x 0) := Fin.ext h'0
    have hk : k.val = (x 1).val := h'1
    unfold o8B
    rw [dif_pos (show k.val < 512 by omega), show (⟨k.val, by omega⟩ : Fin 512) = ⟨(x 1).val, by omega⟩ from Fin.ext hk]
    generalize k0_pay13 (F := Ideal) _ _ _ = W
    open_payloads
    pointwise
    exact close_mix _ (iblk m c 5 t) (iblk m c 7 t) W lo (lo (x 0)) (x 0) (x 1) ⟨(x 1).val, by omega⟩ 0 0 1 (by simp) rfl rfl (fun s => by show _ = _; dsimp only [lo, hi]; omega) (by dsimp only [lo, hi]; omega)

end Cert.KernelIdeal.SguVal

end
-- ==== Proof.SguB.lean ====
/- What a middle point of the grid leaves in each buffer. -/
module

public import proofs.«01_k».proof.Proof.SguCore
public import proofs.«01_k».proof.Proof.Gen.KernelIdeal.Value
public import Idealize.ShloMosaic.Lib.Pointwise
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.SguVal

open Cert.KernelIdeal Cert.KernelIdeal.Gen Cert.Sgu

open Cert.KernelIdeal.Value Cert.KernelIdeal.SguCore

variable (m : (ℓ : Loc nD τ sig) → Buf (Elt Ideal) ℓ)

/-- A middle point adds its block's part to the mixing matrices' gradient. -/
theorem dw_B (c : Dev nD) (t : Fin cfg0.N) (acc) (h0 : ¬t.val % 16 = 0) (h1 : ¬t.val % 16 = 15) (h : Fin 8) (a b : Fin 128) :
    (stAt0 (F := Ideal) m c t.val t.isLt acc).2.1 (ix3 h a b)
      = acc.2.1 (ix3 h a b) + dwpt (iblk m c 2 t) (iblk m c 0 t) (k0_pay13 (iblk m c 3 t) (iblk m c 1 t) (iblk m c 4 t)) h a b := by
  rw [stAt0_B m c t acc h0 h1]
  frame_out
  canon_tiles x h'
  all_goals
    obtain rfl : a = x 1 := Fin.ext h'1
    obtain rfl : b = x 2 := Fin.ext h'2
    generalize k0_pay13 (F := Ideal) _ _ _ = W
    have hh := h'0
    change h.val = _ at hh
    open_payloads
    pointwise
  case piece0 => exact close_hi acc.2.1 (iblk m c 2 t) (iblk m c 0 t) W h 7 (x 1) (x 2) (fun l => ⟨384 + l.val, by omega⟩) (fun k => by dsimp only; omega) (by show 7 = h.val; omega)
  case piece1 => exact close_lo acc.2.1 (iblk m c 2 t) (iblk m c 0 t) W h 6 (x 1) (x 2) (fun l => ⟨384 + l.val, by omega⟩) (fun k => by dsimp only; omega) (by show 6 = h.val; omega)
  case piece2 => exact close_hi acc.2.1 (iblk m c 2 t) (iblk m c 0 t) W h 5 (x 1) (x 2) (fun l => ⟨256 + l.val, by omega⟩) (fun k => by dsimp only; omega) (by show 5 = h.val; omega)
  case piece3 => exact close_lo acc.2.1 (iblk m c 2 t) (iblk m c 0 t) W h 4 (x 1) (x 2) (fun l => ⟨256 + l.val, by omega⟩) (fun k => by dsimp only; omega) (by show 4 = h.val; omega)
  case piece4 => exact close_hi acc.2.1 (iblk m c 2 t) (iblk m c 0 t) W h 3 (x 1) (x 2) (fun l => ⟨128 + l.val, by omega⟩) (fun k => by dsimp only; omega) (by show 3 = h.val; omega)
  case piece5 => exact close_lo acc.2.1 (iblk m c 2 t) (iblk m c 0 t) W h 2 (x 1) (x 2) (fun l => ⟨128 + l.val, by omega⟩) (fun k => by dsimp only; omega) (by show 2 = h.val; omega)
  case piece6 => exact close_hi acc.2.1 (iblk m c 2 t) (iblk m c 0 t) W h 1 (x 1) (x 2) (fun l => ⟨l.val, by omega⟩) (fun k => by dsimp only; omega) (by show 1 = h.val; omega)
  case piece7 => exact close_lo acc.2.1 (iblk m c 2 t) (iblk m c 0 t) W h 0 (x 1) (x 2) (fun l => ⟨l.val, by omega⟩) (fun k => by dsimp only; omega) (by show 0 = h.val; omega)

/-- A middle point adds its block's part to the bias gradient before the fold over channels. -/
theorem ab_B (c : Dev nD) (t : Fin cfg0.N) (acc) (h0 : ¬t.val % 16 = 0) (h1 : ¬t.val % 16 = 15) (a : Fin 128) (k : Fin 512) :
    (stAt0 (F := Ideal) m c t.val t.isLt acc).2.2.2.2.2.1 (ix2 a k)
      = abpt acc.2.2.2.2.2.1 (iblk m c 2 t) (iblk m c 0 t) a k := by
  rw [stAt0_B m c t acc h0 h1]
  frame_out
  simp (disch := decide) only [↓ View.readCov_skip, ↓ View.readCov_cons_toLoadRect, read_unread_whole]
  refine (canon_shadow _ _ _ _ _ []).trans ?_
  refine (canon_shadow _ _ _ _ _ [_]).trans ?_
  refine (canon_shadow _ _ _ _ _ [_, _]).trans ?_
  refine (canon_shadow _ _ _ _ _ [_, _, _]).trans ?_
  dsimp only [List.cons_append, List.nil_append]
  canon_tiles x h'
  all_goals
    obtain rfl : a = x 0 := Fin.ext h'0
    open_payloads
    pointwise
  case piece0 =>
    rw [show k = ⟨384 + (x 1).val, by omega⟩ from Fin.ext h'1]
    rfl
  case piece1 =>
    rw [show k = ⟨256 + (x 1).val, by omega⟩ from Fin.ext h'1]
    rfl
  case piece2 =>
    rw [show k = ⟨128 + (x 1).val, by omega⟩ from Fin.ext h'1]
    rfl
  case piece3 =>
    rw [show k = ⟨(x 1).val, by omega⟩ from Fin.ext h'1]
    rfl

/-- A middle point adds its block's part to the scale's gradient, folded to eight rows. -/
theorem ag_B (c : Dev nD) (t : Fin cfg0.N) (acc) (h0 : ¬t.val % 16 = 0) (h1 : ¬t.val % 16 = 15) (a : Fin 8) (k : Fin 512) :
    (stAt0 (F := Ideal) m c t.val t.isLt acc).2.2.2.2.2.2.1 (ix2 a k)
      = acc.2.2.2.2.2.2.1 (ix2 a k) + agpt (iblk m c 6 t) (iblk m c 2 t) (iblk m c 0 t) (iblk m c 1 t) a k := by
  rw [stAt0_B m c t acc h0 h1]
  frame_out
  generalize hDV : View.readCov (Val := Elt Ideal) _ (_ :: _ :: _) _ = DV
  have hdv : ∀ (r : Fin 256) (k : Fin 512), DV (ix2 r k) = dvB (iblk m c 6 t) (iblk m c 2 t) (iblk m c 0 t) r k := by
    intro r k
    rw [← hDV, View.readCov_eq_canon']
    canon_tiles x h'
    all_goals
      open_payloads
      pointwise
    case piece0 =>
      have e0 := h'0
      have e1 := h'1
      change 0 + 1 * r.val = 128 + (x 0).val at e0
      change 0 + 1 * k.val = 384 + (x 1).val at e1
      obtain rfl : r = hi (x 0) := Fin.ext (by dsimp only [lo, hi]; omega)
      rw [show k = ⟨384 + (x 1).val, by omega⟩ from Fin.ext (by dsimp only; omega)]
      exact close_dv (iblk m c 6 t) (iblk m c 2 t) (iblk m c 0 t) hi (hi (x 0)) (x 0) (x 1) ⟨384 + (x 1).val, by omega⟩ 3 6 7 (by simp) rfl rfl (fun s => by show _ = _; dsimp only [lo, hi]; omega) (by dsimp only [lo, hi]; omega)
    case piece1 =>
      have e0 := h'0
      have e1 := h'1
      change 0 + 1 * r.val = (x 0).val at e0
      change 0 + 1 * k.val = 384 + (x 1).val at e1
      obtain rfl : r = lo (x 0) := Fin.ext (by dsimp only [lo, hi]; omega)
      rw [show k = ⟨384 + (x 1).val, by omega⟩ from Fin.ext (by dsimp only; omega)]
      exact close_dv (iblk m c 6 t) (iblk m c 2 t) (iblk m c 0 t) lo (lo (x 0)) (x 0) (x 1) ⟨384 + (x 1).val, by omega⟩ 3 6 7 (by simp) rfl rfl (fun s => by show _ = _; dsimp only [lo, hi]; omega) (by dsimp only [lo, hi]; omega)
    case piece2 =>
      have e0 := h'0
      have e1 := h'1
      change 0 + 1 * r.val = 128 + (x 0).val at e0
      change 0 + 1 * k.val = 256 + (x 1).val at e1
      obtain rfl : r = hi (x 0) := Fin.ext (by dsimp only [lo, hi]; omega)
      rw [show k = ⟨256 + (x 1).val, by omega⟩ from Fin.ext (by dsimp only; omega)]
      exact close_dv (iblk m c 6 t) (iblk m c 2 t) (iblk m c 0 t) hi (hi (x 0)) (x 0) (x 1) ⟨256 + (x 1).val, by omega⟩ 2 4 5 (by simp) rfl rfl (fun s => by show _ = _; dsimp only [lo, hi]; omega) (by dsimp only [lo, hi]; omega)
    case piece3 =>
      have e0 := h'0
      have e1 := h'1
      change 0 + 1 * r.val = (x 0).val at e0
      change 0 + 1 * k.val = 256 + (x 1).val at e1
      obtain rfl : r = lo (x 0) := Fin.ext (by dsimp only [lo, hi]; omega)
      rw [show k = ⟨256 + (x 1).val, by omega⟩ from Fin.ext (by dsimp only; omega)]
      exact close_dv (iblk m c 6 t) (iblk m c 2 t) (iblk m c 0 t) lo (lo (x 0)) (x 0) (x 1) ⟨256 + (x 1).val, by omega⟩ 2 4 5 (by simp) rfl rfl (fun s => by show _ = _; dsimp only [lo, hi]; omega) (by dsimp only [lo, hi]; omega)
    case piece4 =>
      have e0 := h'0
      have e1 := h'1
      change 0 + 1 * r.val = 128 + (x 0).val at e0
      change 0 + 1 * k.val = 128 + (x 1).val at e1
      obtain rfl : r = hi (x 0) := Fin.ext (by dsimp only [lo, hi]; omega)
      rw [show k = ⟨128 + (x 1).val, by omega⟩ from Fin.ext (by dsimp only; omega)]
      exact close_dv (iblk m c 6 t) (iblk m c 2 t) (iblk m c 0 t) hi (hi (x 0)) (x 0) (x 1) ⟨128 + (x 1).val, by omega⟩ 1 2 3 (by simp) rfl rfl (fun s => by show _ = _; dsimp only [lo, hi]; omega) (by dsimp only [lo, hi]; omega)
    case piece5 =>
      have e0 := h'0
      have e1 := h'1
      change 0 + 1 * r.val = (x 0).val at e0
      change 0 + 1 * k.val = 128 + (x 1).val at e1
      obtain rfl : r = lo (x 0) := Fin.ext (by dsimp only [lo, hi]; omega)
      rw [show k = ⟨128 + (x 1).val, by omega⟩ from Fin.ext (by dsimp only; omega)]
      exact close_dv (iblk m c 6 t) (iblk m c 2 t) (iblk m c 0 t) lo (lo (x 0)) (x 0) (x 1) ⟨128 + (x 1).val, by omega⟩ 1 2 3 (by simp) rfl rfl (fun s => by show _ = _; dsimp only [lo, hi]; omega) (by dsimp only [lo, hi]; omega)
    case piece6 =>
      have e0 := h'0
      have e1 := h'1
      change 0 + 1 * r.val = 128 + (x 0).val at e0
      change 0 + 1 * k.val = (x 1).val at e1
      obtain rfl : r = hi (x 0) := Fin.ext (by dsimp only [lo, hi]; omega)
      rw [show k = ⟨(x 1).val, by omega⟩ from Fin.ext (by dsimp only; omega)]
      exact close_dv (iblk m c 6 t) (iblk m c 2 t) (iblk m c 0 t) hi (hi (x 0)) (x 0) (x 1) ⟨(x 1).val, by omega⟩ 0 0 1 (by simp) rfl rfl (fun s => by show _ = _; dsimp only [lo, hi]; omega) (by dsimp only [lo, hi]; omega)
    case piece7 =>
      have e0 := h'0
      have e1 := h'1
      change 0 + 1 * r.val = (x 0).val at e0
      change 0 + 1 * k.val = (x 1).val at e1
      obtain rfl : r = lo (x 0) := Fin.ext (by dsimp only [lo, hi]; omega)
      rw [show k = ⟨(x 1).val, by omega⟩ from Fin.ext (by dsimp only; omega)]
      exact close_dv (iblk m c 6 t) (iblk m c 2 t) (iblk m c 0 t) lo (lo (x 0)) (x 0) (x 1) ⟨(x 1).val, by omega⟩ 0 0 1 (by simp) rfl rfl (fun s => by show _ = _; dsimp only [lo, hi]; omega) (by dsimp only [lo, hi]; omega)
  open_payloads
  pointwise
  simp only [hdv]
  simp only [read_unread_whole]
  rfl
/-- A middle point adds its block's part to the shift's gradient, folded to eight rows. -/
theorem abb_B (c : Dev nD) (t : Fin cfg0.N) (acc) (h0 : ¬t.val % 16 = 0) (h1 : ¬t.val % 16 = 15) (a : Fin 8) (k : Fin 512) :
    (stAt0 (F := Ideal) m c t.val t.isLt acc).2.2.2.2.2.2.2 (ix2 a k)
      = acc.2.2.2.2.2.2.2 (ix2 a k) + abbpt (iblk m c 6 t) (iblk m c 2 t) (iblk m c 0 t) a k := by
  rw [stAt0_B m c t acc h0 h1]
  frame_out
  generalize hDV : View.readCov (Val := Elt Ideal) _ (_ :: _ :: _) _ = DV
  have hdv : ∀ (r : Fin 256) (k : Fin 512), DV (ix2 r k) = dvB (iblk m c 6 t) (iblk m c 2 t) (iblk m c 0 t) r k := by
    intro r k
    rw [← hDV, View.readCov_eq_canon']
    canon_tiles x h'
    all_goals
      open_payloads
      pointwise
    case piece0 =>
      have e0 := h'0
      have e1 := h'1
      change 0 + 1 * r.val = 128 + (x 0).val at e0
      change 0 + 1 * k.val = 384 + (x 1).val at e1
      obtain rfl : r = hi (x 0) := Fin.ext (by dsimp only [lo, hi]; omega)
      rw [show k = ⟨384 + (x 1).val, by omega⟩ from Fin.ext (by dsimp only; omega)]
      exact close_dv (iblk m c 6 t) (iblk m c 2 t) (iblk m c 0 t) hi (hi (x 0)) (x 0) (x 1) ⟨384 + (x 1).val, by omega⟩ 3 6 7 (by simp) rfl rfl (fun s => by show _ = _; dsimp only [lo, hi]; omega) (by dsimp only [lo, hi]; omega)
    case piece1 =>
      have e0 := h'0
      have e1 := h'1
      change 0 + 1 * r.val = (x 0).val at e0
      change 0 + 1 * k.val = 384 + (x 1).val at e1
      obtain rfl : r = lo (x 0) := Fin.ext (by dsimp only [lo, hi]; omega)
      rw [show k = ⟨384 + (x 1).val, by omega⟩ from Fin.ext (by dsimp only; omega)]
      exact close_dv (iblk m c 6 t) (iblk m c 2 t) (iblk m c 0 t) lo (lo (x 0)) (x 0) (x 1) ⟨384 + (x 1).val, by omega⟩ 3 6 7 (by simp) rfl rfl (fun s => by show _ = _; dsimp only [lo, hi]; omega) (by dsimp only [lo, hi]; omega)
    case piece2 =>
      have e0 := h'0
      have e1 := h'1
      change 0 + 1 * r.val = 128 + (x 0).val at e0
      change 0 + 1 * k.val = 256 + (x 1).val at e1
      obtain rfl : r = hi (x 0) := Fin.ext (by dsimp only [lo, hi]; omega)
      rw [show k = ⟨256 + (x 1).val, by omega⟩ from Fin.ext (by dsimp only; omega)]
      exact close_dv (iblk m c 6 t) (iblk m c 2 t) (iblk m c 0 t) hi (hi (x 0)) (x 0) (x 1) ⟨256 + (x 1).val, by omega⟩ 2 4 5 (by simp) rfl rfl (fun s => by show _ = _; dsimp only [lo, hi]; omega) (by dsimp only [lo, hi]; omega)
    case piece3 =>
      have e0 := h'0
      have e1 := h'1
      change 0 + 1 * r.val = (x 0).val at e0
      change 0 + 1 * k.val = 256 + (x 1).val at e1
      obtain rfl : r = lo (x 0) := Fin.ext (by dsimp only [lo, hi]; omega)
      rw [show k = ⟨256 + (x 1).val, by omega⟩ from Fin.ext (by dsimp only; omega)]
      exact close_dv (iblk m c 6 t) (iblk m c 2 t) (iblk m c 0 t) lo (lo (x 0)) (x 0) (x 1) ⟨256 + (x 1).val, by omega⟩ 2 4 5 (by simp) rfl rfl (fun s => by show _ = _; dsimp only [lo, hi]; omega) (by dsimp only [lo, hi]; omega)
    case piece4 =>
      have e0 := h'0
      have e1 := h'1
      change 0 + 1 * r.val = 128 + (x 0).val at e0
      change 0 + 1 * k.val = 128 + (x 1).val at e1
      obtain rfl : r = hi (x 0) := Fin.ext (by dsimp only [lo, hi]; omega)
      rw [show k = ⟨128 + (x 1).val, by omega⟩ from Fin.ext (by dsimp only; omega)]
      exact close_dv (iblk m c 6 t) (iblk m c 2 t) (iblk m c 0 t) hi (hi (x 0)) (x 0) (x 1) ⟨128 + (x 1).val, by omega⟩ 1 2 3 (by simp) rfl rfl (fun s => by show _ = _; dsimp only [lo, hi]; omega) (by dsimp only [lo, hi]; omega)
    case piece5 =>
      have e0 := h'0
      have e1 := h'1
      change 0 + 1 * r.val = (x 0).val at e0
      change 0 + 1 * k.val = 128 + (x 1).val at e1
      obtain rfl : r = lo (x 0) := Fin.ext (by dsimp only [lo, hi]; omega)
      rw [show k = ⟨128 + (x 1).val, by omega⟩ from Fin.ext (by dsimp only; omega)]
      exact close_dv (iblk m c 6 t) (iblk m c 2 t) (iblk m c 0 t) lo (lo (x 0)) (x 0) (x 1) ⟨128 + (x 1).val, by omega⟩ 1 2 3 (by simp) rfl rfl (fun s => by show _ = _; dsimp only [lo, hi]; omega) (by dsimp only [lo, hi]; omega)
    case piece6 =>
      have e0 := h'0
      have e1 := h'1
      change 0 + 1 * r.val = 128 + (x 0).val at e0
      change 0 + 1 * k.val = (x 1).val at e1
      obtain rfl : r = hi (x 0) := Fin.ext (by dsimp only [lo, hi]; omega)
      rw [show k = ⟨(x 1).val, by omega⟩ from Fin.ext (by dsimp only; omega)]
      exact close_dv (iblk m c 6 t) (iblk m c 2 t) (iblk m c 0 t) hi (hi (x 0)) (x 0) (x 1) ⟨(x 1).val, by omega⟩ 0 0 1 (by simp) rfl rfl (fun s => by show _ = _; dsimp only [lo, hi]; omega) (by dsimp only [lo, hi]; omega)
    case piece7 =>
      have e0 := h'0
      have e1 := h'1
      change 0 + 1 * r.val = (x 0).val at e0
      change 0 + 1 * k.val = (x 1).val at e1
      obtain rfl : r = lo (x 0) := Fin.ext (by dsimp only [lo, hi]; omega)
      rw [show k = ⟨(x 1).val, by omega⟩ from Fin.ext (by dsimp only; omega)]
      exact close_dv (iblk m c 6 t) (iblk m c 2 t) (iblk m c 0 t) lo (lo (x 0)) (x 0) (x 1) ⟨(x 1).val, by omega⟩ 0 0 1 (by simp) rfl rfl (fun s => by show _ = _; dsimp only [lo, hi]; omega) (by dsimp only [lo, hi]; omega)
  open_payloads
  pointwise
  simp only [hdv]
  simp only [read_unread_whole]
  rfl
/-- A middle point writes its block of the first result. -/
theorem o8_B (c : Dev nD) (t : Fin cfg0.N) (acc) (h0 : ¬t.val % 16 = 0) (h1 : ¬t.val % 16 = 15) (r : Fin 256) (k : Fin 1024) :
    (stAt0 (F := Ideal) m c t.val t.isLt acc).1 (ix2 r k)
      = o8B (iblk m c 3 t) (iblk m c 7 t) (iblk m c 5 t) (iblk m c 6 t) (iblk m c 2 t) (iblk m c 0 t) (iblk m c 1 t) (k0_pay13 (iblk m c 3 t) (iblk m c 1 t) (iblk m c 4 t)) r k := by
  rw [stAt0_B m c t acc h0 h1]
  frame_out
  generalize hDV : View.readCov (Val := Elt Ideal) _ (_ :: _ :: _) _ = DV
  have hdv : ∀ (r : Fin 256) (k : Fin 512), DV (ix2 r k) = dvB (iblk m c 6 t) (iblk m c 2 t) (iblk m c 0 t) r k := by
    intro r k
    rw [← hDV, View.readCov_eq_canon']
    canon_tiles x h'
    all_goals
      open_payloads
      pointwise
    case piece0 =>
      have e0 := h'0
      have e1 := h'1
      change 0 + 1 * r.val = 128 + (x 0).val at e0
      change 0 + 1 * k.val = 384 + (x 1).val at e1
      obtain rfl : r = hi (x 0) := Fin.ext (by dsimp only [lo, hi]; omega)
      rw [show k = ⟨384 + (x 1).val, by omega⟩ from Fin.ext (by dsimp only; omega)]
      exact close_dv (iblk m c 6 t) (iblk m c 2 t) (iblk m c 0 t) hi (hi (x 0)) (x 0) (x 1) ⟨384 + (x 1).val, by omega⟩ 3 6 7 (by simp) rfl rfl (fun s => by show _ = _; dsimp only [lo, hi]; omega) (by dsimp only [lo, hi]; omega)
    case piece1 =>
      have e0 := h'0
      have e1 := h'1
      change 0 + 1 * r.val = (x 0).val at e0
      change 0 + 1 * k.val = 384 + (x 1).val at e1
      obtain rfl : r = lo (x 0) := Fin.ext (by dsimp only [lo, hi]; omega)
      rw [show k = ⟨384 + (x 1).val, by omega⟩ from Fin.ext (by dsimp only; omega)]
      exact close_dv (iblk m c 6 t) (iblk m c 2 t) (iblk m c 0 t) lo (lo (x 0)) (x 0) (x 1) ⟨384 + (x 1).val, by omega⟩ 3 6 7 (by simp) rfl rfl (fun s => by show _ = _; dsimp only [lo, hi]; omega) (by dsimp only [lo, hi]; omega)
    case piece2 =>
      have e0 := h'0
      have e1 := h'1
      change 0 + 1 * r.val = 128 + (x 0).val at e0
      change 0 + 1 * k.val = 256 + (x 1).val at e1
      obtain rfl : r = hi (x 0) := Fin.ext (by dsimp only [lo, hi]; omega)
      rw [show k = ⟨256 + (x 1).val, by omega⟩ from Fin.ext (by dsimp only; omega)]
      exact close_dv (iblk m c 6 t) (iblk m c 2 t) (iblk m c 0 t) hi (hi (x 0)) (x 0) (x 1) ⟨256 + (x 1).val, by omega⟩ 2 4 5 (by simp) rfl rfl (fun s => by show _ = _; dsimp only [lo, hi]; omega) (by dsimp only [lo, hi]; omega)
    case piece3 =>
      have e0 := h'0
      have e1 := h'1
      change 0 + 1 * r.val = (x 0).val at e0
      change 0 + 1 * k.val = 256 + (x 1).val at e1
      obtain rfl : r = lo (x 0) := Fin.ext (by dsimp only [lo, hi]; omega)
      rw [show k = ⟨256 + (x 1).val, by omega⟩ from Fin.ext (by dsimp only; omega)]
      exact close_dv (iblk m c 6 t) (iblk m c 2 t) (iblk m c 0 t) lo (lo (x 0)) (x 0) (x 1) ⟨256 + (x 1).val, by omega⟩ 2 4 5 (by simp) rfl rfl (fun s => by show _ = _; dsimp only [lo, hi]; omega) (by dsimp only [lo, hi]; omega)
    case piece4 =>
      have e0 := h'0
      have e1 := h'1
      change 0 + 1 * r.val = 128 + (x 0).val at e0
      change 0 + 1 * k.val = 128 + (x 1).val at e1
      obtain rfl : r = hi (x 0) := Fin.ext (by dsimp only [lo, hi]; omega)
      rw [show k = ⟨128 + (x 1).val, by omega⟩ from Fin.ext (by dsimp only; omega)]
      exact close_dv (iblk m c 6 t) (iblk m c 2 t) (iblk m c 0 t) hi (hi (x 0)) (x 0) (x 1) ⟨128 + (x 1).val, by omega⟩ 1 2 3 (by simp) rfl rfl (fun s => by show _ = _; dsimp only [lo, hi]; omega) (by dsimp only [lo, hi]; omega)
    case piece5 =>
      have e0 := h'0
      have e1 := h'1
      change 0 + 1 * r.val = (x 0).val at e0
      change 0 + 1 * k.val = 128 + (x 1).val at e1
      obtain rfl : r = lo (x 0) := Fin.ext (by dsimp only [lo, hi]; omega)
      rw [show k = ⟨128 + (x 1).val, by omega⟩ from Fin.ext (by dsimp only; omega)]
      exact close_dv (iblk m c 6 t) (iblk m c 2 t) (iblk m c 0 t) lo (lo (x 0)) (x 0) (x 1) ⟨128 + (x 1).val, by omega⟩ 1 2 3 (by simp) rfl rfl (fun s => by show _ = _; dsimp only [lo, hi]; omega) (by dsimp only [lo, hi]; omega)
    case piece6 =>
      have e0 := h'0
      have e1 := h'1
      change 0 + 1 * r.val = 128 + (x 0).val at e0
      change 0 + 1 * k.val = (x 1).val at e1
      obtain rfl : r = hi (x 0) := Fin.ext (by dsimp only [lo, hi]; omega)
      rw [show k = ⟨(x 1).val, by omega⟩ from Fin.ext (by dsimp only; omega)]
      exact close_dv (iblk m c 6 t) (iblk m c 2 t) (iblk m c 0 t) hi (hi (x 0)) (x 0) (x 1) ⟨(x 1).val, by omega⟩ 0 0 1 (by simp) rfl rfl (fun s => by show _ = _; dsimp only [lo, hi]; omega) (by dsimp only [lo, hi]; omega)
    case piece7 =>
      have e0 := h'0
      have e1 := h'1
      change 0 + 1 * r.val = (x 0).val at e0
      change 0 + 1 * k.val = (x 1).val at e1
      obtain rfl : r = lo (x 0) := Fin.ext (by dsimp only [lo, hi]; omega)
      rw [show k = ⟨(x 1).val, by omega⟩ from Fin.ext (by dsimp only; omega)]
      exact close_dv (iblk m c 6 t) (iblk m c 2 t) (iblk m c 0 t) lo (lo (x 0)) (x 0) (x 1) ⟨(x 1).val, by omega⟩ 0 0 1 (by simp) rfl rfl (fun s => by show _ = _; dsimp only [lo, hi]; omega) (by dsimp only [lo, hi]; omega)
  canon_tiles x h' using (View.cover_of_tiledBy _ ![128, 128] (by sl_kernel_rfl) _)
  case piece0 =>
    obtain ⟨a1, a2, rfl⟩ : ∃ (a1 : Fin 256) (a2 : Fin 512), x = ix2 a1 a2 := ⟨x 0, x 1, eq_ix2 x⟩
    obtain rfl : r = a1 := Fin.ext h'0
    have hk : k.val = 512 + a2.val := h'1
    unfold o8B
    rw [dif_neg (show ¬k.val < 512 by omega)]
    rw [show (⟨k.val - 512, by omega⟩ : Fin 512) = a2 from Fin.ext (by show k.val - 512 = a2.val; omega)]
    open_payloads
    pointwise
    have hf : (fun l => dvB (iblk m c 6 t) (iblk m c 2 t) (iblk m c 0 t) r l) = fun l => DV (ix2 r l) := funext fun l => (hdv _ l).symm
    exact congrArg (fun f => dln (fun l => iblk m c 3 t (ix2 0 l)) (brow (iblk m c 1 t) r) f a2) hf.symm
  case piece1 =>
    obtain rfl : r = hi (x 0) := Fin.ext h'0
    have hk : k.val = 384 + (x 1).val := h'1
    unfold o8B
    rw [dif_pos (show k.val < 512 by omega), show (⟨k.val, by omega⟩ : Fin 512) = ⟨384 + (x 1).val, by omega⟩ from Fin.ext hk]
    generalize k0_pay13 (F := Ideal) _ _ _ = W
    open_payloads
    pointwise
    exact close_mix _ (iblk m c 5 t) (iblk m c 7 t) W hi (hi (x 0)) (x 0) (x 1) ⟨384 + (x 1).val, by omega⟩ 3 6 7 (by simp) rfl rfl (fun s => by show _ = _; dsimp only [lo, hi]; omega) (by dsimp only [lo, hi]; omega)
  case piece2 =>
    obtain rfl : r = lo (x 0) := Fin.ext h'0
    have hk : k.val = 384 + (x 1).val := h'1
    unfold o8B
    rw [dif_pos (show k.val < 512 by omega), show (⟨k.val, by omega⟩ : Fin 512) = ⟨384 + (x 1).val, by omega⟩ from Fin.ext hk]
    generalize k0_pay13 (F := Ideal) _ _ _ = W
    open_payloads
    pointwise
    exact close_mix _ (iblk m c 5 t) (iblk m c 7 t) W lo (lo (x 0)) (x 0) (x 1) ⟨384 + (x 1).val, by omega⟩ 3 6 7 (by simp) rfl rfl (fun s => by show _ = _; dsimp only [lo, hi]; omega) (by dsimp only [lo, hi]; omega)
  case piece3 =>
    obtain rfl : r = hi (x 0) := Fin.ext h'0
    have hk : k.val = 256 + (x 1).val := h'1
    unfold o8B
    rw [dif_pos (show k.val < 512 by omega), show (⟨k.val, by omega⟩ : Fin 512) = ⟨256 + (x 1).val, by omega⟩ from Fin.ext hk]
    generalize k0_pay13 (F := Ideal) _ _ _ = W
    open_payloads
    pointwise
    exact close_mix _ (iblk m c 5 t) (iblk m c 7 t) W hi (hi (x 0)) (x 0) (x 1) ⟨256 + (x 1).val, by omega⟩ 2 4 5 (by simp) rfl rfl (fun s => by show _ = _; dsimp only [lo, hi]; omega) (by dsimp only [lo, hi]; omega)
  case piece4 =>
    obtain rfl : r = lo (x 0) := Fin.ext h'0
    have hk : k.val = 256 + (x 1).val := h'1
    unfold o8B
    rw [dif_pos (show k.val < 512 by omega), show (⟨k.val, by omega⟩ : Fin 512) = ⟨256 + (x 1).val, by omega⟩ from Fin.ext hk]
    generalize k0_pay13 (F := Ideal) _ _ _ = W
    open_payloads
    pointwise
    exact close_mix _ (iblk m c 5 t) (iblk m c 7 t) W lo (lo (x 0)) (x 0) (x 1) ⟨256 + (x 1).val, by omega⟩ 2 4 5 (by simp) rfl rfl (fun s => by show _ = _; dsimp only [lo, hi]; omega) (by dsimp only [lo, hi]; omega)
  case piece5 =>
    obtain rfl : r = hi (x 0) := Fin.ext h'0
    have hk : k.val = 128 + (x 1).val := h'1
    unfold o8B
    rw [dif_pos (show k.val < 512 by omega), show (⟨k.val, by omega⟩ : Fin 512) = ⟨128 + (x 1).val, by omega⟩ from Fin.ext hk]
    generalize k0_pay13 (F := Ideal) _ _ _ = W
    open_payloads
    pointwise
    exact close_mix _ (iblk m c 5 t) (iblk m c 7 t) W hi (hi (x 0)) (x 0) (x 1) ⟨128 + (x 1).val, by omega⟩ 1 2 3 (by simp) rfl rfl (fun s => by show _ = _; dsimp only [lo, hi]; omega) (by dsimp only [lo, hi]; omega)
  case piece6 =>
    obtain rfl : r = lo (x 0) := Fin.ext h'0
    have hk : k.val = 128 + (x 1).val := h'1
    unfold o8B
    rw [dif_pos (show k.val < 512 by omega), show (⟨k.val, by omega⟩ : Fin 512) = ⟨128 + (x 1).val, by omega⟩ from Fin.ext hk]
    generalize k0_pay13 (F := Ideal) _ _ _ = W
    open_payloads
    pointwise
    exact close_mix _ (iblk m c 5 t) (iblk m c 7 t) W lo (lo (x 0)) (x 0) (x 1) ⟨128 + (x 1).val, by omega⟩ 1 2 3 (by simp) rfl rfl (fun s => by show _ = _; dsimp only [lo, hi]; omega) (by dsimp only [lo, hi]; omega)
  case piece7 =>
    obtain rfl : r = hi (x 0) := Fin.ext h'0
    have hk : k.val = (x 1).val := h'1
    unfold o8B
    rw [dif_pos (show k.val < 512 by omega), show (⟨k.val, by omega⟩ : Fin 512) = ⟨(x 1).val, by omega⟩ from Fin.ext hk]
    generalize k0_pay13 (F := Ideal) _ _ _ = W
    open_payloads
    pointwise
    exact close_mix _ (iblk m c 5 t) (iblk m c 7 t) W hi (hi (x 0)) (x 0) (x 1) ⟨(x 1).val, by omega⟩ 0 0 1 (by simp) rfl rfl (fun s => by show _ = _; dsimp only [lo, hi]; omega) (by dsimp only [lo, hi]; omega)
  case piece8 =>
    obtain rfl : r = lo (x 0) := Fin.ext h'0
    have hk : k.val = (x 1).val := h'1
    unfold o8B
    rw [dif_pos (show k.val < 512 by omega), show (⟨k.val, by omega⟩ : Fin 512) = ⟨(x 1).val, by omega⟩ from Fin.ext hk]
    generalize k0_pay13 (F := Ideal) _ _ _ = W
    open_payloads
    pointwise
    exact close_mix _ (iblk m c 5 t) (iblk m c 7 t) W lo (lo (x 0)) (x 0) (x 1) ⟨(x 1).val, by omega⟩ 0 0 1 (by simp) rfl rfl (fun s => by show _ = _; dsimp only [lo, hi]; omega) (by dsimp only [lo, hi]; omega)

end Cert.KernelIdeal.SguVal

end
-- ==== Proof.SguC.lean ====
/- What the last point of the grid leaves in each buffer. -/
module

public import proofs.«01_k».proof.Proof.SguCore
public import proofs.«01_k».proof.Proof.Gen.KernelIdeal.Value
public import Idealize.ShloMosaic.Lib.Pointwise
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.SguVal

open Cert.KernelIdeal Cert.KernelIdeal.Gen Cert.Sgu

open Cert.KernelIdeal.Value Cert.KernelIdeal.SguCore

variable (m : (ℓ : Loc nD τ sig) → Buf (Elt Ideal) ℓ)

/-- The last point adds its block's part to the mixing matrices' gradient. -/
theorem dw_C (c : Dev nD) (t : Fin cfg0.N) (acc) (h0 : ¬t.val % 16 = 0) (h1 : t.val % 16 = 15) (h : Fin 8) (a b : Fin 128) :
    (stAt0 (F := Ideal) m c t.val t.isLt acc).2.1 (ix3 h a b)
      = acc.2.1 (ix3 h a b) + dwpt (iblk m c 2 t) (iblk m c 0 t) (k0_pay13 (iblk m c 3 t) (iblk m c 1 t) (iblk m c 4 t)) h a b := by
  rw [stAt0_C m c t acc h0 h1]
  frame_out
  canon_tiles x h'
  all_goals
    obtain rfl : a = x 1 := Fin.ext h'1
    obtain rfl : b = x 2 := Fin.ext h'2
    generalize k0_pay13 (F := Ideal) _ _ _ = W
    have hh := h'0
    change h.val = _ at hh
    open_payloads
    pointwise
  case piece0 => exact close_hi acc.2.1 (iblk m c 2 t) (iblk m c 0 t) W h 7 (x 1) (x 2) (fun l => ⟨384 + l.val, by omega⟩) (fun k => by dsimp only; omega) (by show 7 = h.val; omega)
  case piece1 => exact close_lo acc.2.1 (iblk m c 2 t) (iblk m c 0 t) W h 6 (x 1) (x 2) (fun l => ⟨384 + l.val, by omega⟩) (fun k => by dsimp only; omega) (by show 6 = h.val; omega)
  case piece2 => exact close_hi acc.2.1 (iblk m c 2 t) (iblk m c 0 t) W h 5 (x 1) (x 2) (fun l => ⟨256 + l.val, by omega⟩) (fun k => by dsimp only; omega) (by show 5 = h.val; omega)
  case piece3 => exact close_lo acc.2.1 (iblk m c 2 t) (iblk m c 0 t) W h 4 (x 1) (x 2) (fun l => ⟨256 + l.val, by omega⟩) (fun k => by dsimp only; omega) (by show 4 = h.val; omega)
  case piece4 => exact close_hi acc.2.1 (iblk m c 2 t) (iblk m c 0 t) W h 3 (x 1) (x 2) (fun l => ⟨128 + l.val, by omega⟩) (fun k => by dsimp only; omega) (by show 3 = h.val; omega)
  case piece5 => exact close_lo acc.2.1 (iblk m c 2 t) (iblk m c 0 t) W h 2 (x 1) (x 2) (fun l => ⟨128 + l.val, by omega⟩) (fun k => by dsimp only; omega) (by show 2 = h.val; omega)
  case piece6 => exact close_hi acc.2.1 (iblk m c 2 t) (iblk m c 0 t) W h 1 (x 1) (x 2) (fun l => ⟨l.val, by omega⟩) (fun k => by dsimp only; omega) (by show 1 = h.val; omega)
  case piece7 => exact close_lo acc.2.1 (iblk m c 2 t) (iblk m c 0 t) W h 0 (x 1) (x 2) (fun l => ⟨l.val, by omega⟩) (fun k => by dsimp only; omega) (by show 0 = h.val; omega)

/-- The last point adds its block's part to the bias gradient before the fold over channels. -/
theorem ab_C (c : Dev nD) (t : Fin cfg0.N) (acc) (h0 : ¬t.val % 16 = 0) (h1 : t.val % 16 = 15) (a : Fin 128) (k : Fin 512) :
    (stAt0 (F := Ideal) m c t.val t.isLt acc).2.2.2.2.2.1 (ix2 a k)
      = abpt acc.2.2.2.2.2.1 (iblk m c 2 t) (iblk m c 0 t) a k := by
  rw [stAt0_C m c t acc h0 h1]
  frame_out
  simp (disch := decide) only [↓ View.readCov_skip, ↓ View.readCov_cons_toLoadRect, read_unread_whole]
  refine (canon_shadow _ _ _ _ _ []).trans ?_
  refine (canon_shadow _ _ _ _ _ [_]).trans ?_
  refine (canon_shadow _ _ _ _ _ [_, _]).trans ?_
  refine (canon_shadow _ _ _ _ _ [_, _, _]).trans ?_
  dsimp only [List.cons_append, List.nil_append]
  canon_tiles x h'
  all_goals
    obtain rfl : a = x 0 := Fin.ext h'0
    open_payloads
    pointwise
  case piece0 =>
    rw [show k = ⟨384 + (x 1).val, by omega⟩ from Fin.ext h'1]
    rfl
  case piece1 =>
    rw [show k = ⟨256 + (x 1).val, by omega⟩ from Fin.ext h'1]
    rfl
  case piece2 =>
    rw [show k = ⟨128 + (x 1).val, by omega⟩ from Fin.ext h'1]
    rfl
  case piece3 =>
    rw [show k = ⟨(x 1).val, by omega⟩ from Fin.ext h'1]
    rfl

/-- The last point adds its block's part to the scale's gradient, folded to eight rows. -/
theorem ag_C (c : Dev nD) (t : Fin cfg0.N) (acc) (h0 : ¬t.val % 16 = 0) (h1 : t.val % 16 = 15) (a : Fin 8) (k : Fin 512) :
    (stAt0 (F := Ideal) m c t.val t.isLt acc).2.2.2.2.2.2.1 (ix2 a k)
      = acc.2.2.2.2.2.2.1 (ix2 a k) + agpt (iblk m c 6 t) (iblk m c 2 t) (iblk m c 0 t) (iblk m c 1 t) a k := by
  rw [stAt0_C m c t acc h0 h1]
  frame_out
  generalize hDV : View.readCov (Val := Elt Ideal) _ (_ :: _ :: _) _ = DV
  have hdv : ∀ (r : Fin 256) (k : Fin 512), DV (ix2 r k) = dvB (iblk m c 6 t) (iblk m c 2 t) (iblk m c 0 t) r k := by
    intro r k
    rw [← hDV, View.readCov_eq_canon']
    canon_tiles x h'
    all_goals
      open_payloads
      pointwise
    case piece0 =>
      have e0 := h'0
      have e1 := h'1
      change 0 + 1 * r.val = 128 + (x 0).val at e0
      change 0 + 1 * k.val = 384 + (x 1).val at e1
      obtain rfl : r = hi (x 0) := Fin.ext (by dsimp only [lo, hi]; omega)
      rw [show k = ⟨384 + (x 1).val, by omega⟩ from Fin.ext (by dsimp only; omega)]
      exact close_dv (iblk m c 6 t) (iblk m c 2 t) (iblk m c 0 t) hi (hi (x 0)) (x 0) (x 1) ⟨384 + (x 1).val, by omega⟩ 3 6 7 (by simp) rfl rfl (fun s => by show _ = _; dsimp only [lo, hi]; omega) (by dsimp only [lo, hi]; omega)
    case piece1 =>
      have e0 := h'0
      have e1 := h'1
      change 0 + 1 * r.val = (x 0).val at e0
      change 0 + 1 * k.val = 384 + (x 1).val at e1
      obtain rfl : r = lo (x 0) := Fin.ext (by dsimp only [lo, hi]; omega)
      rw [show k = ⟨384 + (x 1).val, by omega⟩ from Fin.ext (by dsimp only; omega)]
      exact close_dv (iblk m c 6 t) (iblk m c 2 t) (iblk m c 0 t) lo (lo (x 0)) (x 0) (x 1) ⟨384 + (x 1).val, by omega⟩ 3 6 7 (by simp) rfl rfl (fun s => by show _ = _; dsimp only [lo, hi]; omega) (by dsimp only [lo, hi]; omega)
    case piece2 =>
      have e0 := h'0
      have e1 := h'1
      change 0 + 1 * r.val = 128 + (x 0).val at e0
      change 0 + 1 * k.val = 256 + (x 1).val at e1
      obtain rfl : r = hi (x 0) := Fin.ext (by dsimp only [lo, hi]; omega)
      rw [show k = ⟨256 + (x 1).val, by omega⟩ from Fin.ext (by dsimp only; omega)]
      exact close_dv (iblk m c 6 t) (iblk m c 2 t) (iblk m c 0 t) hi (hi (x 0)) (x 0) (x 1) ⟨256 + (x 1).val, by omega⟩ 2 4 5 (by simp) rfl rfl (fun s => by show _ = _; dsimp only [lo, hi]; omega) (by dsimp only [lo, hi]; omega)
    case piece3 =>
      have e0 := h'0
      have e1 := h'1
      change 0 + 1 * r.val = (x 0).val at e0
      change 0 + 1 * k.val = 256 + (x 1).val at e1
      obtain rfl : r = lo (x 0) := Fin.ext (by dsimp only [lo, hi]; omega)
      rw [show k = ⟨256 + (x 1).val, by omega⟩ from Fin.ext (by dsimp only; omega)]
      exact close_dv (iblk m c 6 t) (iblk m c 2 t) (iblk m c 0 t) lo (lo (x 0)) (x 0) (x 1) ⟨256 + (x 1).val, by omega⟩ 2 4 5 (by simp) rfl rfl (fun s => by show _ = _; dsimp only [lo, hi]; omega) (by dsimp only [lo, hi]; omega)
    case piece4 =>
      have e0 := h'0
      have e1 := h'1
      change 0 + 1 * r.val = 128 + (x 0).val at e0
      change 0 + 1 * k.val = 128 + (x 1).val at e1
      obtain rfl : r = hi (x 0) := Fin.ext (by dsimp only [lo, hi]; omega)
      rw [show k = ⟨128 + (x 1).val, by omega⟩ from Fin.ext (by dsimp only; omega)]
      exact close_dv (iblk m c 6 t) (iblk m c 2 t) (iblk m c 0 t) hi (hi (x 0)) (x 0) (x 1) ⟨128 + (x 1).val, by omega⟩ 1 2 3 (by simp) rfl rfl (fun s => by show _ = _; dsimp only [lo, hi]; omega) (by dsimp only [lo, hi]; omega)
    case piece5 =>
      have e0 := h'0
      have e1 := h'1
      change 0 + 1 * r.val = (x 0).val at e0
      change 0 + 1 * k.val = 128 + (x 1).val at e1
      obtain rfl : r = lo (x 0) := Fin.ext (by dsimp only [lo, hi]; omega)
      rw [show k = ⟨128 + (x 1).val, by omega⟩ from Fin.ext (by dsimp only; omega)]
      exact close_dv (iblk m c 6 t) (iblk m c 2 t) (iblk m c 0 t) lo (lo (x 0)) (x 0) (x 1) ⟨128 + (x 1).val, by omega⟩ 1 2 3 (by simp) rfl rfl (fun s => by show _ = _; dsimp only [lo, hi]; omega) (by dsimp only [lo, hi]; omega)
    case piece6 =>
      have e0 := h'0
      have e1 := h'1
      change 0 + 1 * r.val = 128 + (x 0).val at e0
      change 0 + 1 * k.val = (x 1).val at e1
      obtain rfl : r = hi (x 0) := Fin.ext (by dsimp only [lo, hi]; omega)
      rw [show k = ⟨(x 1).val, by omega⟩ from Fin.ext (by dsimp only; omega)]
      exact close_dv (iblk m c 6 t) (iblk m c 2 t) (iblk m c 0 t) hi (hi (x 0)) (x 0) (x 1) ⟨(x 1).val, by omega⟩ 0 0 1 (by simp) rfl rfl (fun s => by show _ = _; dsimp only [lo, hi]; omega) (by dsimp only [lo, hi]; omega)
    case piece7 =>
      have e0 := h'0
      have e1 := h'1
      change 0 + 1 * r.val = (x 0).val at e0
      change 0 + 1 * k.val = (x 1).val at e1
      obtain rfl : r = lo (x 0) := Fin.ext (by dsimp only [lo, hi]; omega)
      rw [show k = ⟨(x 1).val, by omega⟩ from Fin.ext (by dsimp only; omega)]
      exact close_dv (iblk m c 6 t) (iblk m c 2 t) (iblk m c 0 t) lo (lo (x 0)) (x 0) (x 1) ⟨(x 1).val, by omega⟩ 0 0 1 (by simp) rfl rfl (fun s => by show _ = _; dsimp only [lo, hi]; omega) (by dsimp only [lo, hi]; omega)
  open_payloads
  pointwise
  simp only [hdv]
  simp only [read_unread_whole]
  rfl
/-- The last point adds its block's part to the shift's gradient, folded to eight rows. -/
theorem abb_C (c : Dev nD) (t : Fin cfg0.N) (acc) (h0 : ¬t.val % 16 = 0) (h1 : t.val % 16 = 15) (a : Fin 8) (k : Fin 512) :
    (stAt0 (F := Ideal) m c t.val t.isLt acc).2.2.2.2.2.2.2 (ix2 a k)
      = acc.2.2.2.2.2.2.2 (ix2 a k) + abbpt (iblk m c 6 t) (iblk m c 2 t) (iblk m c 0 t) a k := by
  rw [stAt0_C m c t acc h0 h1]
  frame_out
  generalize hDV : View.readCov (Val := Elt Ideal) _ (_ :: _ :: _) _ = DV
  have hdv : ∀ (r : Fin 256) (k : Fin 512), DV (ix2 r k) = dvB (iblk m c 6 t) (iblk m c 2 t) (iblk m c 0 t) r k := by
    intro r k
    rw [← hDV, View.readCov_eq_canon']
    canon_tiles x h'
    all_goals
      open_payloads
      pointwise
    case piece0 =>
      have e0 := h'0
      have e1 := h'1
      change 0 + 1 * r.val = 128 + (x 0).val at e0
      change 0 + 1 * k.val = 384 + (x 1).val at e1
      obtain rfl : r = hi (x 0) := Fin.ext (by dsimp only [lo, hi]; omega)
      rw [show k = ⟨384 + (x 1).val, by omega⟩ from Fin.ext (by dsimp only; omega)]
      exact close_dv (iblk m c 6 t) (iblk m c 2 t) (iblk m c 0 t) hi (hi (x 0)) (x 0) (x 1) ⟨384 + (x 1).val, by omega⟩ 3 6 7 (by simp) rfl rfl (fun s => by show _ = _; dsimp only [lo, hi]; omega) (by dsimp only [lo, hi]; omega)
    case piece1 =>
      have e0 := h'0
      have e1 := h'1
      change 0 + 1 * r.val = (x 0).val at e0
      change 0 + 1 * k.val = 384 + (x 1).val at e1
      obtain rfl : r = lo (x 0) := Fin.ext (by dsimp only [lo, hi]; omega)
      rw [show k = ⟨384 + (x 1).val, by omega⟩ from Fin.ext (by dsimp only; omega)]
      exact close_dv (iblk m c 6 t) (iblk m c 2 t) (iblk m c 0 t) lo (lo (x 0)) (x 0) (x 1) ⟨384 + (x 1).val, by omega⟩ 3 6 7 (by simp) rfl rfl (fun s => by show _ = _; dsimp only [lo, hi]; omega) (by dsimp only [lo, hi]; omega)
    case piece2 =>
      have e0 := h'0
      have e1 := h'1
      change 0 + 1 * r.val = 128 + (x 0).val at e0
      change 0 + 1 * k.val = 256 + (x 1).val at e1
      obtain rfl : r = hi (x 0) := Fin.ext (by dsimp only [lo, hi]; omega)
      rw [show k = ⟨256 + (x 1).val, by omega⟩ from Fin.ext (by dsimp only; omega)]
      exact close_dv (iblk m c 6 t) (iblk m c 2 t) (iblk m c 0 t) hi (hi (x 0)) (x 0) (x 1) ⟨256 + (x 1).val, by omega⟩ 2 4 5 (by simp) rfl rfl (fun s => by show _ = _; dsimp only [lo, hi]; omega) (by dsimp only [lo, hi]; omega)
    case piece3 =>
      have e0 := h'0
      have e1 := h'1
      change 0 + 1 * r.val = (x 0).val at e0
      change 0 + 1 * k.val = 256 + (x 1).val at e1
      obtain rfl : r = lo (x 0) := Fin.ext (by dsimp only [lo, hi]; omega)
      rw [show k = ⟨256 + (x 1).val, by omega⟩ from Fin.ext (by dsimp only; omega)]
      exact close_dv (iblk m c 6 t) (iblk m c 2 t) (iblk m c 0 t) lo (lo (x 0)) (x 0) (x 1) ⟨256 + (x 1).val, by omega⟩ 2 4 5 (by simp) rfl rfl (fun s => by show _ = _; dsimp only [lo, hi]; omega) (by dsimp only [lo, hi]; omega)
    case piece4 =>
      have e0 := h'0
      have e1 := h'1
      change 0 + 1 * r.val = 128 + (x 0).val at e0
      change 0 + 1 * k.val = 128 + (x 1).val at e1
      obtain rfl : r = hi (x 0) := Fin.ext (by dsimp only [lo, hi]; omega)
      rw [show k = ⟨128 + (x 1).val, by omega⟩ from Fin.ext (by dsimp only; omega)]
      exact close_dv (iblk m c 6 t) (iblk m c 2 t) (iblk m c 0 t) hi (hi (x 0)) (x 0) (x 1) ⟨128 + (x 1).val, by omega⟩ 1 2 3 (by simp) rfl rfl (fun s => by show _ = _; dsimp only [lo, hi]; omega) (by dsimp only [lo, hi]; omega)
    case piece5 =>
      have e0 := h'0
      have e1 := h'1
      change 0 + 1 * r.val = (x 0).val at e0
      change 0 + 1 * k.val = 128 + (x 1).val at e1
      obtain rfl : r = lo (x 0) := Fin.ext (by dsimp only [lo, hi]; omega)
      rw [show k = ⟨128 + (x 1).val, by omega⟩ from Fin.ext (by dsimp only; omega)]
      exact close_dv (iblk m c 6 t) (iblk m c 2 t) (iblk m c 0 t) lo (lo (x 0)) (x 0) (x 1) ⟨128 + (x 1).val, by omega⟩ 1 2 3 (by simp) rfl rfl (fun s => by show _ = _; dsimp only [lo, hi]; omega) (by dsimp only [lo, hi]; omega)
    case piece6 =>
      have e0 := h'0
      have e1 := h'1
      change 0 + 1 * r.val = 128 + (x 0).val at e0
      change 0 + 1 * k.val = (x 1).val at e1
      obtain rfl : r = hi (x 0) := Fin.ext (by dsimp only [lo, hi]; omega)
      rw [show k = ⟨(x 1).val, by omega⟩ from Fin.ext (by dsimp only; omega)]
      exact close_dv (iblk m c 6 t) (iblk m c 2 t) (iblk m c 0 t) hi (hi (x 0)) (x 0) (x 1) ⟨(x 1).val, by omega⟩ 0 0 1 (by simp) rfl rfl (fun s => by show _ = _; dsimp only [lo, hi]; omega) (by dsimp only [lo, hi]; omega)
    case piece7 =>
      have e0 := h'0
      have e1 := h'1
      change 0 + 1 * r.val = (x 0).val at e0
      change 0 + 1 * k.val = (x 1).val at e1
      obtain rfl : r = lo (x 0) := Fin.ext (by dsimp only [lo, hi]; omega)
      rw [show k = ⟨(x 1).val, by omega⟩ from Fin.ext (by dsimp only; omega)]
      exact close_dv (iblk m c 6 t) (iblk m c 2 t) (iblk m c 0 t) lo (lo (x 0)) (x 0) (x 1) ⟨(x 1).val, by omega⟩ 0 0 1 (by simp) rfl rfl (fun s => by show _ = _; dsimp only [lo, hi]; omega) (by dsimp only [lo, hi]; omega)
  open_payloads
  pointwise
  simp only [hdv]
  simp only [read_unread_whole]
  rfl
/-- The last point writes its block of the first result. -/
theorem o8_C (c : Dev nD) (t : Fin cfg0.N) (acc) (h0 : ¬t.val % 16 = 0) (h1 : t.val % 16 = 15) (r : Fin 256) (k : Fin 1024) :
    (stAt0 (F := Ideal) m c t.val t.isLt acc).1 (ix2 r k)
      = o8B (iblk m c 3 t) (iblk m c 7 t) (iblk m c 5 t) (iblk m c 6 t) (iblk m c 2 t) (iblk m c 0 t) (iblk m c 1 t) (k0_pay13 (iblk m c 3 t) (iblk m c 1 t) (iblk m c 4 t)) r k := by
  rw [stAt0_C m c t acc h0 h1]
  frame_out
  generalize hDV : View.readCov (Val := Elt Ideal) _ (_ :: _ :: _) _ = DV
  have hdv : ∀ (r : Fin 256) (k : Fin 512), DV (ix2 r k) = dvB (iblk m c 6 t) (iblk m c 2 t) (iblk m c 0 t) r k := by
    intro r k
    rw [← hDV, View.readCov_eq_canon']
    canon_tiles x h'
    all_goals
      open_payloads
      pointwise
    case piece0 =>
      have e0 := h'0
      have e1 := h'1
      change 0 + 1 * r.val = 128 + (x 0).val at e0
      change 0 + 1 * k.val = 384 + (x 1).val at e1
      obtain rfl : r = hi (x 0) := Fin.ext (by dsimp only [lo, hi]; omega)
      rw [show k = ⟨384 + (x 1).val, by omega⟩ from Fin.ext (by dsimp only; omega)]
      exact close_dv (iblk m c 6 t) (iblk m c 2 t) (iblk m c 0 t) hi (hi (x 0)) (x 0) (x 1) ⟨384 + (x 1).val, by omega⟩ 3 6 7 (by simp) rfl rfl (fun s => by show _ = _; dsimp only [lo, hi]; omega) (by dsimp only [lo, hi]; omega)
    case piece1 =>
      have e0 := h'0
      have e1 := h'1
      change 0 + 1 * r.val = (x 0).val at e0
      change 0 + 1 * k.val = 384 + (x 1).val at e1
      obtain rfl : r = lo (x 0) := Fin.ext (by dsimp only [lo, hi]; omega)
      rw [show k = ⟨384 + (x 1).val, by omega⟩ from Fin.ext (by dsimp only; omega)]
      exact close_dv (iblk m c 6 t) (iblk m c 2 t) (iblk m c 0 t) lo (lo (x 0)) (x 0) (x 1) ⟨384 + (x 1).val, by omega⟩ 3 6 7 (by simp) rfl rfl (fun s => by show _ = _; dsimp only [lo, hi]; omega) (by dsimp only [lo, hi]; omega)
    case piece2 =>
      have e0 := h'0
      have e1 := h'1
      change 0 + 1 * r.val = 128 + (x 0).val at e0
      change 0 + 1 * k.val = 256 + (x 1).val at e1
      obtain rfl : r = hi (x 0) := Fin.ext (by dsimp only [lo, hi]; omega)
      rw [show k = ⟨256 + (x 1).val, by omega⟩ from Fin.ext (by dsimp only; omega)]
      exact close_dv (iblk m c 6 t) (iblk m c 2 t) (iblk m c 0 t) hi (hi (x 0)) (x 0) (x 1) ⟨256 + (x 1).val, by omega⟩ 2 4 5 (by simp) rfl rfl (fun s => by show _ = _; dsimp only [lo, hi]; omega) (by dsimp only [lo, hi]; omega)
    case piece3 =>
      have e0 := h'0
      have e1 := h'1
      change 0 + 1 * r.val = (x 0).val at e0
      change 0 + 1 * k.val = 256 + (x 1).val at e1
      obtain rfl : r = lo (x 0) := Fin.ext (by dsimp only [lo, hi]; omega)
      rw [show k = ⟨256 + (x 1).val, by omega⟩ from Fin.ext (by dsimp only; omega)]
      exact close_dv (iblk m c 6 t) (iblk m c 2 t) (iblk m c 0 t) lo (lo (x 0)) (x 0) (x 1) ⟨256 + (x 1).val, by omega⟩ 2 4 5 (by simp) rfl rfl (fun s => by show _ = _; dsimp only [lo, hi]; omega) (by dsimp only [lo, hi]; omega)
    case piece4 =>
      have e0 := h'0
      have e1 := h'1
      change 0 + 1 * r.val = 128 + (x 0).val at e0
      change 0 + 1 * k.val = 128 + (x 1).val at e1
      obtain rfl : r = hi (x 0) := Fin.ext (by dsimp only [lo, hi]; omega)
      rw [show k = ⟨128 + (x 1).val, by omega⟩ from Fin.ext (by dsimp only; omega)]
      exact close_dv (iblk m c 6 t) (iblk m c 2 t) (iblk m c 0 t) hi (hi (x 0)) (x 0) (x 1) ⟨128 + (x 1).val, by omega⟩ 1 2 3 (by simp) rfl rfl (fun s => by show _ = _; dsimp only [lo, hi]; omega) (by dsimp only [lo, hi]; omega)
    case piece5 =>
      have e0 := h'0
      have e1 := h'1
      change 0 + 1 * r.val = (x 0).val at e0
      change 0 + 1 * k.val = 128 + (x 1).val at e1
      obtain rfl : r = lo (x 0) := Fin.ext (by dsimp only [lo, hi]; omega)
      rw [show k = ⟨128 + (x 1).val, by omega⟩ from Fin.ext (by dsimp only; omega)]
      exact close_dv (iblk m c 6 t) (iblk m c 2 t) (iblk m c 0 t) lo (lo (x 0)) (x 0) (x 1) ⟨128 + (x 1).val, by omega⟩ 1 2 3 (by simp) rfl rfl (fun s => by show _ = _; dsimp only [lo, hi]; omega) (by dsimp only [lo, hi]; omega)
    case piece6 =>
      have e0 := h'0
      have e1 := h'1
      change 0 + 1 * r.val = 128 + (x 0).val at e0
      change 0 + 1 * k.val = (x 1).val at e1
      obtain rfl : r = hi (x 0) := Fin.ext (by dsimp only [lo, hi]; omega)
      rw [show k = ⟨(x 1).val, by omega⟩ from Fin.ext (by dsimp only; omega)]
      exact close_dv (iblk m c 6 t) (iblk m c 2 t) (iblk m c 0 t) hi (hi (x 0)) (x 0) (x 1) ⟨(x 1).val, by omega⟩ 0 0 1 (by simp) rfl rfl (fun s => by show _ = _; dsimp only [lo, hi]; omega) (by dsimp only [lo, hi]; omega)
    case piece7 =>
      have e0 := h'0
      have e1 := h'1
      change 0 + 1 * r.val = (x 0).val at e0
      change 0 + 1 * k.val = (x 1).val at e1
      obtain rfl : r = lo (x 0) := Fin.ext (by dsimp only [lo, hi]; omega)
      rw [show k = ⟨(x 1).val, by omega⟩ from Fin.ext (by dsimp only; omega)]
      exact close_dv (iblk m c 6 t) (iblk m c 2 t) (iblk m c 0 t) lo (lo (x 0)) (x 0) (x 1) ⟨(x 1).val, by omega⟩ 0 0 1 (by simp) rfl rfl (fun s => by show _ = _; dsimp only [lo, hi]; omega) (by dsimp only [lo, hi]; omega)
  canon_tiles x h' using (View.cover_of_tiledBy _ ![128, 128] (by sl_kernel_rfl) _)
  case piece0 =>
    obtain ⟨a1, a2, rfl⟩ : ∃ (a1 : Fin 256) (a2 : Fin 512), x = ix2 a1 a2 := ⟨x 0, x 1, eq_ix2 x⟩
    obtain rfl : r = a1 := Fin.ext h'0
    have hk : k.val = 512 + a2.val := h'1
    unfold o8B
    rw [dif_neg (show ¬k.val < 512 by omega)]
    rw [show (⟨k.val - 512, by omega⟩ : Fin 512) = a2 from Fin.ext (by show k.val - 512 = a2.val; omega)]
    open_payloads
    pointwise
    have hf : (fun l => dvB (iblk m c 6 t) (iblk m c 2 t) (iblk m c 0 t) r l) = fun l => DV (ix2 r l) := funext fun l => (hdv _ l).symm
    exact congrArg (fun f => dln (fun l => iblk m c 3 t (ix2 0 l)) (brow (iblk m c 1 t) r) f a2) hf.symm
  case piece1 =>
    obtain rfl : r = hi (x 0) := Fin.ext h'0
    have hk : k.val = 384 + (x 1).val := h'1
    unfold o8B
    rw [dif_pos (show k.val < 512 by omega), show (⟨k.val, by omega⟩ : Fin 512) = ⟨384 + (x 1).val, by omega⟩ from Fin.ext hk]
    generalize k0_pay13 (F := Ideal) _ _ _ = W
    open_payloads
    pointwise
    exact close_mix _ (iblk m c 5 t) (iblk m c 7 t) W hi (hi (x 0)) (x 0) (x 1) ⟨384 + (x 1).val, by omega⟩ 3 6 7 (by simp) rfl rfl (fun s => by show _ = _; dsimp only [lo, hi]; omega) (by dsimp only [lo, hi]; omega)
  case piece2 =>
    obtain rfl : r = lo (x 0) := Fin.ext h'0
    have hk : k.val = 384 + (x 1).val := h'1
    unfold o8B
    rw [dif_pos (show k.val < 512 by omega), show (⟨k.val, by omega⟩ : Fin 512) = ⟨384 + (x 1).val, by omega⟩ from Fin.ext hk]
    generalize k0_pay13 (F := Ideal) _ _ _ = W
    open_payloads
    pointwise
    exact close_mix _ (iblk m c 5 t) (iblk m c 7 t) W lo (lo (x 0)) (x 0) (x 1) ⟨384 + (x 1).val, by omega⟩ 3 6 7 (by simp) rfl rfl (fun s => by show _ = _; dsimp only [lo, hi]; omega) (by dsimp only [lo, hi]; omega)
  case piece3 =>
    obtain rfl : r = hi (x 0) := Fin.ext h'0
    have hk : k.val = 256 + (x 1).val := h'1
    unfold o8B
    rw [dif_pos (show k.val < 512 by omega), show (⟨k.val, by omega⟩ : Fin 512) = ⟨256 + (x 1).val, by omega⟩ from Fin.ext hk]
    generalize k0_pay13 (F := Ideal) _ _ _ = W
    open_payloads
    pointwise
    exact close_mix _ (iblk m c 5 t) (iblk m c 7 t) W hi (hi (x 0)) (x 0) (x 1) ⟨256 + (x 1).val, by omega⟩ 2 4 5 (by simp) rfl rfl (fun s => by show _ = _; dsimp only [lo, hi]; omega) (by dsimp only [lo, hi]; omega)
  case piece4 =>
    obtain rfl : r = lo (x 0) := Fin.ext h'0
    have hk : k.val = 256 + (x 1).val := h'1
    unfold o8B
    rw [dif_pos (show k.val < 512 by omega), show (⟨k.val, by omega⟩ : Fin 512) = ⟨256 + (x 1).val, by omega⟩ from Fin.ext hk]
    generalize k0_pay13 (F := Ideal) _ _ _ = W
    open_payloads
    pointwise
    exact close_mix _ (iblk m c 5 t) (iblk m c 7 t) W lo (lo (x 0)) (x 0) (x 1) ⟨256 + (x 1).val, by omega⟩ 2 4 5 (by simp) rfl rfl (fun s => by show _ = _; dsimp only [lo, hi]; omega) (by dsimp only [lo, hi]; omega)
  case piece5 =>
    obtain rfl : r = hi (x 0) := Fin.ext h'0
    have hk : k.val = 128 + (x 1).val := h'1
    unfold o8B
    rw [dif_pos (show k.val < 512 by omega), show (⟨k.val, by omega⟩ : Fin 512) = ⟨128 + (x 1).val, by omega⟩ from Fin.ext hk]
    generalize k0_pay13 (F := Ideal) _ _ _ = W
    open_payloads
    pointwise
    exact close_mix _ (iblk m c 5 t) (iblk m c 7 t) W hi (hi (x 0)) (x 0) (x 1) ⟨128 + (x 1).val, by omega⟩ 1 2 3 (by simp) rfl rfl (fun s => by show _ = _; dsimp only [lo, hi]; omega) (by dsimp only [lo, hi]; omega)
  case piece6 =>
    obtain rfl : r = lo (x 0) := Fin.ext h'0
    have hk : k.val = 128 + (x 1).val := h'1
    unfold o8B
    rw [dif_pos (show k.val < 512 by omega), show (⟨k.val, by omega⟩ : Fin 512) = ⟨128 + (x 1).val, by omega⟩ from Fin.ext hk]
    generalize k0_pay13 (F := Ideal) _ _ _ = W
    open_payloads
    pointwise
    exact close_mix _ (iblk m c 5 t) (iblk m c 7 t) W lo (lo (x 0)) (x 0) (x 1) ⟨128 + (x 1).val, by omega⟩ 1 2 3 (by simp) rfl rfl (fun s => by show _ = _; dsimp only [lo, hi]; omega) (by dsimp only [lo, hi]; omega)
  case piece7 =>
    obtain rfl : r = hi (x 0) := Fin.ext h'0
    have hk : k.val = (x 1).val := h'1
    unfold o8B
    rw [dif_pos (show k.val < 512 by omega), show (⟨k.val, by omega⟩ : Fin 512) = ⟨(x 1).val, by omega⟩ from Fin.ext hk]
    generalize k0_pay13 (F := Ideal) _ _ _ = W
    open_payloads
    pointwise
    exact close_mix _ (iblk m c 5 t) (iblk m c 7 t) W hi (hi (x 0)) (x 0) (x 1) ⟨(x 1).val, by omega⟩ 0 0 1 (by simp) rfl rfl (fun s => by show _ = _; dsimp only [lo, hi]; omega) (by dsimp only [lo, hi]; omega)
  case piece8 =>
    obtain rfl : r = lo (x 0) := Fin.ext h'0
    have hk : k.val = (x 1).val := h'1
    unfold o8B
    rw [dif_pos (show k.val < 512 by omega), show (⟨k.val, by omega⟩ : Fin 512) = ⟨(x 1).val, by omega⟩ from Fin.ext hk]
    generalize k0_pay13 (F := Ideal) _ _ _ = W
    open_payloads
    pointwise
    exact close_mix _ (iblk m c 5 t) (iblk m c 7 t) W lo (lo (x 0)) (x 0) (x 1) ⟨(x 1).val, by omega⟩ 0 0 1 (by simp) rfl rfl (fun s => by show _ = _; dsimp only [lo, hi]; omega) (by dsimp only [lo, hi]; omega)

/-- The last point folds the scale's gradient. -/
theorem o11_C (c : Dev nD) (t : Fin cfg0.N) (acc) (h0 : ¬t.val % 16 = 0) (h1 : t.val % 16 = 15) (k : Fin 512) :
    (stAt0 (F := Ideal) m c t.val t.isLt acc).2.2.2.1 (ix2 0 k)
      = ∑ a : Fin 8, (acc.2.2.2.2.2.2.1 (ix2 a k) + agpt (iblk m c 6 t) (iblk m c 2 t) (iblk m c 0 t) (iblk m c 1 t) a k) := by
  rw [stAt0_C m c t acc h0 h1]
  frame_out
  generalize hDV : View.readCov (Val := Elt Ideal) _ (_ :: _ :: _) _ = DV
  have hdv : ∀ (r : Fin 256) (k : Fin 512), DV (ix2 r k) = dvB (iblk m c 6 t) (iblk m c 2 t) (iblk m c 0 t) r k := by
    intro r k
    rw [← hDV, View.readCov_eq_canon']
    canon_tiles x h'
    all_goals
      open_payloads
      pointwise
    case piece0 =>
      have e0 := h'0
      have e1 := h'1
      change 0 + 1 * r.val = 128 + (x 0).val at e0
      change 0 + 1 * k.val = 384 + (x 1).val at e1
      obtain rfl : r = hi (x 0) := Fin.ext (by dsimp only [lo, hi]; omega)
      rw [show k = ⟨384 + (x 1).val, by omega⟩ from Fin.ext (by dsimp only; omega)]
      exact close_dv (iblk m c 6 t) (iblk m c 2 t) (iblk m c 0 t) hi (hi (x 0)) (x 0) (x 1) ⟨384 + (x 1).val, by omega⟩ 3 6 7 (by simp) rfl rfl (fun s => by show _ = _; dsimp only [lo, hi]; omega) (by dsimp only [lo, hi]; omega)
    case piece1 =>
      have e0 := h'0
      have e1 := h'1
      change 0 + 1 * r.val = (x 0).val at e0
      change 0 + 1 * k.val = 384 + (x 1).val at e1
      obtain rfl : r = lo (x 0) := Fin.ext (by dsimp only [lo, hi]; omega)
      rw [show k = ⟨384 + (x 1).val, by omega⟩ from Fin.ext (by dsimp only; omega)]
      exact close_dv (iblk m c 6 t) (iblk m c 2 t) (iblk m c 0 t) lo (lo (x 0)) (x 0) (x 1) ⟨384 + (x 1).val, by omega⟩ 3 6 7 (by simp) rfl rfl (fun s => by show _ = _; dsimp only [lo, hi]; omega) (by dsimp only [lo, hi]; omega)
    case piece2 =>
      have e0 := h'0
      have e1 := h'1
      change 0 + 1 * r.val = 128 + (x 0).val at e0
      change 0 + 1 * k.val = 256 + (x 1).val at e1
      obtain rfl : r = hi (x 0) := Fin.ext (by dsimp only [lo, hi]; omega)
      rw [show k = ⟨256 + (x 1).val, by omega⟩ from Fin.ext (by dsimp only; omega)]
      exact close_dv (iblk m c 6 t) (iblk m c 2 t) (iblk m c 0 t) hi (hi (x 0)) (x 0) (x 1) ⟨256 + (x 1).val, by omega⟩ 2 4 5 (by simp) rfl rfl (fun s => by show _ = _; dsimp only [lo, hi]; omega) (by dsimp only [lo, hi]; omega)
    case piece3 =>
      have e0 := h'0
      have e1 := h'1
      change 0 + 1 * r.val = (x 0).val at e0
      change 0 + 1 * k.val = 256 + (x 1).val at e1
      obtain rfl : r = lo (x 0) := Fin.ext (by dsimp only [lo, hi]; omega)
      rw [show k = ⟨256 + (x 1).val, by omega⟩ from Fin.ext (by dsimp only; omega)]
      exact close_dv (iblk m c 6 t) (iblk m c 2 t) (iblk m c 0 t) lo (lo (x 0)) (x 0) (x 1) ⟨256 + (x 1).val, by omega⟩ 2 4 5 (by simp) rfl rfl (fun s => by show _ = _; dsimp only [lo, hi]; omega) (by dsimp only [lo, hi]; omega)
    case piece4 =>
      have e0 := h'0
      have e1 := h'1
      change 0 + 1 * r.val = 128 + (x 0).val at e0
      change 0 + 1 * k.val = 128 + (x 1).val at e1
      obtain rfl : r = hi (x 0) := Fin.ext (by dsimp only [lo, hi]; omega)
      rw [show k = ⟨128 + (x 1).val, by omega⟩ from Fin.ext (by dsimp only; omega)]
      exact close_dv (iblk m c 6 t) (iblk m c 2 t) (iblk m c 0 t) hi (hi (x 0)) (x 0) (x 1) ⟨128 + (x 1).val, by omega⟩ 1 2 3 (by simp) rfl rfl (fun s => by show _ = _; dsimp only [lo, hi]; omega) (by dsimp only [lo, hi]; omega)
    case piece5 =>
      have e0 := h'0
      have e1 := h'1
      change 0 + 1 * r.val = (x 0).val at e0
      change 0 + 1 * k.val = 128 + (x 1).val at e1
      obtain rfl : r = lo (x 0) := Fin.ext (by dsimp only [lo, hi]; omega)
      rw [show k = ⟨128 + (x 1).val, by omega⟩ from Fin.ext (by dsimp only; omega)]
      exact close_dv (iblk m c 6 t) (iblk m c 2 t) (iblk m c 0 t) lo (lo (x 0)) (x 0) (x 1) ⟨128 + (x 1).val, by omega⟩ 1 2 3 (by simp) rfl rfl (fun s => by show _ = _; dsimp only [lo, hi]; omega) (by dsimp only [lo, hi]; omega)
    case piece6 =>
      have e0 := h'0
      have e1 := h'1
      change 0 + 1 * r.val = 128 + (x 0).val at e0
      change 0 + 1 * k.val = (x 1).val at e1
      obtain rfl : r = hi (x 0) := Fin.ext (by dsimp only [lo, hi]; omega)
      rw [show k = ⟨(x 1).val, by omega⟩ from Fin.ext (by dsimp only; omega)]
      exact close_dv (iblk m c 6 t) (iblk m c 2 t) (iblk m c 0 t) hi (hi (x 0)) (x 0) (x 1) ⟨(x 1).val, by omega⟩ 0 0 1 (by simp) rfl rfl (fun s => by show _ = _; dsimp only [lo, hi]; omega) (by dsimp only [lo, hi]; omega)
    case piece7 =>
      have e0 := h'0
      have e1 := h'1
      change 0 + 1 * r.val = (x 0).val at e0
      change 0 + 1 * k.val = (x 1).val at e1
      obtain rfl : r = lo (x 0) := Fin.ext (by dsimp only [lo, hi]; omega)
      rw [show k = ⟨(x 1).val, by omega⟩ from Fin.ext (by dsimp only; omega)]
      exact close_dv (iblk m c 6 t) (iblk m c 2 t) (iblk m c 0 t) lo (lo (x 0)) (x 0) (x 1) ⟨(x 1).val, by omega⟩ 0 0 1 (by simp) rfl rfl (fun s => by show _ = _; dsimp only [lo, hi]; omega) (by dsimp only [lo, hi]; omega)
  simp only [View.readCov_cons_toLoadRect, read_unread_whole]
  open_payloads
  pointwise
  simp only [hdv]
  rfl
/-- The last point folds the shift's gradient. -/
theorem o12_C (c : Dev nD) (t : Fin cfg0.N) (acc) (h0 : ¬t.val % 16 = 0) (h1 : t.val % 16 = 15) (k : Fin 512) :
    (stAt0 (F := Ideal) m c t.val t.isLt acc).2.2.2.2.1 (ix2 0 k)
      = ∑ a : Fin 8, (acc.2.2.2.2.2.2.2 (ix2 a k) + abbpt (iblk m c 6 t) (iblk m c 2 t) (iblk m c 0 t) a k) := by
  rw [stAt0_C m c t acc h0 h1]
  frame_out
  generalize hDV : View.readCov (Val := Elt Ideal) _ (_ :: _ :: _) _ = DV
  have hdv : ∀ (r : Fin 256) (k : Fin 512), DV (ix2 r k) = dvB (iblk m c 6 t) (iblk m c 2 t) (iblk m c 0 t) r k := by
    intro r k
    rw [← hDV, View.readCov_eq_canon']
    canon_tiles x h'
    all_goals
      open_payloads
      pointwise
    case piece0 =>
      have e0 := h'0
      have e1 := h'1
      change 0 + 1 * r.val = 128 + (x 0).val at e0
      change 0 + 1 * k.val = 384 + (x 1).val at e1
      obtain rfl : r = hi (x 0) := Fin.ext (by dsimp only [lo, hi]; omega)
      rw [show k = ⟨384 + (x 1).val, by omega⟩ from Fin.ext (by dsimp only; omega)]
      exact close_dv (iblk m c 6 t) (iblk m c 2 t) (iblk m c 0 t) hi (hi (x 0)) (x 0) (x 1) ⟨384 + (x 1).val, by omega⟩ 3 6 7 (by simp) rfl rfl (fun s => by show _ = _; dsimp only [lo, hi]; omega) (by dsimp only [lo, hi]; omega)
    case piece1 =>
      have e0 := h'0
      have e1 := h'1
      change 0 + 1 * r.val = (x 0).val at e0
      change 0 + 1 * k.val = 384 + (x 1).val at e1
      obtain rfl : r = lo (x 0) := Fin.ext (by dsimp only [lo, hi]; omega)
      rw [show k = ⟨384 + (x 1).val, by omega⟩ from Fin.ext (by dsimp only; omega)]
      exact close_dv (iblk m c 6 t) (iblk m c 2 t) (iblk m c 0 t) lo (lo (x 0)) (x 0) (x 1) ⟨384 + (x 1).val, by omega⟩ 3 6 7 (by simp) rfl rfl (fun s => by show _ = _; dsimp only [lo, hi]; omega) (by dsimp only [lo, hi]; omega)
    case piece2 =>
      have e0 := h'0
      have e1 := h'1
      change 0 + 1 * r.val = 128 + (x 0).val at e0
      change 0 + 1 * k.val = 256 + (x 1).val at e1
      obtain rfl : r = hi (x 0) := Fin.ext (by dsimp only [lo, hi]; omega)
      rw [show k = ⟨256 + (x 1).val, by omega⟩ from Fin.ext (by dsimp only; omega)]
      exact close_dv (iblk m c 6 t) (iblk m c 2 t) (iblk m c 0 t) hi (hi (x 0)) (x 0) (x 1) ⟨256 + (x 1).val, by omega⟩ 2 4 5 (by simp) rfl rfl (fun s => by show _ = _; dsimp only [lo, hi]; omega) (by dsimp only [lo, hi]; omega)
    case piece3 =>
      have e0 := h'0
      have e1 := h'1
      change 0 + 1 * r.val = (x 0).val at e0
      change 0 + 1 * k.val = 256 + (x 1).val at e1
      obtain rfl : r = lo (x 0) := Fin.ext (by dsimp only [lo, hi]; omega)
      rw [show k = ⟨256 + (x 1).val, by omega⟩ from Fin.ext (by dsimp only; omega)]
      exact close_dv (iblk m c 6 t) (iblk m c 2 t) (iblk m c 0 t) lo (lo (x 0)) (x 0) (x 1) ⟨256 + (x 1).val, by omega⟩ 2 4 5 (by simp) rfl rfl (fun s => by show _ = _; dsimp only [lo, hi]; omega) (by dsimp only [lo, hi]; omega)
    case piece4 =>
      have e0 := h'0
      have e1 := h'1
      change 0 + 1 * r.val = 128 + (x 0).val at e0
      change 0 + 1 * k.val = 128 + (x 1).val at e1
      obtain rfl : r = hi (x 0) := Fin.ext (by dsimp only [lo, hi]; omega)
      rw [show k = ⟨128 + (x 1).val, by omega⟩ from Fin.ext (by dsimp only; omega)]
      exact close_dv (iblk m c 6 t) (iblk m c 2 t) (iblk m c 0 t) hi (hi (x 0)) (x 0) (x 1) ⟨128 + (x 1).val, by omega⟩ 1 2 3 (by simp) rfl rfl (fun s => by show _ = _; dsimp only [lo, hi]; omega) (by dsimp only [lo, hi]; omega)
    case piece5 =>
      have e0 := h'0
      have e1 := h'1
      change 0 + 1 * r.val = (x 0).val at e0
      change 0 + 1 * k.val = 128 + (x 1).val at e1
      obtain rfl : r = lo (x 0) := Fin.ext (by dsimp only [lo, hi]; omega)
      rw [show k = ⟨128 + (x 1).val, by omega⟩ from Fin.ext (by dsimp only; omega)]
      exact close_dv (iblk m c 6 t) (iblk m c 2 t) (iblk m c 0 t) lo (lo (x 0)) (x 0) (x 1) ⟨128 + (x 1).val, by omega⟩ 1 2 3 (by simp) rfl rfl (fun s => by show _ = _; dsimp only [lo, hi]; omega) (by dsimp only [lo, hi]; omega)
    case piece6 =>
      have e0 := h'0
      have e1 := h'1
      change 0 + 1 * r.val = 128 + (x 0).val at e0
      change 0 + 1 * k.val = (x 1).val at e1
      obtain rfl : r = hi (x 0) := Fin.ext (by dsimp only [lo, hi]; omega)
      rw [show k = ⟨(x 1).val, by omega⟩ from Fin.ext (by dsimp only; omega)]
      exact close_dv (iblk m c 6 t) (iblk m c 2 t) (iblk m c 0 t) hi (hi (x 0)) (x 0) (x 1) ⟨(x 1).val, by omega⟩ 0 0 1 (by simp) rfl rfl (fun s => by show _ = _; dsimp only [lo, hi]; omega) (by dsimp only [lo, hi]; omega)
    case piece7 =>
      have e0 := h'0
      have e1 := h'1
      change 0 + 1 * r.val = (x 0).val at e0
      change 0 + 1 * k.val = (x 1).val at e1
      obtain rfl : r = lo (x 0) := Fin.ext (by dsimp only [lo, hi]; omega)
      rw [show k = ⟨(x 1).val, by omega⟩ from Fin.ext (by dsimp only; omega)]
      exact close_dv (iblk m c 6 t) (iblk m c 2 t) (iblk m c 0 t) lo (lo (x 0)) (x 0) (x 1) ⟨(x 1).val, by omega⟩ 0 0 1 (by simp) rfl rfl (fun s => by show _ = _; dsimp only [lo, hi]; omega) (by dsimp only [lo, hi]; omega)
  simp only [View.readCov_cons_toLoadRect, read_unread_whole]
  open_payloads
  pointwise
  simp only [hdv]
  rfl
/-- The last point folds the bias gradient over the channels of each head. -/
theorem o10_C (c : Dev nD) (t : Fin cfg0.N) (acc) (h0 : ¬t.val % 16 = 0) (h1 : t.val % 16 = 15) (a z : Fin 128) :
    (stAt0 (F := Ideal) m c t.val t.isLt acc).2.2.1 (ix2 a z)
      = ∑ k : Fin 512, if k.val / 64 = z.val then abpt acc.2.2.2.2.2.1 (iblk m c 2 t) (iblk m c 0 t) a k else 0 := by
  rw [stAt0_C m c t acc h0 h1]
  frame_out
  simp (disch := decide) only [↓ View.readCov_skip, ↓ View.readCov_cons_toLoadRect, read_unread_whole]
  generalize hAB : View.readCov (Val := Elt Ideal) _ (_ :: _ :: _) _ = AB
  have hab : ∀ (a : Fin 128) (k : Fin 512), AB (ix2 a k) = abpt acc.2.2.2.2.2.1 (iblk m c 2 t) (iblk m c 0 t) a k := by
    intro a k
    rw [← hAB, View.readCov_eq_canon']
    beta_reduce
    refine (canon_shadow _ _ _ _ _ []).trans ?_
    refine (canon_shadow _ _ _ _ _ [_]).trans ?_
    refine (canon_shadow _ _ _ _ _ [_, _]).trans ?_
    refine (canon_shadow _ _ _ _ _ [_, _, _]).trans ?_
    dsimp only [List.cons_append, List.nil_append]
    canon_tiles x h'
    all_goals
      have e0 := h'0
      have e1 := h'1
      change 0 + 1 * a.val = _ at e0
      obtain rfl : a = x 0 := Fin.ext (by omega)
      open_payloads
      pointwise
    case piece0 =>
      change 0 + 1 * k.val = 384 + (x 1).val at e1
      rw [show k = ⟨384 + (x 1).val, by omega⟩ from Fin.ext (by dsimp only; omega)]
      rfl
    case piece1 =>
      change 0 + 1 * k.val = 256 + (x 1).val at e1
      rw [show k = ⟨256 + (x 1).val, by omega⟩ from Fin.ext (by dsimp only; omega)]
      rfl
    case piece2 =>
      change 0 + 1 * k.val = 128 + (x 1).val at e1
      rw [show k = ⟨128 + (x 1).val, by omega⟩ from Fin.ext (by dsimp only; omega)]
      rfl
    case piece3 =>
      change 0 + 1 * k.val = (x 1).val at e1
      rw [show k = ⟨(x 1).val, by omega⟩ from Fin.ext (by dsimp only; omega)]
      rfl
  open_payloads
  pointwise
  refine Finset.sum_congr rfl fun k _ => ?_
  rw [hab a k]
  exact fold_mask k z _

end Cert.KernelIdeal.SguVal

end
-- ==== Proof.SguRef.lean ====
/- The reference program read at an index: each of its values as the functions of `SguMath`. -/
module

public import proofs.«01_k».proof.Proof.SguMath
public import proofs.«01_k».proof.Proof.Gen.ReferenceIdeal.Read
public import Idealize.ShloMosaic.Lib.Pointwise
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.ReferenceIdeal.SguRef

open Cert.ReferenceIdeal Cert.ReferenceIdeal.Gen Cert.ReferenceIdeal.Read Cert.Sgu

variable (x0 : FVec Ideal S4096x3584 .f32) (x1 : FVec Ideal S4096x2048 .f32) (x2 x3 : FVec Ideal S512 .f32)
  (x4 : FVec Ideal S8x128x128 .f32) (x5 : FVec Ideal S8x128 .f32)

/-- Row `r` of the gated half. -/
def urow (r : Fin 4096) (k : Fin 512) : EReal := x0 (ix2 r ⟨2560 + k.val, by omega⟩)

/-- Row `r` of the half that is normalised. -/
def vrow (r : Fin 4096) (k : Fin 512) : EReal := x0 (ix2 r ⟨2560 + (512 + k.val), by omega⟩)

/-- Row `r` of the result's gradient. -/
def drow (r : Fin 4096) (k : Fin 512) : EReal := x1 (ix2 r ⟨1536 + k.val, by omega⟩)

/-- A vector of 512 as a function of its position. -/
def vec (x : FVec Ideal S512 .f32) (k : Fin 512) : EReal := x (ix1 k)

/-- The mixing matrices by head, row and column. -/
def wmat (h : Fin 8) (t s : Fin 128) : EReal := x4 (ix3 h t s)

/-- The mixing bias by head and row. -/
def bmat (h : Fin 8) (t : Fin 128) : EReal := x5 (ix2 h t)

/-- Row `t` of chunk `n`. -/
def rw_ (n : Fin 32) (t : Fin 128) : Fin 4096 := ⟨128 * n.val + t.val, by omega⟩

/-- Stage 9 of the reference at an index. -/
theorem v9_at (R : Fin 4096) (c : Fin 512) : val_main_v9 (F := Ideal) x0 (ix3 (0 : Fin 1) R c : S1x4096x512.Idx) = cen (vrow x0 R) c := by
  pointwise [val_main_v9, val_main_v8, val_main_v7, val_main_v6, val_main_cst_0, val_main_v5, val_main_v4, val_main_cst, val_main_v3, val_main_v0, val_main_v1, cen, mean, vrow, c512]

/-- Stage 16 of the reference at an index. -/
theorem v16_at (R : Fin 4096) : val_main_v16 (F := Ideal) x0 (ix3 (0 : Fin 1) R (0 : Fin 1) : S1x4096x1.Idx)
    = Ideal.div (∑ k, cen (vrow x0 R) k * cen (vrow x0 R) k) c512 + eps := by
  pointwise [val_main_v16, val_main_v15, val_main_cst_3, val_main_v14, val_main_v13, val_main_cst_2, val_main_v12, val_main_v11, val_main_cst_1, val_main_v10, c512, eps]
  simp only [v9_at]

/-- Stage 17 of the reference at an index. -/
theorem v17_at (R : Fin 4096) : val_main_v17 (F := Ideal) x0 (ix3 (0 : Fin 1) R (0 : Fin 1) : S1x4096x1.Idx) = rstd (vrow x0 R) := by
  pointwise [val_main_v17]
  rw [v16_at, rstd]

/-- Stage 22 of the reference at an index. -/
theorem v22_at (R : Fin 4096) (c : Fin 512) : val_main_v22 (F := Ideal) x0 (ix3 (0 : Fin 1) R c : S1x4096x512.Idx) = yh (vrow x0 R) c := by
  pointwise [val_main_v22, val_main_v21]
  rw [v17_at, v9_at, yh]

/-- Stage 28 of the reference at an index. -/
theorem v28_at (R : Fin 4096) (c : Fin 512) : val_main_v28 (F := Ideal) x0 x2 x3 (ix3 (0 : Fin 1) R c : S1x4096x512.Idx)
    = vn (vec x2) (vec x3) (vrow x0 R) c := by
  pointwise [val_main_v28, val_main_v27, val_main_v26, val_main_v25, val_main_v24, val_main_v23]
  rw [v22_at, vn]
  rfl

/-- Stage 29 of the reference at an index. -/
theorem v29_at (n : Fin 32) (t : Fin 128) (h : Fin 8) (k : Fin 64) :
    val_main_v29 (F := Ideal) x0 x2 x3 (ix5 (0 : Fin 1) n t h k : S1x32x128x8x64.Idx)
    = vn (vec x2) (vec x3) (vrow x0 (rw_ n t)) (col h k) := by
  rw [val_main_v29_apply, ← v28_at]
  congr 1
  funext a
  match a with
  | ⟨0, _⟩ => rfl
  | ⟨1, _⟩ => exact Fin.ext (show ((((0 * 32 + n.val) * 128 + t.val) * 8 + h.val) * 64 + k.val) / 512 % 4096 = 128 * n.val + t.val by omega)
  | ⟨2, _⟩ => exact Fin.ext (show ((((0 * 32 + n.val) * 128 + t.val) * 8 + h.val) * 64 + k.val) % 512 = 64 * h.val + k.val by omega)

/-- The causal mask's bit at a row and a column. -/
theorem sge_word (a b : Nat) (ha : a < 128) (hb : b < 128) :
    IntOp.cmpi .sge (IntOp.addi (BitVec.ofNat 32 a) 0#32) (BitVec.ofNat 32 b) = BitVec.ofBool (decide (b ≤ a)) := by
  rw [show IntOp.addi (BitVec.ofNat 32 a) 0#32 = BitVec.ofNat 32 a from BitVec.add_zero _]
  exact WordCmp.cmpi_sge_ofNat (by omega) (by omega)

/-- Stage 34 of the reference at an index. -/
theorem v34_at (h : Fin 8) (t s : Fin 128) : val_main_v34_0 (F := Ideal) x4 (ix3 h t s : S8x128x128.Idx) = tri (wmat x4) h t s := by
  pointwise [val_main_v34_0, val_main_v33, val_main_cst_5, val_main_v34_1, val_main_v32, val_main_v31, val_main_call0_v5, val_main_call0_c_0, val_main_call0_v4, val_main_call0_v3, val_main_call0_v2, val_main_call0_v1, val_main_call0_c, val_main_call0_v0, val_main_v30, val_main_c, tri, wmat]
  rw [sge_word _ _ t.isLt s.isLt]
  by_cases hts : s.val ≤ t.val
  · rw [if_pos hts, decide_eq_true hts]
    rfl
  · rw [if_neg hts, decide_eq_false hts]
    rfl

/-- Stage 40 of the reference at an index. -/
theorem v40_at (n : Fin 32) (t : Fin 128) (h : Fin 8) (k : Fin 64) :
    val_main_v40 (F := Ideal) x0 x2 x3 x4 x5 (ix5 (0 : Fin 1) n t h k : S1x32x128x8x64.Idx)
    = (∑ s, vn (vec x2) (vec x3) (vrow x0 (rw_ n s)) (col h k) * tri (wmat x4) h t s) + bmat x5 h t := by
  pointwise [val_main_v40, val_main_v39, val_main_v38, val_main_v37, val_main_v36, val_main_v35]
  simp only [v29_at, v34_at]
  rfl

/-- Stage 45 of the reference at an index. -/
theorem v45_at (R : Fin 4096) (c : Fin 512) : val_main_v45 (F := Ideal) x0 x1 (ix3 (0 : Fin 1) R c : S1x4096x512.Idx)
    = urow x0 R c * drow x1 R c := by
  pointwise [val_main_v45, val_main_v44, val_main_v43, val_main_v2, val_main_v1, val_main_v0, urow, drow]

/-- The chunk a row lies in. -/
def ch (R : Fin 4096) : Fin 32 := ⟨R.val / 128, by omega⟩

/-- A row's place in its chunk. -/
def off (R : Fin 4096) : Fin 128 := ⟨R.val % 128, by omega⟩

/-- A channel's place in its head. -/
def lane (c : Fin 512) : Fin 64 := ⟨c.val % 64, by omega⟩

/-- A row is its place in its chunk. -/
theorem rw_ch_off (R : Fin 4096) : rw_ (ch R) (off R) = R := Fin.ext (Nat.div_add_mod R.val 128)
/-- A channel is its place in its head. -/
theorem col_hd_lane (c : Fin 512) : col (hd c) (lane c) = c := Fin.ext (Nat.div_add_mod c.val 64)
/-- The head of a channel given by head and lane. -/
theorem hd_col (h : Fin 8) (k : Fin 64) : hd (col h k) = h := Fin.ext (show (64 * h.val + k.val) / 64 = h.val by omega)

/-- The reshape from chunks and heads back to rows and channels. -/
theorem reshape_back (R : Fin 4096) (c : Fin 512) : idx_main_v41 (ix3 (0 : Fin 1) R c : S1x4096x512.Idx) = ix5 (0 : Fin 1) (ch R) (off R) (hd c) (lane c) := by
  funext a
  match a with
  | ⟨0, _⟩ => rfl
  | ⟨1, _⟩ => exact Fin.ext (show ((0 * 4096 + R.val) * 512 + c.val) / 65536 % 32 = R.val / 128 by omega)
  | ⟨2, _⟩ => exact Fin.ext (show ((0 * 4096 + R.val) * 512 + c.val) / 512 % 128 = R.val % 128 by omega)
  | ⟨3, _⟩ => exact Fin.ext (show ((0 * 4096 + R.val) * 512 + c.val) / 64 % 8 = c.val / 64 by omega)
  | ⟨4, _⟩ => exact Fin.ext (show ((0 * 4096 + R.val) * 512 + c.val) % 64 = c.val % 64 by omega)

/-- The chunks' normalised rows. -/
def vch (n : Fin 32) (t : Fin 128) : Fin 512 → EReal := vn (vec x2) (vec x3) (vrow x0 (rw_ n t))

/-- The gradient of the mixed chunk. -/
def mch (n : Fin 32) (t : Fin 128) (c : Fin 512) : EReal := drow x1 (rw_ n t) c * urow x0 (rw_ n t) c

/-- Stage 41 of the reference at an index. -/
theorem v41_at (R : Fin 4096) (c : Fin 512) : val_main_v41 (F := Ideal) x0 x2 x3 x4 x5 (ix3 (0 : Fin 1) R c : S1x4096x512.Idx)
    = mix (wmat x4) (bmat x5) (vch x0 x2 x3 (ch R)) (off R) c := by
  rw [val_main_v41_apply, reshape_back, v40_at, mix]
  refine congrArg₂ (· + ·) (Finset.sum_congr rfl fun s _ => ?_) rfl
  rw [mul_comm, col_hd_lane]
  rfl

/-- Stage 47 of the reference at an index. -/
theorem v47_at (n : Fin 32) (t : Fin 128) (h : Fin 8) (k : Fin 64) :
    val_main_v47 (F := Ideal) x0 x1 (ix5 (0 : Fin 1) n t h k : S1x32x128x8x64.Idx) = mch x0 x1 n t (col h k) := by
  rw [val_main_v47_apply, show idx_main_v47 (ix5 (0 : Fin 1) n t h k : S1x32x128x8x64.Idx) = ix3 (0 : Fin 1) (rw_ n t) (col h k) from ?_, v45_at, mch, mul_comm]
  funext a
  match a with
  | ⟨0, _⟩ => rfl
  | ⟨1, _⟩ => exact Fin.ext (show ((((0 * 32 + n.val) * 128 + t.val) * 8 + h.val) * 64 + k.val) / 512 % 4096 = 128 * n.val + t.val by omega)
  | ⟨2, _⟩ => exact Fin.ext (show ((((0 * 32 + n.val) * 128 + t.val) * 8 + h.val) * 64 + k.val) % 512 = 64 * h.val + k.val by omega)

/-- Stage 57 of the reference at an index. -/
theorem v57_at (R : Fin 4096) (c : Fin 512) : val_main_v57 (F := Ideal) x0 x1 x4 (ix3 (0 : Fin 1) R c : S1x4096x512.Idx)
    = dv (wmat x4) (mch x0 x1 (ch R)) (off R) c := by
  rw [val_main_v57_apply, show idx_main_v57 (ix3 (0 : Fin 1) R c : S1x4096x512.Idx) = ix5 (0 : Fin 1) (ch R) (off R) (hd c) (lane c) from reshape_back R c]
  pointwise [val_main_v55, val_main_v54, val_main_v52]
  simp only [v47_at, v34_at, col_hd_lane, dv]
  exact Finset.sum_congr rfl fun t _ => mul_comm _ _

/-- A host sum over axes whose result index comes from one source index only. -/
theorem reduce_one {s t : Shape} {axes : List (Fin s.rank)} {u : Shape} {φ : FTy} (x : FVec Ideal s φ) (init : FVec Ideal u φ) (h : s.ReducesTo axes t)
    (hu : 0 < u.numel) (j : t.Idx) (e : s.Idx) (he : ∀ i, h.drop i = j ↔ i = e) :
    Host.reduceAdd x init h hu j = init (Shape.Idx.first hu) + x e := by
  show init (Shape.Idx.first hu) + ∑ i ∈ Finset.univ.filter (fun i => h.drop i = j), x i = _
  rw [show Finset.univ.filter (fun i => h.drop i = j) = {e} from by ext i; simp [he], Finset.sum_singleton]

/-- Stage 48 of the reference at an index. -/
theorem v48_at (t : Fin 128) (h : Fin 8) : val_main_v48 (F := Ideal) x0 x1 (ix3 (0 : Fin 1) t h : S1x128x8.Idx)
    = ∑ n : Fin 32, ∑ k : Fin 64, mch x0 x1 n t (col h k) := by
  unfold val_main_v48
  show val_main_cst_6 (F := Ideal) _ + ∑ i ∈ Finset.univ.filter (fun i => reducesTo_S1x32x128x8x64_S1x128x8_d1_4.drop i = ix3 (0 : Fin 1) t h), val_main_v47 (F := Ideal) x0 x1 i = _
  rw [show val_main_cst_6 (F := Ideal) (Shape.Idx.first h_S_) = 0 by pointwise [val_main_cst_6], zero_add, ← Finset.sum_product']
  symm
  refine Finset.sum_bij (fun p _ => (ix5 (0 : Fin 1) p.1 t h p.2 : S1x32x128x8x64.Idx)) (fun p _ => ?_) (fun p _ q _ hpq => ?_) (fun i hi => ?_) (fun p _ => (v47_at x0 x1 _ _ _ _).symm)
  · rw [Finset.mem_filter]
    refine ⟨Finset.mem_univ _, funext fun b => Fin.ext ?_⟩
    match b with
    | ⟨0, _⟩ => rfl
    | ⟨1, _⟩ => rfl
    | ⟨2, _⟩ => rfl
  · exact Prod.ext (congrFun hpq 1) (congrFun hpq 4)
  · have h2 := (Finset.mem_filter.1 hi).2
    refine ⟨(i 1, i 4), by simp, ?_⟩
    funext a
    match a with
    | ⟨0, _⟩ => exact Fin.ext (by have : (i 0).val < 1 := (i 0).isLt; show 0 = (i 0).val; omega)
    | ⟨1, _⟩ => rfl
    | ⟨2, _⟩ => exact (congrFun h2 1).symm
    | ⟨3, _⟩ => exact (congrFun h2 2).symm
    | ⟨4, _⟩ => rfl

end Cert.ReferenceIdeal.SguRef

end
-- ==== Proof.SguBlk.lean ====
/- The blocks of the kernel read off the argument arrays. -/
module

public import proofs.«01_k».proof.Proof.SguCore
public import proofs.«01_k».proof.Proof.SguRef
public import proofs.«01_k».proof.Proof.Gen.KernelIdeal.Value
public import Idealize.ShloMosaic.Lib.Pointwise
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.SguBlk

open Cert.KernelIdeal Cert.KernelIdeal.Gen Cert.Sgu Cert.KernelIdeal.SguCore
open Cert.ReferenceIdeal.SguRef (urow vrow drow vec wmat bmat)

variable (m : (ℓ : Loc nD τ sig) → Buf (Elt Ideal) ℓ)

/-- Every window's index map at a point. -/
theorem idx : ∀ t : Fin cfg0.N,
    win0_0.index t = ![t.val, 5] ∧ win0_1.index t = ![t.val, 6] ∧ win0_2.index t = ![t.val, 3]
      ∧ win0_3.index t = ![0, 0] ∧ win0_4.index t = ![0, 0] ∧ win0_5.index t = ![0, 0, 0]
      ∧ win0_6.index t = ![0, 0, 0] ∧ win0_7.index t = ![0, 0] :=
  (by decide +kernel : ∀ t : Fin grid0.N, _)

/-- The argument arrays as the run finds them. -/
abbrev a0 (c : Dev nD) : FVec Ideal S4096x3584 .f32 := m ((c : Thread nD τ).loc main_arg0)
/-- The gradient of the concatenated mixers. -/
abbrev a1 (c : Dev nD) : FVec Ideal S4096x2048 .f32 := m ((c : Thread nD τ).loc main_arg1)
/-- The normalisation's scale. -/
abbrev a2 (c : Dev nD) : FVec Ideal S512 .f32 := m ((c : Thread nD τ).loc main_arg2)
/-- The normalisation's shift. -/
abbrev a3 (c : Dev nD) : FVec Ideal S512 .f32 := m ((c : Thread nD τ).loc main_arg3)
/-- The mixing matrices. -/
abbrev a4 (c : Dev nD) : FVec Ideal S8x128x128 .f32 := m ((c : Thread nD τ).loc main_arg4)
/-- The mixing biases. -/
abbrev a5 (c : Dev nD) : FVec Ideal S8x128 .f32 := m ((c : Thread nD τ).loc main_arg5)

/-- Row `r` of block `t` in the arrays. -/
def grow (t : Fin cfg0.N) (r : Fin 256) : Fin 4096 :=
  ⟨256 * t.val + r.val, by have := lt_of_lt_of_eq t.isLt N_0; omega⟩

/-- The gating half's block. -/
theorem b0 (c : Dev nD) (t : Fin cfg0.N) (r : Fin 256) (k : Fin 512) :
    iblk m c 0 t (ix2 r k) = urow (a0 m c) (grow t r) k := by
  unfold urow grow a0
  blk_ext [iblk, V, idx t]

/-- The normalised half's block. -/
theorem b1 (c : Dev nD) (t : Fin cfg0.N) (r : Fin 256) (k : Fin 512) :
    iblk m c 1 t (ix2 r k) = vrow (a0 m c) (grow t r) k := by
  unfold vrow grow a0
  blk_ext [iblk, V, idx t]

/-- The gradient's block. -/
theorem b2 (c : Dev nD) (t : Fin cfg0.N) (r : Fin 256) (k : Fin 512) :
    iblk m c 2 t (ix2 r k) = drow (a1 m c) (grow t r) k := by
  unfold drow grow a1
  blk_ext [iblk, V, idx t]

/-- The scale's block. -/
theorem b3 (c : Dev nD) (t : Fin cfg0.N) (z : Fin 1) (k : Fin 512) :
    iblk m c 3 t (ix2 z k) = vec (a2 m c) k := by
  unfold vec a2
  blk_point [iblk, V, idx t]

/-- The shift's block. -/
theorem b4 (c : Dev nD) (t : Fin cfg0.N) (z : Fin 1) (k : Fin 512) :
    iblk m c 4 t (ix2 z k) = vec (a3 m c) k := by
  unfold vec a3
  blk_point [iblk, V, idx t]

/-- The mixing matrices' block. -/
theorem b5 (c : Dev nD) (t : Fin cfg0.N) (h : Fin 8) (a b : Fin 128) :
    iblk m c 5 t (ix3 h a b) = wmat (a4 m c) h a b := by
  unfold wmat a4
  blk_ext [iblk, V, idx t]

/-- The transposed mixing matrices' block. -/
theorem b6 (c : Dev nD) (t : Fin cfg0.N) (h : Fin 8) (a b : Fin 128) :
    iblk m c 6 t (ix3 h a b) = wmat (a4 m c) h b a := by
  unfold wmat a4
  blk_point [iblk, V, idx t]

/-- The repeated biases' block. -/
theorem b7 (c : Dev nD) (t : Fin cfg0.N) (a : Fin 128) (k : Fin 512) :
    iblk m c 7 t (ix2 a k) = bmat (a5 m c) (hd k) a := by
  unfold bmat a5 hd
  blk_point [iblk, V, idx t]

/-- The scaled and shifted normalised rows of a block. -/
theorem pay13 (G : Vec Ideal S1x512 .f32) (X : Vec Ideal S256x512 .f32) (B : Vec Ideal S1x512 .f32) (r : Fin 256) (k : Fin 512) :
    k0_pay13 G X B (ix2 r k) = vn (fun l => G (ix2 0 l)) (fun l => B (ix2 0 l)) (brow X r) k := by
  pointwise [k0_pay13, k0_pay12, k0_pay11, k0_pay10, k0_pay9, vn, yh, brow, rstd, cen, mean]
  rfl

end Cert.KernelIdeal.SguBlk
-- ==== Proof.SguLn.lean ====
/- The gradient of a row through the normalisation: the differentiated reference's expression is the kernel's, on finite rows. -/
module

public import proofs.«01_k».proof.Proof.SguMath
public import Mathlib.Tactic.FieldSimp
public import Mathlib.Tactic.Ring
public import Mathlib.Tactic.LinearCombination
public import Mathlib.Tactic.NormNum

@[expose] public section

set_option maxRecDepth 16384

noncomputable section

open Idealize.ShloMosaic

namespace Cert.Sgu

/-- Minus one half, as the reference's literal word. -/
def mhalf : EReal := Ideal.ofBits .f32 0xBF000000#32

/-- The variance of a row, stabilised. -/
def rvar (x : Fin 512 → EReal) : EReal := Ideal.div (∑ k, cen x k * cen x k) c512 + eps

/-- Half the coefficient of the centred row in the differentiated reference, `z` the gradient of the normalised row. -/
def coef (x z : Fin 512 → EReal) : EReal := Ideal.div ((∑ k, cen x k * z k) * (mhalf * Ideal.div (rstd x) (rvar x))) c512

/-- The gradient of the centred row in the differentiated reference. -/
def wrow (x z : Fin 512 → EReal) (k : Fin 512) : EReal := (z k * rstd x + cen x k * coef x z) + coef x z * cen x k

/-- The gradient of the row in the differentiated reference. -/
def dvjp (x z : Fin 512 → EReal) (k : Fin 512) : EReal := wrow x z k + Ideal.div (∑ l, -(wrow x z l)) c512

/-- The divisor is 512. -/
theorem c512_eq : c512 = ((512 : ℝ) : EReal) := by
  unfold c512
  simp [Ideal.ofBits, Ideal.ieee, -EReal.coe_mul]; norm_num

/-- The factor is minus one half. -/
theorem mhalf_eq : mhalf = ((-(1 / 2) : ℝ) : EReal) := by
  unfold mhalf
  simp [Ideal.ofBits, Ideal.ieee, -EReal.coe_mul]; norm_num

/-- The small constant is a positive real. -/
theorem eps_eq : ∃ e : ℝ, 0 < e ∧ eps = (e : EReal) := by
  refine ⟨10995116 * (2 : ℝ) ^ (-40 : ℤ), by positivity, ?_⟩
  unfold eps
  simp [Ideal.ofBits, Ideal.ieee, -EReal.coe_mul]

/-- A sum of finite values is the finite sum. -/
theorem coe_sum {α : Type} (s : Finset α) (f : α → ℝ) : ∑ k ∈ s, ((f k : ℝ) : EReal) = ((∑ k ∈ s, f k : ℝ) : EReal) := by
  induction s using Finset.cons_induction with
  | empty => simp
  | cons a s ha ih => rw [Finset.sum_cons, Finset.sum_cons, ih, EReal.coe_add]

/-- The quotient of finite values is the finite quotient. -/
theorem div_real (a b : ℝ) (h : b ≠ 0) : Ideal.div (a : EReal) (b : EReal) = ((a / b : ℝ) : EReal) := by
  rw [Ideal.div_coe h, ← EReal.coe_mul, mul_one_div]

/-- On a finite row with a finite gradient the two expressions of the row's gradient are one. -/
theorem dvjp_eq (x' z' : Fin 512 → ℝ) (g y : Fin 512 → EReal) (x : Fin 512 → EReal) (hx : ∀ k, x k = (x' k : EReal)) (hz : ∀ k, y k * g k = (z' k : EReal)) (k : Fin 512) :
    dvjp x (fun l => y l * g l) k = dln g x y k := by
  obtain ⟨e, he, hee⟩ := eps_eq
  have h512 : (512 : ℝ) ≠ 0 := by norm_num
  let m : ℝ := (∑ l, x' l) / 512
  let c : Fin 512 → ℝ := fun l => x' l - m
  let v : ℝ := (∑ l, c l * c l) / 512 + e
  have hm : mean x = (m : EReal) := by
    rw [mean, c512_eq, Finset.sum_congr rfl fun l _ => hx l, coe_sum, div_real _ _ h512]
  have hc : ∀ l, cen x l = (c l : EReal) := fun l => by rw [cen, hm, hx, ← EReal.coe_sub]
  have hv : rvar x = (v : EReal) := by
    rw [rvar, c512_eq, hee, Finset.sum_congr rfl fun l _ => by rw [hc l, ← EReal.coe_mul], coe_sum, div_real _ _ h512, ← EReal.coe_add]
  have hv0 : 0 < v := add_pos_of_nonneg_of_pos (div_nonneg (Finset.sum_nonneg fun l _ => mul_self_nonneg _) (by norm_num)) he
  let r : ℝ := (Real.sqrt v)⁻¹
  have hr : rstd x = (r : EReal) := by
    show Ideal.rsqrt (rvar x) = _
    rw [hv, Ideal.rsqrt_coe, if_neg (not_lt.2 hv0.le), if_neg hv0.ne']
  have hrr : r * r * v = 1 := by
    show (Real.sqrt v)⁻¹ * (Real.sqrt v)⁻¹ * v = 1
    rw [← mul_inv, Real.mul_self_sqrt hv0.le, inv_mul_cancel₀ hv0.ne']
  let s : ℝ := ∑ l, c l * z' l
  let a : ℝ := s * (-(1 / 2) * (r / v)) / 512
  have ha : coef x (fun l => y l * g l) = (a : EReal) := by
    rw [coef, c512_eq, mhalf_eq, hr, hv, Finset.sum_congr rfl fun l _ => by rw [hc l, hz l, ← EReal.coe_mul], coe_sum, div_real _ _ hv0.ne', ← EReal.coe_mul, ← EReal.coe_mul, div_real _ _ h512]
  let w : Fin 512 → ℝ := fun l => (z' l * r + c l * a) + a * c l
  have hw : ∀ l, wrow x (fun l => y l * g l) l = (w l : EReal) := fun l => by
    rw [wrow, ha, hr, hc, hz, ← EReal.coe_mul, ← EReal.coe_mul, ← EReal.coe_mul, ← EReal.coe_add, ← EReal.coe_add]
  have hL : dvjp x (fun l => y l * g l) k = ((w k + (∑ l, -(w l)) / 512 : ℝ) : EReal) := by
    rw [dvjp, c512_eq, hw, Finset.sum_congr rfl fun l _ => by rw [hw l, ← EReal.coe_neg], coe_sum, div_real _ _ h512, ← EReal.coe_add]
  have hy : ∀ l, yh x l = ((c l * r : ℝ) : EReal) := fun l => by rw [yh, hc, hr, ← EReal.coe_mul]
  have hR : dln g x y k = ((r * ((z' k - (∑ l, z' l) / 512) - c k * r * ((∑ l, z' l * (c l * r)) / 512)) : ℝ) : EReal) := by
    have e1 : ∑ l, y l * g l = ((∑ l, z' l : ℝ) : EReal) := by
      rw [← coe_sum]
      exact Finset.sum_congr rfl fun l _ => hz l
    have e2 : ∑ l, (y l * g l) * yh x l = ((∑ l, z' l * (c l * r) : ℝ) : EReal) := by
      rw [← coe_sum]
      exact Finset.sum_congr rfl fun l _ => by rw [hz, hy, ← EReal.coe_mul]
    rw [dln, mean, mean, e1, e2, c512_eq, hr, hy, hz, div_real _ _ h512, div_real _ _ h512,
      ← EReal.coe_sub, ← EReal.coe_mul, ← EReal.coe_sub, ← EReal.coe_mul]
  rw [hL, hR]
  congr 1
  have hs0 : ∑ l, c l = 0 := by
    show ∑ l, (x' l - m) = 0
    rw [Finset.sum_sub_distrib, Finset.sum_const, Finset.card_univ, Fintype.card_fin, nsmul_eq_mul]
    show _ - ((512 : ℕ) : ℝ) * ((∑ l, x' l) / 512) = 0
    push_cast
    ring
  have hsw : ∑ l, -(w l) = -(r * ∑ l, z' l) := by
    rw [Finset.sum_neg_distrib]
    show -(∑ l, ((z' l * r + c l * a) + a * c l)) = _
    rw [Finset.sum_add_distrib, Finset.sum_add_distrib, ← Finset.sum_mul, ← Finset.sum_mul, ← Finset.mul_sum, hs0]
    ring
  have hss : ∑ l, z' l * (c l * r) = s * r := by
    show _ = (∑ l, c l * z' l) * r
    rw [Finset.sum_mul]
    exact Finset.sum_congr rfl fun l _ => by ring
  rw [hsw, hss]
  have hav : a = -(s * (r * r * r) / 1024) := by
    have : r / v = r * r * r := by rw [div_eq_iff hv0.ne']; linear_combination (-r) * hrr
    show s * (-(1 / 2) * (r / v)) / 512 = _
    rw [this]
    ring
  show (z' k * r + c k * a) + a * c k + -(r * ∑ l, z' l) / 512 = _
  rw [hav]
  ring

end Cert.Sgu

end
-- ==== Proof.SguRef2.lean ====
/- The reference program's five results read at an index. -/
module

public import proofs.«01_k».proof.Proof.SguRef
public import proofs.«01_k».proof.Proof.SguLn

@[expose] public section

set_option maxRecDepth 16384

noncomputable section

open Idealize.ShloMosaic Idealize.ShloMosaic.TcCoe Idealize.SL.Sem

namespace Cert.ReferenceIdeal.SguRef

open Cert.ReferenceIdeal Cert.ReferenceIdeal.Gen Cert.ReferenceIdeal.Read Cert.Sgu

variable (x0 : FVec Ideal S4096x3584 .f32) (x1 : FVec Ideal S4096x2048 .f32) (x2 x3 : FVec Ideal S512 .f32)
  (x4 : FVec Ideal S8x128x128 .f32) (x5 : FVec Ideal S8x128 .f32)

/-- The gradient of the normalised rows. -/
def dvr (R : Fin 4096) : Fin 512 → EReal := dv (wmat x4) (mch x0 x1 (ch R)) (off R)

/-- Stage 57 of the reference at an index. -/
theorem v57_at' (R : Fin 4096) (c : Fin 512) : val_main_v57 (F := Ideal) x0 x1 x4 (ix3 (0 : Fin 1) R c : S1x4096x512.Idx) = dvr x0 x1 x4 R c :=
  v57_at x0 x1 x4 R c

/-- Stage 65 of the reference at an index. -/
theorem v65_at (R : Fin 4096) (c : Fin 512) : val_main_v65 (F := Ideal) x0 x1 x2 x4 (ix3 (0 : Fin 1) R c : S1x4096x512.Idx)
    = dvr x0 x1 x4 R c * vec x2 c := by
  pointwise [val_main_v65, val_main_v64, val_main_v23]
  rw [v57_at']
  rfl

/-- Stage 20 of the reference at an index. -/
theorem v20_at (R : Fin 4096) : val_main_v20 (F := Ideal) x0 (ix3 (0 : Fin 1) R (0 : Fin 1) : S1x4096x1.Idx)
    = mhalf * Ideal.div (rstd (vrow x0 R)) (rvar (vrow x0 R)) := by
  pointwise [val_main_v20, val_main_v19, val_main_cst_4, val_main_v18]
  rw [v17_at, v16_at]
  rfl

/-- Stage 69 of the reference at an index. -/
theorem v69_at (R : Fin 4096) : val_main_v69 (F := Ideal) x0 x1 x2 x4 (ix3 (0 : Fin 1) R (0 : Fin 1) : S1x4096x1.Idx)
    = ∑ k, cen (vrow x0 R) k * (dvr x0 x1 x4 R k * vec x2 k) := by
  pointwise [val_main_v69, val_main_v68, val_main_v67, val_main_cst_12]
  simp only [v9_at, v65_at]

/-- Stage 74 of the reference at an index. -/
theorem v74_at (R : Fin 4096) : val_main_v74 (F := Ideal) x0 x1 x2 x4 (ix3 (0 : Fin 1) R (0 : Fin 1) : S1x4096x1.Idx)
    = coef (vrow x0 R) (fun k => dvr x0 x1 x4 R k * vec x2 k) := by
  pointwise [val_main_v74, val_main_v73, val_main_v72, val_main_cst_13]
  rw [v69_at, v20_at]
  rfl

/-- The source index of a sum over the two unit axes beside the rows. -/
theorem drop_rows (R : Fin 4096) (i : S1x4096x1.Idx) : reducesTo_S1x4096x1_S4096_d0_2.drop i = (ix1 R : S4096.Idx) ↔ i = ix3 (0 : Fin 1) R (0 : Fin 1) := by
  constructor
  · intro h
    funext a
    match a with
    | ⟨0, _⟩ => exact Fin.ext (by have : (i 0).val < 1 := (i 0).isLt; show (i 0).val = 0; omega)
    | ⟨1, _⟩ => exact congrFun h 0
    | ⟨2, _⟩ => exact Fin.ext (by have : (i 2).val < 1 := (i 2).isLt; show (i 2).val = 0; omega)
  · rintro rfl
    funext a
    match a with
    | ⟨0, _⟩ => rfl

/-- Stage 75 of the reference at an index. -/
theorem v75_at (R : Fin 4096) : val_main_v75 (F := Ideal) x0 x1 x2 x4 (ix1 R : S4096.Idx)
    = coef (vrow x0 R) (fun k => dvr x0 x1 x4 R k * vec x2 k) := by
  unfold val_main_v75
  rw [reduce_one _ _ _ _ _ _ (drop_rows R), v74_at]
  pointwise [val_main_cst_14]

/-- Stage 81 of the reference at an index. -/
theorem v81_at (R : Fin 4096) (c : Fin 512) : val_main_v81 (F := Ideal) x0 x1 x2 x4 (ix3 (0 : Fin 1) R c : S1x4096x512.Idx)
    = wrow (vrow x0 R) (fun k => dvr x0 x1 x4 R k * vec x2 k) c := by
  pointwise [val_main_v81, val_main_v80, val_main_v79, val_main_v78, val_main_v77, val_main_v76, val_main_v71, val_main_v70]
  rw [v75_at, v65_at, v9_at, v17_at]
  rfl

/-- Stage 86 of the reference at an index. -/
theorem v86_at (R : Fin 4096) : val_main_v86 (F := Ideal) x0 x1 x2 x4 (ix3 (0 : Fin 1) R (0 : Fin 1) : S1x4096x1.Idx)
    = Ideal.div (∑ l, -(wrow (vrow x0 R) (fun k => dvr x0 x1 x4 R k * vec x2 k) l)) c512 := by
  pointwise [val_main_v86, val_main_v85, val_main_cst_16, val_main_v84, val_main_v83, val_main_cst_15, val_main_v82]
  simp only [v81_at]
  rfl

/-- Stage 87 of the reference at an index. -/
theorem v87_at (R : Fin 4096) : val_main_v87 (F := Ideal) x0 x1 x2 x4 (ix1 R : S4096.Idx)
    = Ideal.div (∑ l, -(wrow (vrow x0 R) (fun k => dvr x0 x1 x4 R k * vec x2 k) l)) c512 := by
  unfold val_main_v87
  rw [reduce_one _ _ _ _ _ _ (drop_rows R), v86_at]
  pointwise [val_main_cst_17]

/-- Stage 90 of the reference at an index. -/
theorem v90_at (R : Fin 4096) (c : Fin 512) : val_main_v90 (F := Ideal) x0 x1 x2 x4 (ix3 (0 : Fin 1) R c : S1x4096x512.Idx)
    = dvjp (vrow x0 R) (fun k => dvr x0 x1 x4 R k * vec x2 k) c := by
  pointwise [val_main_v90, val_main_v89, val_main_v88]
  rw [v81_at, v87_at, dvjp]

/-- Stage 46 of the reference at an index. -/
theorem v46_at (R : Fin 4096) (c : Fin 512) : val_main_v46 (F := Ideal) x0 x1 x2 x3 x4 x5 (ix3 (0 : Fin 1) R c : S1x4096x512.Idx)
    = drow x1 R c * mix (wmat x4) (bmat x5) (vch x0 x2 x3 (ch R)) (off R) c := by
  pointwise [val_main_v46, val_main_v44, val_main_v43, val_main_v2]
  rw [v41_at]
  rfl

/-- The first result at a column: the gradient of the gated half, then the gradient of the normalised half. -/
theorem v95_lo (R : Fin 4096) (c : Fin 512) : val_main_v95 (F := Ideal) x0 x1 x2 x3 x4 x5 (ix2 R (⟨c.val, by omega⟩ : Fin 1024) : S4096x1024.Idx)
    = drow x1 R c * mix (wmat x4) (bmat x5) (vch x0 x2 x3 (ch R)) (off R) c := by
  pointwise [val_main_v95, val_main_v94, val_main_v93, val_main_v92, val_main_v91, val_main_cst_18, val_main_cst_19]
  rw [← v46_at, dif_neg (fun h => h.1), zero_add]

/-- Stage 95 of the reference at an index. -/
theorem v95_hi (R : Fin 4096) (c : Fin 512) : val_main_v95 (F := Ideal) x0 x1 x2 x3 x4 x5 (ix2 R (⟨512 + c.val, by omega⟩ : Fin 1024) : S4096x1024.Idx)
    = dvjp (vrow x0 R) (fun k => dvr x0 x1 x4 R k * vec x2 k) c := by
  pointwise [val_main_v95, val_main_v94, val_main_v93, val_main_v92, val_main_v91, val_main_cst_18, val_main_cst_19]
  rw [← v90_at]

/-- Stage 50 of the reference at an index. -/
theorem v50_at (t : Fin 128) (h : Fin 8) : val_main_v50 (F := Ideal) x0 x1 (ix2 t h : S128x8.Idx)
    = ∑ n : Fin 32, ∑ k : Fin 64, mch x0 x1 n t (col h k) := by
  unfold val_main_v50
  rw [reduce_one _ _ _ _ _ (ix5 (0 : Fin 1) (0 : Fin 1) t h (0 : Fin 1) : S1x1x128x8x1.Idx) (fun i => ?_)]
  · rw [val_main_v49_apply, ← v48_at]
    pointwise [val_main_cst_7]
    congr 1
    funext a
    match a with
    | ⟨0, _⟩ => rfl
    | ⟨1, _⟩ => exact Fin.ext (show ((((0 * 1 + 0) * 128 + t.val) * 8 + h.val) * 1 + 0) / 8 % 128 = t.val by omega)
    | ⟨2, _⟩ => exact Fin.ext (show ((((0 * 1 + 0) * 128 + t.val) * 8 + h.val) * 1 + 0) % 8 = h.val by omega)
  · constructor
    · intro e
      funext a
      match a with
      | ⟨0, _⟩ => exact Fin.ext (by have : (i 0).val < 1 := (i 0).isLt; show (i 0).val = 0; omega)
      | ⟨1, _⟩ => exact Fin.ext (by have : (i 1).val < 1 := (i 1).isLt; show (i 1).val = 0; omega)
      | ⟨2, _⟩ => exact congrFun e 0
      | ⟨3, _⟩ => exact congrFun e 1
      | ⟨4, _⟩ => exact Fin.ext (by have : (i 4).val < 1 := (i 4).isLt; show (i 4).val = 0; omega)
    · rintro rfl
      funext a
      match a with
      | ⟨0, _⟩ => rfl
      | ⟨1, _⟩ => rfl

/-- The third result: the bias gradient on the first eight lanes, zero beyond. -/
theorem v97_at (t h : Fin 128) : val_main_v97 (F := Ideal) x0 x1 (ix2 t h : S128x128.Idx)
    = if hh : h.val < 8 then ∑ n : Fin 32, ∑ k : Fin 64, mch x0 x1 n t (col ⟨h.val, hh⟩ k) else 0 := by
  by_cases hh : h.val < 8
  · rw [dif_pos hh, ← v50_at]
    pointwise [val_main_v97, val_main_v96, val_main_v51]
    rw [dif_pos hh]
  · rw [dif_neg hh]
    pointwise [val_main_v97, val_main_v96, val_main_v51]
    rw [dif_neg hh]
    pointwise [val_main_call3_v0, val_main_c_20]
    simp [FloatOps.sitofp]

/-- The source index of a sum over the two unit axes before a vector. -/
theorem drop_vec (c : Fin 512) (i : S1x1x512.Idx) : reducesTo_S1x1x512_S512_d0_1.drop i = (ix1 c : S512.Idx) ↔ i = ix3 (0 : Fin 1) (0 : Fin 1) c := by
  constructor
  · intro h
    funext a
    match a with
    | ⟨0, _⟩ => exact Fin.ext (by have : (i 0).val < 1 := (i 0).isLt; show (i 0).val = 0; omega)
    | ⟨1, _⟩ => exact Fin.ext (by have : (i 1).val < 1 := (i 1).isLt; show (i 1).val = 0; omega)
    | ⟨2, _⟩ => exact congrFun h 0
  · rintro rfl
    funext a
    match a with
    | ⟨0, _⟩ => rfl

/-- The fourth result: the gradient of the normalisation's scale. -/
theorem v98_at (c : Fin 512) : val_main_v98 (F := Ideal) x0 x1 x4 (ix2 (0 : Fin 1) c : S1x512.Idx)
    = ∑ R : Fin 4096, dvr x0 x1 x4 R c * yh (vrow x0 R) c := by
  pointwise [val_main_v98]
  unfold val_main_v66
  rw [reduce_one _ _ _ _ _ _ (drop_vec c)]
  pointwise [val_main_cst_11, val_main_v63, val_main_v62, val_main_cst_10, val_main_v61]
  exact Finset.sum_congr rfl fun R _ => by rw [v57_at', v22_at, mul_comm]

/-- The fifth result: the gradient of the normalisation's shift. -/
theorem v99_at (c : Fin 512) : val_main_v99 (F := Ideal) x0 x1 x4 (ix2 (0 : Fin 1) c : S1x512.Idx)
    = ∑ R : Fin 4096, dvr x0 x1 x4 R c := by
  pointwise [val_main_v99]
  unfold val_main_v60
  rw [reduce_one _ _ _ _ _ _ (drop_vec c)]
  pointwise [val_main_cst_9, val_main_v59, val_main_v58, val_main_cst_8]
  exact Finset.sum_congr rfl fun R _ => by rw [v57_at']

end Cert.ReferenceIdeal.SguRef

end
-- ==== Proof.SguArr.lean ====
/- One grid point's contributions, read off the argument arrays. -/
module

public import proofs.«01_k».proof.Proof.SguBlk
public import proofs.«01_k».proof.Proof.SguRef2

@[expose] public section

set_option maxRecDepth 16384

noncomputable section

open Idealize.ShloMosaic Idealize.ShloMosaic.TcCoe Idealize.SL.Sem

namespace Cert.KernelIdeal.SguArr

open Cert.KernelIdeal Cert.KernelIdeal.Gen Cert.Sgu Cert.KernelIdeal.SguCore Cert.KernelIdeal.SguBlk
open Cert.ReferenceIdeal.SguRef

variable (m : (ℓ : Loc nD τ sig) → Buf (Elt Ideal) ℓ)

/-- A row's mate in its chunk, as a row of the arrays. -/
theorem grow_mate (t : Fin cfg0.N) (r : Fin 256) (s : Fin 128) : grow t (mate r s) = rw_ (ch (grow t r)) s := by
  apply Fin.ext
  simp only [grow, mate, rw_, ch]
  omega

/-- A row's place in its chunk. -/
theorem inch_off (t : Fin cfg0.N) (r : Fin 256) : inch r = off (grow t r) := by
  apply Fin.ext
  simp only [grow, inch, off]
  omega

/-- The `q`-th chunk of point `t`. -/
def pch (t : Fin cfg0.N) (q : Fin 2) : Fin 32 := ⟨2 * t.val + q.val, by have := lt_of_lt_of_eq t.isLt N_0; omega⟩

/-- A row of the first chunk. -/
theorem grow_lo (t : Fin cfg0.N) (a : Fin 128) : grow t (lo a) = rw_ (pch t 0) a := by
  apply Fin.ext
  simp only [grow, lo, rw_, pch, Fin.val_zero]
  omega

/-- A row of the second chunk. -/
theorem grow_hi (t : Fin cfg0.N) (a : Fin 128) : grow t (hi a) = rw_ (pch t 1) a := by
  apply Fin.ext
  simp only [grow, hi, rw_, pch, Fin.val_one]
  omega

/-- The block's rows of the normalised half. -/
theorem brow_blk (c : Dev nD) (t : Fin cfg0.N) (r : Fin 256) : brow (iblk m c 1 t) r = vrow (a0 m c) (grow t r) :=
  funext fun k => b1 m c t r k

/-- The scaled and shifted normalised rows of the block. -/
theorem pay13_blk (c : Dev nD) (t : Fin cfg0.N) (r : Fin 256) (k : Fin 512) :
    k0_pay13 (iblk m c 3 t) (iblk m c 1 t) (iblk m c 4 t) (ix2 r k)
      = vn (vec (a2 m c)) (vec (a3 m c)) (vrow (a0 m c) (grow t r)) k := by
  rw [pay13, brow_blk, show (fun l => iblk m c 3 t (ix2 0 l)) = vec (a2 m c) from funext fun l => b3 m c t 0 l,
    show (fun l => iblk m c 4 t (ix2 0 l)) = vec (a3 m c) from funext fun l => b4 m c t 0 l]

/-- The gradient of the normalised rows, block against arrays. -/
theorem dvB_blk (c : Dev nD) (t : Fin cfg0.N) (r : Fin 256) (k : Fin 512) :
    dvB (iblk m c 6 t) (iblk m c 2 t) (iblk m c 0 t) r k = dvr (a0 m c) (a1 m c) (a4 m c) (grow t r) k := by
  unfold dvB dvr dv
  refine Finset.sum_congr rfl fun s _ => ?_
  rw [b6, b2, b0, grow_mate, inch_off t r]
  rfl

/-- The mixed values, block against arrays. -/
theorem mixB_blk (c : Dev nD) (t : Fin cfg0.N) (r : Fin 256) (k : Fin 512) :
    mixB (iblk m c 5 t) (iblk m c 7 t) (k0_pay13 (iblk m c 3 t) (iblk m c 1 t) (iblk m c 4 t)) r k
      = mix (wmat (a4 m c)) (bmat (a5 m c)) (vch (a0 m c) (a2 m c) (a3 m c) (ch (grow t r))) (off (grow t r)) k := by
  unfold mixB mix
  rw [b7, inch_off t r]
  refine congrArg (· + _) (Finset.sum_congr rfl fun s _ => ?_)
  rw [b5, pay13_blk, grow_mate]
  rfl

/-- The mixing matrices' gradient, one point against two chunks. -/
theorem dwpt_blk (c : Dev nD) (t : Fin cfg0.N) (h : Fin 8) (a b : Fin 128) :
    dwpt (iblk m c 2 t) (iblk m c 0 t) (k0_pay13 (iblk m c 3 t) (iblk m c 1 t) (iblk m c 4 t)) h a b
      = if b.val ≤ a.val then
          ∑ q : Fin 2, ∑ k : Fin 64, mch (a0 m c) (a1 m c) (pch t q) a (col h k)
            * vch (a0 m c) (a2 m c) (a3 m c) (pch t q) b (col h k)
        else 0 := by
  unfold dwpt
  simp only [b2, b0, pay13_blk, grow_lo, grow_hi, Fin.sum_univ_two]
  rfl

/-- The biases' gradient before the heads are put together, one point against two chunks. -/
theorem abpt_blk (c : Dev nD) (t : Fin cfg0.N) (A : FVec Ideal S128x512 .f32) (a : Fin 128) (k : Fin 512) :
    abpt A (iblk m c 2 t) (iblk m c 0 t) a k
      = A (ix2 a k) + ∑ q : Fin 2, mch (a0 m c) (a1 m c) (pch t q) a k := by
  unfold abpt
  simp only [b2, b0, grow_lo, grow_hi, Fin.sum_univ_two]
  rw [add_assoc]
  rfl

/-- The scale's gradient, one point against its rows. -/
theorem agpt_blk (c : Dev nD) (t : Fin cfg0.N) (a : Fin 8) (k : Fin 512) :
    agpt (iblk m c 6 t) (iblk m c 2 t) (iblk m c 0 t) (iblk m c 1 t) a k
      = ∑ j : Fin 32, dvr (a0 m c) (a1 m c) (a4 m c) (grow t (eighth j a)) k * yh (vrow (a0 m c) (grow t (eighth j a))) k := by
  unfold agpt
  simp only [dvB_blk, brow_blk]

/-- The shift's gradient, one point against its rows. -/
theorem abbpt_blk (c : Dev nD) (t : Fin cfg0.N) (a : Fin 8) (k : Fin 512) :
    abbpt (iblk m c 6 t) (iblk m c 2 t) (iblk m c 0 t) a k
      = ∑ j : Fin 32, dvr (a0 m c) (a1 m c) (a4 m c) (grow t (eighth j a)) k := by
  unfold abbpt
  simp only [dvB_blk]

/-- The first result's block, against the arrays. -/
theorem o8B_blk (c : Dev nD) (t : Fin cfg0.N) (r : Fin 256) (k : Fin 1024) :
    o8B (iblk m c 3 t) (iblk m c 7 t) (iblk m c 5 t) (iblk m c 6 t) (iblk m c 2 t) (iblk m c 0 t) (iblk m c 1 t)
        (k0_pay13 (iblk m c 3 t) (iblk m c 1 t) (iblk m c 4 t)) r k
      = if hk : k.val < 512 then
          drow (a1 m c) (grow t r) ⟨k.val, hk⟩
            * mix (wmat (a4 m c)) (bmat (a5 m c)) (vch (a0 m c) (a2 m c) (a3 m c) (ch (grow t r))) (off (grow t r)) ⟨k.val, hk⟩
        else dln (vec (a2 m c)) (vrow (a0 m c) (grow t r)) (dvr (a0 m c) (a1 m c) (a4 m c) (grow t r)) ⟨k.val - 512, by omega⟩ := by
  unfold o8B davB
  simp only [dvB_blk, brow_blk, mixB_blk, b2,
    show (fun l => iblk m c 3 t (ix2 0 l)) = vec (a2 m c) from funext fun l => b3 m c t 0 l]

/-- The zero fills. -/
theorem fill5 (h : Fin 8) (a b : Fin 128) : k0_pay5 (F := Ideal) (ix3 h a b) = 0 := by
  pointwise [k0_pay5]
/-- The zero fill of the biases' sum. -/
theorem fill6 (a : Fin 128) (k : Fin 512) : k0_pay6 (F := Ideal) (ix2 a k) = 0 := by
  pointwise [k0_pay6]
/-- The zero fill of the scale's sum. -/
theorem fill7 (a : Fin 8) (k : Fin 512) : k0_pay7 (F := Ideal) (ix2 a k) = 0 := by
  pointwise [k0_pay7]
/-- The zero fill of the shift's sum. -/
theorem fill8 (a : Fin 8) (k : Fin 512) : k0_pay8 (F := Ideal) (ix2 a k) = 0 := by
  pointwise [k0_pay8]

end Cert.KernelIdeal.SguArr
-- ==== Proof.SguFold.lean ====
/- The sixteen points of the grid put together, and the results as sums over chunks and rows. -/
module

public import proofs.«01_k».proof.Proof.SguA
public import proofs.«01_k».proof.Proof.SguB
public import proofs.«01_k».proof.Proof.SguC
public import proofs.«01_k».proof.Proof.SguArr

@[expose] public section

set_option maxRecDepth 16384

noncomputable section

open Idealize.ShloMosaic Idealize.ShloMosaic.TcCoe Idealize.SL.Sem

namespace Cert.KernelIdeal.SguFold

open Cert.KernelIdeal Cert.KernelIdeal.Gen Cert.Sgu Cert.KernelIdeal.SguCore Cert.KernelIdeal.SguBlk Cert.KernelIdeal.SguArr
open Cert.KernelIdeal.Value Cert.KernelIdeal.SguVal
open Cert.ReferenceIdeal.SguRef

/-- A quantity that a first point sets and every later point increases is the sum of the points' parts. -/
theorem fold_sum {α : Type} {N : ℕ} (a : (n : ℕ) → n < N → α) (g : (n : ℕ) → n < N → α → α) (f : α → EReal)
    (M : (n : ℕ) → n < N → EReal) (hA : ∀ h, f (a 0 h) = M 0 h)
    (hS : ∀ n (h : n < N) (acc : α), n ≠ 0 → f (g n h acc) = f acc + M n h) :
    ∀ n (h : 0 + n < N), f (Pipeline.accAt a g 0 n h) = ∑ i : Fin (n + 1), M i.val (by omega)
  | 0, h => by
    rw [Pipeline.accAt_zero, hA, Fin.sum_univ_one]
    rfl
  | n + 1, h => by
    rw [Pipeline.accAt_succ, hS _ _ _ (by omega), fold_sum a g f M hA hS n (by omega)]
    refine Eq.trans ?_ (Fin.sum_univ_castSucc _).symm
    simp only [Fin.val_castSucc, Fin.val_last, Nat.zero_add]

/-- A sum over blocks and places is the sum over all positions. -/
theorem sum_blocks (a b : ℕ) {n : ℕ} (hn : a * b = n) (F : Fin n → EReal) :
    ∑ i : Fin a, ∑ q : Fin b, F ⟨b * i.val + q.val, by
      have h1 := i.isLt; have h2 := q.isLt; rw [← hn]
      calc b * i.val + q.val < b * i.val + b := by omega
        _ = b * (i.val + 1) := by ring
        _ ≤ b * a := Nat.mul_le_mul_left b h1
        _ = a * b := Nat.mul_comm b a⟩ = ∑ p, F p := by
  subst hn
  rw [← Fintype.sum_prod_type']
  refine Fintype.sum_equiv finProdFinEquiv _ _ fun p => congrArg F (Fin.ext ?_)
  simp only [finProdFinEquiv_apply_val]
  omega

variable (m : (ℓ : Loc nD τ sig) → Buf (Elt Ideal) ℓ)

/-- The buffers after point `n`. -/
abbrev st (c : Dev nD) (n : ℕ) (h : 0 + n < cfg0.N) :=
  Pipeline.accAt (fun n h => stAt0 (F := Ideal) m c n h junk0) (stAt0 m c) 0 n h

/-- The mixing matrices' gradient after point `n`. -/
theorem dw_st (c : Dev nD) (h : Fin 8) (a b : Fin 128) (n : ℕ) (hn : 0 + n < cfg0.N) :
    (st m c n hn).2.1 (ix3 h a b) = ∑ i : Fin (n + 1), dwpt (iblk m c 2 ⟨i.val, by omega⟩) (iblk m c 0 ⟨i.val, by omega⟩)
      (k0_pay13 (iblk m c 3 ⟨i.val, by omega⟩) (iblk m c 1 ⟨i.val, by omega⟩) (iblk m c 4 ⟨i.val, by omega⟩)) h a b := by
  refine fold_sum (fun n h => stAt0 (F := Ideal) m c n h junk0) (stAt0 m c) (fun s => s.2.1 (ix3 h a b)) (fun n hn => dwpt (iblk m c 2 ⟨n, hn⟩) (iblk m c 0 ⟨n, hn⟩)
      (k0_pay13 (iblk m c 3 ⟨n, hn⟩) (iblk m c 1 ⟨n, hn⟩) (iblk m c 4 ⟨n, hn⟩)) h a b) (fun h0 => ?_) (fun n h0 acc hz => ?_) n hn
  · refine (dw_A m c ⟨0, h0⟩ junk0 (by decide : 0 % 16 = 0) (by decide : ¬0 % 16 = 15) h a b).trans ?_
    rw [fill5, zero_add]
  · have hN := lt_of_lt_of_eq h0 N_0
    by_cases h1 : n % 16 = 15
    · exact dw_C m c ⟨n, h0⟩ acc (by show ¬n % 16 = 0; omega) h1 h a b
    · exact dw_B m c ⟨n, h0⟩ acc (by show ¬n % 16 = 0; omega) h1 h a b

/-- The biases' sum after point `n`. -/
theorem ab_st (c : Dev nD) (a : Fin 128) (k : Fin 512) (n : ℕ) (hn : 0 + n < cfg0.N) :
    (st m c n hn).2.2.2.2.2.1 (ix2 a k) = ∑ i : Fin (n + 1), ∑ q : Fin 2, mch (a0 m c) (a1 m c) (pch ⟨i.val, by omega⟩ q) a k := by
  refine fold_sum (fun n h => stAt0 (F := Ideal) m c n h junk0) (stAt0 m c) (fun s => s.2.2.2.2.2.1 (ix2 a k)) (fun n hn => ∑ q : Fin 2, mch (a0 m c) (a1 m c) (pch ⟨n, hn⟩ q) a k)
    (fun h0 => ?_) (fun n h0 acc hz => ?_) n hn
  · refine (ab_A m c ⟨0, h0⟩ junk0 (by decide : 0 % 16 = 0) (by decide : ¬0 % 16 = 15) a k).trans ?_
    rw [abpt_blk, fill6, zero_add]
  · have hN := lt_of_lt_of_eq h0 N_0
    by_cases h1 : n % 16 = 15
    · exact (ab_C m c ⟨n, h0⟩ acc (by show ¬n % 16 = 0; omega) h1 a k).trans (abpt_blk m c _ _ a k)
    · exact (ab_B m c ⟨n, h0⟩ acc (by show ¬n % 16 = 0; omega) h1 a k).trans (abpt_blk m c _ _ a k)

/-- The scale's sum after point `n`. -/
theorem ag_st (c : Dev nD) (a : Fin 8) (k : Fin 512) (n : ℕ) (hn : 0 + n < cfg0.N) :
    (st m c n hn).2.2.2.2.2.2.1 (ix2 a k) = ∑ i : Fin (n + 1), agpt (iblk m c 6 ⟨i.val, by omega⟩) (iblk m c 2 ⟨i.val, by omega⟩)
      (iblk m c 0 ⟨i.val, by omega⟩) (iblk m c 1 ⟨i.val, by omega⟩) a k := by
  refine fold_sum (fun n h => stAt0 (F := Ideal) m c n h junk0) (stAt0 m c) (fun s => s.2.2.2.2.2.2.1 (ix2 a k)) (fun n hn => agpt (iblk m c 6 ⟨n, hn⟩) (iblk m c 2 ⟨n, hn⟩)
      (iblk m c 0 ⟨n, hn⟩) (iblk m c 1 ⟨n, hn⟩) a k) (fun h0 => ?_) (fun n h0 acc hz => ?_) n hn
  · refine (ag_A m c ⟨0, h0⟩ junk0 (by decide : 0 % 16 = 0) (by decide : ¬0 % 16 = 15) a k).trans ?_
    rw [fill7, zero_add]
  · have hN := lt_of_lt_of_eq h0 N_0
    by_cases h1 : n % 16 = 15
    · exact ag_C m c ⟨n, h0⟩ acc (by show ¬n % 16 = 0; omega) h1 a k
    · exact ag_B m c ⟨n, h0⟩ acc (by show ¬n % 16 = 0; omega) h1 a k

/-- The shift's sum after point `n`. -/
theorem abb_st (c : Dev nD) (a : Fin 8) (k : Fin 512) (n : ℕ) (hn : 0 + n < cfg0.N) :
    (st m c n hn).2.2.2.2.2.2.2 (ix2 a k) = ∑ i : Fin (n + 1), abbpt (iblk m c 6 ⟨i.val, by omega⟩) (iblk m c 2 ⟨i.val, by omega⟩)
      (iblk m c 0 ⟨i.val, by omega⟩) a k := by
  refine fold_sum (fun n h => stAt0 (F := Ideal) m c n h junk0) (stAt0 m c) (fun s => s.2.2.2.2.2.2.2 (ix2 a k)) (fun n hn => abbpt (iblk m c 6 ⟨n, hn⟩) (iblk m c 2 ⟨n, hn⟩)
      (iblk m c 0 ⟨n, hn⟩) a k) (fun h0 => ?_) (fun n h0 acc hz => ?_) n hn
  · refine (abb_A m c ⟨0, h0⟩ junk0 (by decide : 0 % 16 = 0) (by decide : ¬0 % 16 = 15) a k).trans ?_
    rw [fill8, zero_add]
  · have hN := lt_of_lt_of_eq h0 N_0
    by_cases h1 : n % 16 = 15
    · exact abb_C m c ⟨n, h0⟩ acc (by show ¬n % 16 = 0; omega) h1 a k
    · exact abb_B m c ⟨n, h0⟩ acc (by show ¬n % 16 = 0; omega) h1 a k

/-- The first result's block after point `n`. -/
theorem o8_st (c : Dev nD) (r : Fin 256) (k : Fin 1024) : ∀ (n : ℕ) (hn : 0 + n < cfg0.N),
    (st m c n hn).1 (ix2 r k) = o8B (iblk m c 3 ⟨n, by omega⟩) (iblk m c 7 ⟨n, by omega⟩) (iblk m c 5 ⟨n, by omega⟩) (iblk m c 6 ⟨n, by omega⟩)
      (iblk m c 2 ⟨n, by omega⟩) (iblk m c 0 ⟨n, by omega⟩) (iblk m c 1 ⟨n, by omega⟩)
      (k0_pay13 (iblk m c 3 ⟨n, by omega⟩) (iblk m c 1 ⟨n, by omega⟩) (iblk m c 4 ⟨n, by omega⟩)) r k
  | 0, hn => o8_A m c ⟨0, hn⟩ junk0 (by decide : 0 % 16 = 0) (by decide : ¬0 % 16 = 15) r k
  | n + 1, hn => by
    rw [st, Pipeline.accAt_succ]
    have hN := lt_of_lt_of_eq hn N_0
    generalize Pipeline.accAt _ _ 0 n _ = acc
    have key : ∀ j (hj : j < cfg0.N), j ≠ 0 → (stAt0 m c j hj acc).1 (ix2 r k)
        = o8B (iblk m c 3 ⟨j, hj⟩) (iblk m c 7 ⟨j, hj⟩) (iblk m c 5 ⟨j, hj⟩) (iblk m c 6 ⟨j, hj⟩)
      (iblk m c 2 ⟨j, hj⟩) (iblk m c 0 ⟨j, hj⟩) (iblk m c 1 ⟨j, hj⟩)
      (k0_pay13 (iblk m c 3 ⟨j, hj⟩) (iblk m c 1 ⟨j, hj⟩) (iblk m c 4 ⟨j, hj⟩)) r k := by
      intro j hj hz
      have hN := lt_of_lt_of_eq hj N_0
      by_cases h1 : j % 16 = 15
      · exact o8_C m c ⟨j, hj⟩ acc (by show ¬j % 16 = 0; omega) h1 r k
      · exact o8_B m c ⟨j, hj⟩ acc (by show ¬j % 16 = 0; omega) h1 r k
    refine (key _ hn (by omega)).trans ?_
    rw [show (⟨0 + (n + 1), hn⟩ : Fin cfg0.N) = ⟨n + 1, by omega⟩ from Fin.ext (Nat.zero_add _)]

/-- The mixing matrices' gradient. -/
theorem G9_at (c : Dev nD) (h : Fin 8) (a b : Fin 128) : G9 (F := Ideal) m c (ix3 h a b)
    = if b.val ≤ a.val then
        ∑ n : Fin 32, ∑ k : Fin 64, mch (a0 m c) (a1 m c) n a (col h k) * vch (a0 m c) (a2 m c) (a3 m c) n b (col h k)
      else 0 := by
  rw [G9_last]
  refine (dw_st m c h a b 15 _).trans ?_
  simp only [dwpt_blk]
  split
  · exact sum_blocks 16 2 rfl fun n => ∑ k : Fin 64, mch (a0 m c) (a1 m c) n a (col h k) * vch (a0 m c) (a2 m c) (a3 m c) n b (col h k)
  · simp only [Finset.sum_const_zero]

/-- The biases' gradient. -/
theorem G10_at (c : Dev nD) (a z : Fin 128) : G10 (F := Ideal) m c (ix2 a z)
    = if hz : z.val < 8 then ∑ n : Fin 32, ∑ k : Fin 64, mch (a0 m c) (a1 m c) n a (col ⟨z.val, hz⟩ k) else 0 := by
  rw [G10_last, Pipeline.accAt_succ]
  refine (o10_C m c ⟨15, lt_of_lt_of_eq (by decide) N_0.symm⟩ _ (by decide) (by decide) a z).trans ?_
  have hk : ∀ k : Fin 512, (abpt (st m c 14 (lt_of_lt_of_eq (by decide) N_0.symm)).2.2.2.2.2.1
      (iblk m c 2 ⟨15, lt_of_lt_of_eq (by decide) N_0.symm⟩) (iblk m c 0 ⟨15, lt_of_lt_of_eq (by decide) N_0.symm⟩) a k)
      = ∑ n : Fin 32, mch (a0 m c) (a1 m c) n a k := by
    intro k
    rw [abpt_blk, ab_st, ← sum_blocks 16 2 rfl]
    refine Eq.trans ?_ (Fin.sum_univ_castSucc _).symm
    rfl
  simp only [hk]
  refine (sum_blocks 8 64 rfl _).symm.trans ?_
  have hd : ∀ (i : Fin 8) (q : Fin 64), (64 * i.val + q.val) / 64 = i.val := fun i q => by omega
  simp only [hd]
  split
  · rename_i hz
    rw [Finset.sum_eq_single (⟨z.val, hz⟩ : Fin 8)]
    · simp only [if_true]
      rw [Finset.sum_comm]
      rfl
    · intro i _ hi
      exact Finset.sum_eq_zero fun q _ => if_neg fun e => hi (Fin.ext e)
    · exact fun hh => absurd (Finset.mem_univ _) hh
  · rename_i hz
    exact Finset.sum_eq_zero fun i _ => Finset.sum_eq_zero fun q _ => if_neg fun (e : i.val = z.val) => hz (e ▸ i.isLt)

/-- A sum over eighths, points and groups of eight rows is the sum over all rows. -/
theorem sum_rows (F : Fin 4096 → EReal) (hN : ∀ i : Fin 16, i.val < cfg0.N) :
    ∑ a : Fin 8, ∑ i : Fin 16, ∑ j : Fin 32, F (grow ⟨i.val, hN i⟩ (eighth j a)) = ∑ R, F R := by
  rw [Finset.sum_comm, ← sum_blocks 16 256 rfl]
  refine Finset.sum_congr rfl fun i _ => ?_
  rw [Finset.sum_comm, ← sum_blocks 32 8 rfl]
  refine Finset.sum_congr rfl fun j _ => Finset.sum_congr rfl fun a _ => congrArg F (Fin.ext ?_)
  show 256 * i.val + (j.val * 8 + a.val) = 256 * i.val + (8 * j.val + a.val)
  omega

/-- The scale's gradient. -/
theorem G11_at (c : Dev nD) (k : Fin 512) : G11 (F := Ideal) m c (ix2 0 k)
    = ∑ R : Fin 4096, dvr (a0 m c) (a1 m c) (a4 m c) R k * yh (vrow (a0 m c) R) k := by
  rw [G11_last, Pipeline.accAt_succ]
  refine (o11_C m c ⟨15, lt_of_lt_of_eq (by decide) N_0.symm⟩ _ (by decide) (by decide) k).trans ?_
  refine Eq.trans ?_ (sum_rows (fun R => dvr (a0 m c) (a1 m c) (a4 m c) R k * yh (vrow (a0 m c) R) k)
    fun i => lt_of_lt_of_eq i.isLt N_0.symm)
  refine Finset.sum_congr rfl fun a _ => ?_
  rw [ag_st m c a k 14]
  refine Eq.trans ?_ (Fin.sum_univ_castSucc _).symm
  simp only [agpt_blk]
  rfl

/-- The shift's gradient. -/
theorem G12_at (c : Dev nD) (k : Fin 512) : G12 (F := Ideal) m c (ix2 0 k)
    = ∑ R : Fin 4096, dvr (a0 m c) (a1 m c) (a4 m c) R k := by
  rw [G12_last, Pipeline.accAt_succ]
  refine (o12_C m c ⟨15, lt_of_lt_of_eq (by decide) N_0.symm⟩ _ (by decide) (by decide) k).trans ?_
  refine Eq.trans ?_ (sum_rows (fun R => dvr (a0 m c) (a1 m c) (a4 m c) R k) fun i => lt_of_lt_of_eq i.isLt N_0.symm)
  refine Finset.sum_congr rfl fun a _ => ?_
  rw [abb_st m c a k 14]
  refine Eq.trans ?_ (Fin.sum_univ_castSucc _).symm
  simp only [abbpt_blk]
  rfl

/-- The first result: the gating half's gradient, then the normalised half's. -/
theorem G8_at (c : Dev nD) (R : Fin 4096) (k : Fin 1024) : G8 (F := Ideal) m c (ix2 R k)
    = if hk : k.val < 512 then
          drow (a1 m c) R ⟨k.val, hk⟩
            * mix (wmat (a4 m c)) (bmat (a5 m c)) (vch (a0 m c) (a2 m c) (a3 m c) (ch R)) (off R) ⟨k.val, hk⟩
        else dln (vec (a2 m c)) (vrow (a0 m c) R) (dvr (a0 m c) (a1 m c) (a4 m c) R) ⟨k.val - 512, by omega⟩ := by
  have hpt : pt8Of (ix2 R k : S4096x1024.Idx) = R.val / 256 := by
    show 1 * (R.val / 256 - 0) + 1 * (k.val / 1024 - 0) = R.val / 256
    omega
  have hlt : R.val / 256 < cfg0.N := lt_of_lt_of_eq (by omega) N_0.symm
  have hloc : loc8Of (ix2 R k : S4096x1024.Idx) = (ix2 (⟨R.val % 256, by omega⟩ : Fin 256) k : S256x1024.Idx) := by
    funext z
    match z with
    | 0 => rfl
    | 1 => exact Fin.ext (Nat.mod_eq_of_lt k.isLt)
  unfold G8
  rw [dif_pos (lt_of_eq_of_lt hpt hlt), hloc]
  have hg : grow ⟨R.val / 256, hlt⟩ ⟨R.val % 256, by omega⟩ = R := Fin.ext (Nat.div_add_mod R.val 256)
  have key := (o8_st m c ⟨R.val % 256, by omega⟩ k (R.val / 256) (by omega)).trans (o8B_blk m c ⟨R.val / 256, hlt⟩ _ k)
  rw [hg] at key
  rw [← key]
  simp only [hpt]

end Cert.KernelIdeal.SguFold
-- ==== Proof.SguRef3.lean ====
/- The reference's gradient of the mixing matrices, entry by entry. -/
module

public import proofs.«01_k».proof.Proof.SguRef2
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceIdeal.SguRef

open Cert.ReferenceIdeal Cert.ReferenceIdeal.Gen Cert.ReferenceIdeal.Read Cert.Sgu

variable (x0 : FVec Ideal S4096x3584 .f32) (x1 : FVec Ideal S4096x2048 .f32) (x2 x3 : FVec Ideal S512 .f32)

/-- The contraction of chunks and lanes. -/
abbrev dotW := dot_S8x1x32x64x128_S1x32x128x8x64_S8x128x128_123_014_4_2_0_3

/-- A chunk and a lane as an index of the contraction. -/
def cidx (n : Fin 32) (k : Fin 64) : dotW.contr.Idx := fun a => match a with
  | ⟨0, _⟩ => (⟨0, Nat.one_pos⟩ : Fin 1)
  | ⟨1, _⟩ => n
  | ⟨2, _⟩ => k
  | ⟨j + 3, h⟩ => absurd (show j + 3 < 3 from h) (by omega)

/-- The left factor's index. -/
theorem lhs_dotW (h : Fin 8) (t s : Fin 128) (n : Fin 32) (k : Fin 64) :
    dotW.lhsIdx (ix3 h t s) (cidx n k) = (ix5 h (0 : Fin 1) n k t : S8x1x32x64x128.Idx) := by
  funext a
  match a with
  | ⟨0, _⟩ => rfl
  | ⟨1, _⟩ => rfl
  | ⟨2, _⟩ => rfl
  | ⟨3, _⟩ => rfl
  | ⟨4, _⟩ => rfl

/-- The right factor's index. -/
theorem rhs_dotW (h : Fin 8) (t s : Fin 128) (n : Fin 32) (k : Fin 64) :
    dotW.rhsIdx (ix3 h t s) (cidx n k) = (ix5 (0 : Fin 1) n s h k : S1x32x128x8x64.Idx) := by
  funext a
  match a with
  | ⟨0, _⟩ => rfl
  | ⟨1, _⟩ => rfl
  | ⟨2, _⟩ => rfl
  | ⟨3, _⟩ => rfl
  | ⟨4, _⟩ => rfl

/-- The left factor at a chunk and a lane. -/
theorem v52_at (h : Fin 8) (n : Fin 32) (k : Fin 64) (t : Fin 128) :
    val_main_v52 (F := Ideal) x0 x1 (ix5 h (0 : Fin 1) n k t : S8x1x32x64x128.Idx) = mch x0 x1 n t (col h k) := by
  rw [val_main_v52_apply, ← v47_at]
  congr 1
  funext a
  match a with
  | ⟨0, _⟩ => rfl
  | ⟨1, _⟩ => rfl
  | ⟨2, _⟩ => rfl
  | ⟨3, _⟩ => rfl
  | ⟨4, _⟩ => rfl

/-- The contraction as a double sum. -/
theorem v53_at (h : Fin 8) (t s : Fin 128) : val_main_v53 (F := Ideal) x0 x1 x2 x3 (ix3 h t s : S8x128x128.Idx)
    = ∑ n : Fin 32, ∑ k : Fin 64, mch x0 x1 n t (col h k) * vch x0 x2 x3 n s (col h k) := by
  unfold val_main_v53
  simp only [Host.dotGeneral]
  rw [Ideal.dotGeneral_apply, ← Finset.sum_product']
  symm
  refine Finset.sum_bij (fun p _ => cidx p.1 p.2) (fun p _ => Finset.mem_univ _) (fun p _ q _ hpq => ?_) (fun i _ => ?_) (fun p _ => ?_)
  · exact Prod.ext (congrFun hpq ⟨1, by decide⟩) (congrFun hpq ⟨2, by decide⟩)
  · refine ⟨(i ⟨1, by decide⟩, i ⟨2, by decide⟩), by simp, ?_⟩
    funext a
    match a with
    | ⟨0, _⟩ => exact Fin.ext (by have : (i ⟨0, by decide⟩).val < 1 := (i ⟨0, by decide⟩).isLt; show 0 = (i ⟨0, by decide⟩).val; omega)
    | ⟨1, _⟩ => rfl
    | ⟨2, _⟩ => rfl
    | ⟨j + 3, h⟩ => exact absurd (show j + 3 < 3 from h) (by omega)
  · show _ = _ * _
    rw [lhs_dotW, rhs_dotW, v52_at, v29_at]
    rfl

/-- The gradient of the mixing matrices: the contraction below the diagonal, zero above it. -/
theorem v56_at (h : Fin 8) (t s : Fin 128) : val_main_v56 (F := Ideal) x0 x1 x2 x3 (ix3 h t s : S8x128x128.Idx)
    = if s.val ≤ t.val then ∑ n : Fin 32, ∑ k : Fin 64, mch x0 x1 n t (col h k) * vch x0 x2 x3 n s (col h k) else 0 := by
  rw [val_main_v56_apply, v53_at]
  pointwise [val_main_v34_1, val_main_v32, val_main_v31, val_main_call0_v5, val_main_call0_c_0, val_main_call0_v4, val_main_call0_v3, val_main_call0_v2, val_main_call0_v1, val_main_call0_c, val_main_call0_v0, val_main_v30, val_main_c, val_main_call2_v0, val_main_call2_cst]
  rw [sge_word _ _ t.isLt s.isLt]
  by_cases hts : s.val ≤ t.val
  · rw [if_pos hts, decide_eq_true hts]
    rfl
  · rw [if_neg hts, decide_eq_false hts]
    rfl

end Cert.ReferenceIdeal.SguRef

end
-- ==== Proof.SguEnd.lean ====
/- The kernel's five results are the reference's five, where the arguments are finite. -/
module

public import proofs.«01_k».proof.Proof.SguFold
public import proofs.«01_k».proof.Proof.SguRef3
public import proofs.«01_k».proof.Pre_finite

@[expose] public section

set_option maxRecDepth 16384

noncomputable section

open Idealize.ShloMosaic Idealize.ShloMosaic.TcCoe Idealize.SL.Sem

namespace Cert.KernelIdeal.SguEnd

open Cert.KernelIdeal Cert.KernelIdeal.Gen Cert.Sgu Cert.KernelIdeal.SguCore Cert.KernelIdeal.SguBlk Cert.KernelIdeal.SguArr
open Cert.KernelIdeal.Value Cert.KernelIdeal.SguFold
open Cert.ReferenceIdeal.SguRef Cert.ReferenceIdeal.Read

/-- A value that is a real number. -/
def IsReal (x : EReal) : Prop := ∃ r : ℝ, x = (r : EReal)

/-- A product of real numbers is real. -/
theorem IsReal.mul {x y : EReal} : IsReal x → IsReal y → IsReal (x * y)
  | ⟨a, ha⟩, ⟨b, hb⟩ => ⟨a * b, by rw [ha, hb, EReal.coe_mul]⟩

/-- A sum of real numbers is real. -/
theorem IsReal.sum {α : Type} (s : Finset α) (f : α → EReal) (h : ∀ k, IsReal (f k)) : IsReal (∑ k ∈ s, f k) := by
  choose r hr using h
  exact ⟨∑ k ∈ s, r k, by rw [← coe_sum]; exact Finset.sum_congr rfl fun k _ => hr k⟩

/-- A value whose absolute value is below the word of infinity is real. -/
theorem isReal_of_lt (x : EReal) (h : FloatOps.cmpf (F := Ideal) (φ := .f32) .olt (FloatOps.absf (F := Ideal) (φ := .f32) x) (Ideal.ofBits .f32 0x7F800000#32) = 1#1) : IsReal x := by
  have htop : Ideal.ofBits .f32 0x7F800000#32 = (⊤ : EReal) := by simp [Ideal.ofBits, Ideal.ieee]
  rw [htop, Ideal.cmpf_def, Ideal.absf_def] at h
  have hlt : max x (-x) < ⊤ := by
    by_contra hn
    have : Ideal.cmp .olt (max x (-x)) ⊤ = 0#1 := by simp [Ideal.cmp, hn]
    rw [this] at h
    exact absurd h (by decide)
  induction x with
  | bot => simp at hlt
  | top => simp at hlt
  | coe r => exact ⟨r, rfl⟩

variable (m : (ℓ : Loc nD τ sig) → Buf (Elt Ideal) ℓ)

/-- The gradient of the normalised rows is real where the matrices, the gradient and the gating half are. -/
theorem dvr_real (c : Dev nD) (h0 : ∀ i, IsReal (a0 m c i)) (h1 : ∀ i, IsReal (a1 m c i)) (h4 : ∀ i, IsReal (a4 m c i))
    (R : Fin 4096) (k : Fin 512) : IsReal (dvr (a0 m c) (a1 m c) (a4 m c) R k) := by
  unfold dvr dv
  refine IsReal.sum _ _ fun t => IsReal.mul ?_ (IsReal.mul (h1 _) (h0 _))
  unfold tri
  split
  · exact h4 _
  · exact ⟨0, rfl⟩

/-- The first result. -/
theorem out8 (c : Dev nD) (h0 : ∀ i, IsReal (a0 m c i)) (h1 : ∀ i, IsReal (a1 m c i)) (h2 : ∀ i, IsReal (a2 m c i))
    (h4 : ∀ i, IsReal (a4 m c i)) :
    G8 (F := Ideal) m c = val_main_v95 (F := Ideal) (a0 m c) (a1 m c) (a2 m c) (a3 m c) (a4 m c) (a5 m c) := by
  funext i
  rw [eq_ix2 i]
  generalize hR : i 0 = R
  generalize hk : i 1 = k
  revert R k
  intro (R : Fin 4096) _ (k : Fin 1024) _
  rw [G8_at]
  by_cases hlt : k.val < 512
  · rw [dif_pos hlt]
    exact (v95_lo (a0 m c) (a1 m c) (a2 m c) (a3 m c) (a4 m c) (a5 m c) R ⟨k.val, hlt⟩).symm
  · rw [dif_neg hlt]
    have hx : ∀ l, IsReal (vrow (a0 m c) R l) := fun l => h0 _
    have hz : ∀ l, IsReal (dvr (a0 m c) (a1 m c) (a4 m c) R l * vec (a2 m c) l) := fun l =>
      (dvr_real m c h0 h1 h4 R l).mul (h2 _)
    choose x' hx' using hx
    choose z' hz' using hz
    rw [← dvjp_eq x' z' _ _ _ hx' hz', ← v95_hi _ _ _ (a3 m c) _ (a5 m c)]
    exact congrArg _ (congrArg _ (Fin.ext (show 512 + (k.val - 512) = k.val by omega)))

/-- The mixing matrices' gradient. -/
theorem out9 (c : Dev nD) : G9 (F := Ideal) m c = val_main_v56 (F := Ideal) (a0 m c) (a1 m c) (a2 m c) (a3 m c) := by
  funext i
  rw [eq_ix3 i]
  exact (G9_at m c (i 0) (i 1) (i 2)).trans (v56_at (a0 m c) (a1 m c) (a2 m c) (a3 m c) (i 0) (i 1) (i 2)).symm

/-- The biases' gradient. -/
theorem out10 (c : Dev nD) : G10 (F := Ideal) m c = val_main_v97 (F := Ideal) (a0 m c) (a1 m c) := by
  funext i
  rw [eq_ix2 i]
  exact (G10_at m c (i 0) (i 1)).trans (v97_at (a0 m c) (a1 m c) (i 0) (i 1)).symm

/-- The scale's gradient. -/
theorem out11 (c : Dev nD) : G11 (F := Ideal) m c = val_main_v98 (F := Ideal) (a0 m c) (a1 m c) (a4 m c) := by
  funext i
  rw [eq_ix2 i, show i 0 = (0 : Fin 1) from Subsingleton.elim (α := Fin 1) _ _]
  exact (G11_at m c (i 1)).trans (v98_at (a0 m c) (a1 m c) (a4 m c) (i 1)).symm

/-- The shift's gradient. -/
theorem out12 (c : Dev nD) : G12 (F := Ideal) m c = val_main_v99 (F := Ideal) (a0 m c) (a1 m c) (a4 m c) := by
  funext i
  rw [eq_ix2 i, show i 0 = (0 : Fin 1) from Subsingleton.elim (α := Fin 1) _ _]
  exact (G12_at m c (i 1)).trans (v99_at (a0 m c) (a1 m c) (a4 m c) (i 1)).symm

end Cert.KernelIdeal.SguEnd

namespace Cert.Pre_finite

open Cert.KernelIdeal.SguEnd

/-- The precondition's shape relations. -/
theorem facts : Facts where
  bcast_S_S4096x3584 := by decide
  bcast_S_S4096x2048 := by decide
  bcast_S_S512 := by decide
  bcast_S_S8x128x128 := by decide

variable [Facts] (x0 : FVec Ideal S4096x3584 .f32) (x1 : FVec Ideal S4096x2048 .f32) (x2 x3 : FVec Ideal S512 .f32)
  (x4 : FVec Ideal S8x128x128 .f32) (x5 : FVec Ideal S8x128 .f32)

/-- The first argument is finite. -/
theorem real0 (h : (fn x0 x1 x2 x3 x4 x5).1 = fun _ => 1#1) (i : S4096x3584.Idx) : IsReal (x0 i) :=
  isReal_of_lt _ (congrFun h i)

/-- The second argument is finite. -/
theorem real1 (h : (fn x0 x1 x2 x3 x4 x5).2.1 = fun _ => 1#1) (i : S4096x2048.Idx) : IsReal (x1 i) :=
  isReal_of_lt _ (congrFun h i)

/-- The third argument is finite. -/
theorem real2 (h : (fn x0 x1 x2 x3 x4 x5).2.2.1 = fun _ => 1#1) (i : S512.Idx) : IsReal (x2 i) :=
  isReal_of_lt _ (congrFun h i)

/-- The fifth argument is finite. -/
theorem real4 (h : (fn x0 x1 x2 x3 x4 x5).2.2.2 = fun _ => 1#1) (i : S8x128x128.Idx) : IsReal (x4 i) :=
  isReal_of_lt _ (congrFun h i)

end Cert.Pre_finite

end
-- ==== Proof.FfnScale.lean ====
/- Facts of the extended reals that the feed-forward proofs share. -/
module

public import Idealize.ShloMosaic.Lib.Pointwise

@[expose] public section

noncomputable section

open Idealize.ShloMosaic

namespace Cert.Ffn

/-- The constant one half, as an extended real. -/
theorem half_eq : Ideal.ofBits FTy.f32 1056964608#32 = ((1 / 2 : ℝ) : EReal) := by
  simp [Ideal.ofBits, Ideal.ieee, -EReal.coe_mul]; norm_num

/-- A nonnegative finite factor goes into a sum, whatever the terms. -/
theorem mul_sum {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- One half goes into a sum. -/
theorem half_sum {n : ℕ} (f : Fin n → EReal) :
    Ideal.ofBits FTy.f32 1056964608#32 * ∑ i, f i = ∑ i, Ideal.ofBits FTy.f32 1056964608#32 * f i := by
  refine mul_sum _ _ ?_ ?_ f
  · rw [half_eq]; exact EReal.coe_nonneg.mpr (by norm_num)
  · rw [half_eq]; exact EReal.coe_ne_top _

/-- The logistic function. -/
def sig (g : EReal) : EReal := Ideal.div 1 (1 + Ideal.exp (-g))

/-- The logistic function of a real number is real. -/
theorem sig_coe (r : ℝ) : sig (r : EReal) = ((1 / (1 + Real.exp (-r)) : ℝ) : EReal) := by
  have h : (1 + Real.exp (-r)) ≠ 0 := by positivity
  unfold sig
  rw [← EReal.coe_neg, Ideal.exp_coe, ← EReal.coe_one, ← EReal.coe_add, Ideal.div_coe h, ← EReal.coe_mul, one_mul]

/-- The logistic function at plus infinity. -/
theorem sig_top : sig ⊤ = 1 := by
  unfold sig
  rw [EReal.neg_top, Ideal.exp_bot, add_zero, ← EReal.coe_one, Ideal.div_coe one_ne_zero, ← EReal.coe_mul, one_mul, div_one]

/-- The logistic function at minus infinity. -/
theorem sig_bot : sig ⊥ = 0 := by
  unfold sig
  rw [EReal.neg_bot, Ideal.exp_top, EReal.add_top_of_ne_bot (by rw [← EReal.coe_one]; exact EReal.coe_ne_bot _), Ideal.div, if_neg (by simp), EReal.inv_top, mul_zero]

/-- The two ways of writing the gate's derivative agree: the kernel's factored one and the one of the product rule,
    for a finite incoming gradient `c` and any gate `g`. -/
theorem gate_deriv (c : ℝ) (g : EReal) :
    (c : EReal) * (sig g * (1 + g * (1 - sig g))) = (c : EReal) * sig g + g * (c : EReal) * (sig g * (1 - sig g)) := by
  have h11 : (1 : EReal) - 1 = 0 := by rw [← EReal.coe_one, ← EReal.coe_sub, sub_self, EReal.coe_zero]
  induction g with
  | bot => rw [sig_bot]; simp
  | top => rw [sig_top, h11]; simp
  | coe r =>
    rw [sig_coe]
    generalize 1 / (1 + Real.exp (-r)) = s
    rw [← EReal.coe_one]
    norm_cast
    ring

/-- A value that is a real number. -/
def IsReal (x : EReal) : Prop := ∃ r : ℝ, x = (r : EReal)

/-- A product of real numbers is real. -/
theorem IsReal.mul {x y : EReal} : IsReal x → IsReal y → IsReal (x * y)
  | ⟨a, ha⟩, ⟨b, hb⟩ => ⟨a * b, by rw [ha, hb, EReal.coe_mul]⟩

/-- A sum of real numbers is real. -/
theorem IsReal.sum {α : Type} (s : Finset α) (f : α → EReal) (h : ∀ k, IsReal (f k)) : IsReal (∑ k ∈ s, f k) := by
  classical
  induction s using Finset.induction_on with
  | empty => exact ⟨0, by simp⟩
  | insert a s ha ih =>
    obtain ⟨u, hu⟩ := h a
    obtain ⟨v, hv⟩ := ih
    exact ⟨u + v, by rw [Finset.sum_insert ha, hu, hv, EReal.coe_add]⟩

/-- A value whose absolute value is below the word of infinity is real. -/
theorem isReal_of_lt (x : EReal) (h : FloatOps.cmpf (F := Ideal) (φ := .f32) .olt (FloatOps.absf (F := Ideal) (φ := .f32) x) (Ideal.ofBits .f32 0x7F800000#32) = 1#1) : IsReal x := by
  have htop : Ideal.ofBits .f32 0x7F800000#32 = (⊤ : EReal) := by simp [Ideal.ofBits, Ideal.ieee]
  rw [htop, Ideal.cmpf_def, Ideal.absf_def] at h
  have hlt : max x (-x) < ⊤ := by
    by_contra hn
    have : Ideal.cmp .olt (max x (-x)) ⊤ = 0#1 := by simp [Ideal.cmp, hn]
    rw [this] at h
    exact absurd h (by decide)
  induction x with
  | bot => simp at hlt
  | top => simp at hlt
  | coe r => exact ⟨r, rfl⟩

end Cert.Ffn

end
-- ==== Proof.FfnDact.lean ====
/- The gradient of the gated activation: what the kernel writes is what the reference computes. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.Pipeline.ReadBack
public import proofs.«01_k».proof.Proof.FfnScale
public import proofs.«01_k».proof.Pre_finite2

@[expose] public section

set_option maxRecDepth 16384

noncomputable section

open Idealize.ShloMosaic Idealize.ShloMosaic.TcCoe Idealize.SL.Sem
open Idealize.ShloMosaic.Pipeline (Dat)

namespace Cert.Reference2Ideal.FfnDact

open Cert.Reference2Ideal Cert.Reference2Ideal.Gen

/-- The reference's result from its arguments. -/
abbrev REF (A0 : FVec Ideal S4096x2048 .bf16) (A1 : FVec Ideal S5632x2048 .bf16) (A2 : FVec Ideal S2x4096x5632 .bf16) : FVec Ideal S2x4096x5632 .bf16 :=
  truncf .bf16 (concatenate S2x4096x5632 0 [⟨S1x4096x5632, (broadcastInDim S1x4096x5632 ![1, 2] bcast_S4096x5632_S1x4096x5632_1_2 (addf (mulf (mulf (Host.dotGeneral dot_S4096x2048_S5632x2048_S4096x5632_1_1_0_0_n_n none (mulf (broadcastInDim S4096x2048 ![] bcast_S_S4096x2048 (constant S_ .f32 0x3F000000#32)) (extf .f32 A0 bitsLt_bf16_f32)) (extf .f32 A1 bitsLt_bf16_f32)) (shapeCast _ (extractStridedSlice S1x4096x5632 ![1, 0, 0] (extf .f32 A2 bitsLt_bf16_f32) slices_S2x4096x5632_S1x4096x5632_1_0_0) shapeCasts_S1x4096x5632_S4096x5632)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (shapeCast _ (extractStridedSlice S1x4096x5632 ![0, 0, 0] (extf .f32 A2 bitsLt_bf16_f32) slices_S2x4096x5632_S1x4096x5632_0_0_0) shapeCasts_S1x4096x5632_S4096x5632)))))) (mulf (mulf (shapeCast _ (extractStridedSlice S1x4096x5632 ![0, 0, 0] (extf .f32 A2 bitsLt_bf16_f32) slices_S2x4096x5632_S1x4096x5632_0_0_0) shapeCasts_S1x4096x5632_S4096x5632) (mulf (Host.dotGeneral dot_S4096x2048_S5632x2048_S4096x5632_1_1_0_0_n_n none (mulf (broadcastInDim S4096x2048 ![] bcast_S_S4096x2048 (constant S_ .f32 0x3F000000#32)) (extf .f32 A0 bitsLt_bf16_f32)) (extf .f32 A1 bitsLt_bf16_f32)) (shapeCast _ (extractStridedSlice S1x4096x5632 ![1, 0, 0] (extf .f32 A2 bitsLt_bf16_f32) slices_S2x4096x5632_S1x4096x5632_1_0_0) shapeCasts_S1x4096x5632_S4096x5632))) (mulf (Host.divf (broadcastInDim S4096x5632 ![] bcast_S_S4096x5632 (constant S_ .f32 0x3F800000#32)) (addf (broadcastInDim S4096x5632 ![] bcast_S_S4096x5632 (constant S_ .f32 0x3F800000#32)) (Host.exp (Host.negf (shapeCast _ (extractStridedSlice S1x4096x5632 ![0, 0, 0] (extf .f32 A2 bitsLt_bf16_f32) slices_S2x4096x5632_S1x4096x5632_0_0_0) shapeCasts_S1x4096x5632_S4096x5632))))) (subf (broadcastInDim S4096x5632 ![] bcast_S_S4096x5632 (constant S_ .f32 0x3F800000#32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (shapeCast _ (extractStridedSlice S1x4096x5632 ![0, 0, 0] (extf .f32 A2 bitsLt_bf16_f32) slices_S2x4096x5632_S1x4096x5632_0_0_0) shapeCasts_S1x4096x5632_S4096x5632))))))))))⟩, ⟨S1x4096x5632, (broadcastInDim S1x4096x5632 ![1, 2] bcast_S4096x5632_S1x4096x5632_1_2 (mulf (mulf (shapeCast _ (extractStridedSlice S1x4096x5632 ![0, 0, 0] (extf .f32 A2 bitsLt_bf16_f32) slices_S2x4096x5632_S1x4096x5632_0_0_0) shapeCasts_S1x4096x5632_S4096x5632) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (shapeCast _ (extractStridedSlice S1x4096x5632 ![0, 0, 0] (extf .f32 A2 bitsLt_bf16_f32) slices_S2x4096x5632_S1x4096x5632_0_0_0) shapeCasts_S1x4096x5632_S4096x5632)))))) (Host.dotGeneral dot_S4096x2048_S5632x2048_S4096x5632_1_1_0_0_n_n none (mulf (broadcastInDim S4096x2048 ![] bcast_S_S4096x2048 (constant S_ .f32 0x3F000000#32)) (extf .f32 A0 bitsLt_bf16_f32)) (extf .f32 A1 bitsLt_bf16_f32))))⟩] concatenates_S1x4096x5632_S1x4096x5632_S2x4096x5632_d0) bitsLt_bf16_f32

/-- The gradient of the activation at a row and a column: one half of the incoming gradient times the output weights. -/
def dact (A0 : FVec Ideal S4096x2048 .bf16) (A1 : FVec Ideal S5632x2048 .bf16) (s : Fin 4096) (f : Fin 5632) : EReal :=
  Ideal.ofBits FTy.f32 1056964608#32 * ∑ x : Fin 2048, (A0 (ix2 s x) : EReal) * (A1 (ix2 f x) : EReal)

/-- The reference's sum, with the half inside, is that gradient. -/
theorem dact_eq (A0 : FVec Ideal S4096x2048 .bf16) (A1 : FVec Ideal S5632x2048 .bf16) (s : Fin 4096) (f : Fin 5632) :
    ∑ x : Fin 2048, Ideal.ofBits FTy.f32 1056964608#32 * (A0 (ix2 s x) : EReal) * (A1 (ix2 f x) : EReal) = dact A0 A1 s f := by
  unfold dact
  rw [Cert.Ffn.half_sum]
  exact Finset.sum_congr rfl fun x _ => mul_assoc _ _ _

/-- The reference at the gate's half. -/
theorem ref_gate (A0 : FVec Ideal S4096x2048 .bf16) (A1 : FVec Ideal S5632x2048 .bf16) (A2 : FVec Ideal S2x4096x5632 .bf16) (s : Fin 4096) (f : Fin 5632) :
    (show EReal from REF A0 A1 A2 (ix3 0 s f)) =
      dact A0 A1 s f * A2 (ix3 1 s f) * Cert.Ffn.sig (A2 (ix3 0 s f))
        + A2 (ix3 0 s f) * (dact A0 A1 s f * A2 (ix3 1 s f)) * (Cert.Ffn.sig (A2 (ix3 0 s f)) * (1 - Cert.Ffn.sig (A2 (ix3 0 s f)))) := by
  rw [← dact_eq]
  unfold Cert.Ffn.sig
  pointwise [REF]

/-- The reference at the other half. -/
theorem ref_up (A0 : FVec Ideal S4096x2048 .bf16) (A1 : FVec Ideal S5632x2048 .bf16) (A2 : FVec Ideal S2x4096x5632 .bf16) (s : Fin 4096) (f : Fin 5632) :
    (show EReal from REF A0 A1 A2 (ix3 1 s f)) = A2 (ix3 0 s f) * Cert.Ffn.sig (A2 (ix3 0 s f)) * dact A0 A1 s f := by
  rw [← dact_eq]
  unfold Cert.Ffn.sig
  pointwise [REF]

/-- The kernel's way of writing the gradient at either half. -/
def kd (A0 : FVec Ideal S4096x2048 .bf16) (A1 : FVec Ideal S5632x2048 .bf16) (A2 : FVec Ideal S2x4096x5632 .bf16) (h : Fin 2) (s : Fin 4096) (f : Fin 5632) : EReal :=
  if h.val < 1 then dact A0 A1 s f * A2 (ix3 1 s f) * (Cert.Ffn.sig (A2 (ix3 0 s f)) * (1 + A2 (ix3 0 s f) * (1 - Cert.Ffn.sig (A2 (ix3 0 s f)))))
  else dact A0 A1 s f * (A2 (ix3 0 s f) * Cert.Ffn.sig (A2 (ix3 0 s f)))

/-- From finite gradients, weights and linear half the two ways agree. -/
theorem ref_at (A0 : FVec Ideal S4096x2048 .bf16) (A1 : FVec Ideal S5632x2048 .bf16) (A2 : FVec Ideal S2x4096x5632 .bf16) (h0 : ∀ i, Cert.Ffn.IsReal (A0 i)) (h1 : ∀ i, Cert.Ffn.IsReal (A1 i)) (h2 : ∀ s f, Cert.Ffn.IsReal (A2 (ix3 1 s f)))
    (h : Fin 2) (s : Fin 4096) (f : Fin 5632) : (show EReal from REF A0 A1 A2 (ix3 h s f)) = kd A0 A1 A2 h s f := by
  have hd : Cert.Ffn.IsReal (dact A0 A1 s f * A2 (ix3 1 s f)) := by
    refine Cert.Ffn.IsReal.mul (Cert.Ffn.IsReal.mul ⟨_, Cert.Ffn.half_eq⟩ (Cert.Ffn.IsReal.sum _ _ fun x => (h0 _).mul (h1 _))) (h2 s f)
  obtain ⟨c, hc⟩ := hd
  unfold kd
  match h with
  | 0 =>
    rw [if_pos (by decide)]
    refine (ref_gate A0 A1 A2 s f).trans ?_
    rw [hc]
    exact (Cert.Ffn.gate_deriv c _).symm
  | 1 =>
    rw [if_neg (by decide)]
    exact (ref_up A0 A1 A2 s f).trans (mul_comm _ _)

end Cert.Reference2Ideal.FfnDact

namespace Cert.Kernel2Ideal.FfnDact

open Cert.Kernel2Ideal Cert.Kernel2Ideal.Gen
open Cert.Reference2Ideal.FfnDact (REF kd dact ref_at)

variable (m : (ℓ : Loc nD τ sig) → Buf (Elt Ideal) ℓ)

/-- Every window's index map at a point. -/
theorem idx : ∀ t : Fin cfg0.N,
    win0_0.index t = ![(grid0.coords t 0).val, 0] ∧ win0_1.index t = ![(grid0.coords t 1).val, 0]
      ∧ win0_2.index t = ![0, (grid0.coords t 0).val, (grid0.coords t 1).val]
      ∧ win0_3.index t = ![0, (grid0.coords t 0).val, (grid0.coords t 1).val] :=
  (by decide +kernel : ∀ t : Fin grid0.N, _)

/-- What a point stores at a place of its block is the kernel's gradient at the place of the array. -/
theorem point (c : Dev nD) (t : Fin cfg0.N) (y : S2x1024x512.Idx) (e : S2x4096x5632.Idx)
    (he0 : (e 0 : ℕ) = y 0) (he1 : (e 1 : ℕ) = 1024 * (grid0.coords t 0).val + y 1) (he2 : (e 2 : ℕ) = 512 * (grid0.coords t 1).val + y 2) :
    (show EReal from out0_3 (F := Ideal) (iblk m c 0 t) (iblk m c 1 t) (iblk m c 2 t) y)
      = kd (m ((c : Thread nD τ).loc main_arg0)) (m ((c : Thread nD τ).loc main_arg1)) (m ((c : Thread nD τ).loc main_arg2)) (e 0) (e 1) (e 2) := by
  unfold out0_3
  canon_tiles x h
  · unfold kd
    rw [if_neg (by omega)]
    unfold dact Cert.Ffn.sig
    open_payloads
    pointwise
    rw [zero_sub]
    blk_point [iblk, V, idx t]
  · unfold kd
    rw [if_pos (by omega)]
    unfold dact Cert.Ffn.sig
    open_payloads
    pointwise
    rw [zero_sub]
    blk_point [iblk, V, idx t]

/-- The result array after the run, from finite gradients, weights and linear half. -/
theorem final (c : Dev nD) (h0 : ∀ i, Cert.Ffn.IsReal ((m ((c : Thread nD τ).loc main_arg0) : FVec Ideal S4096x2048 .bf16) i))
    (h1 : ∀ i, Cert.Ffn.IsReal ((m ((c : Thread nD τ).loc main_arg1) : FVec Ideal S5632x2048 .bf16) i))
    (h2 : ∀ s f, Cert.Ffn.IsReal ((m ((c : Thread nD τ).loc main_arg2) : FVec Ideal S2x4096x5632 .bf16) (ix3 1 s f))) :
    (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  generalize he : ((cfg0.win 3).blk t).view.emb y = e
  have hr := ref_at _ _ _ h0 h1 h2 (e 0) (e 1) (e 2)
  refine (point m c t y e ?_ ?_ ?_).trans (hr.symm.trans (congrArg (REF (m ((c : Thread nD τ).loc main_arg0)) (m ((c : Thread nD τ).loc main_arg1)) (m ((c : Thread nD τ).loc main_arg2))) (eq_ix3 e).symm))
  all_goals (subst he; blk_simp [idx t] <;> try omega)

end Cert.Kernel2Ideal.FfnDact

namespace Cert.Pre_finite2

/-- The precondition's shape relations. -/
theorem facts : Facts where
  slices_S2x4096x5632_S1x4096x5632_1_0_0 := by decide
  shapeCasts_S1x4096x5632_S4096x5632 := by decide
  bitsLt_bf16_f32 := by decide
  bcast_S_S4096x2048 := by decide
  bcast_S_S5632x2048 := by decide
  bcast_S_S4096x5632 := by decide

variable [Facts] (x0 : FVec Ideal S4096x2048 .bf16) (x1 : FVec Ideal S5632x2048 .bf16) (x2 : FVec Ideal S2x4096x5632 .bf16)

/-- The incoming gradient is finite. -/
theorem real0 (h : (fn x0 x1 x2).1 = fun _ => 1#1) (i : S4096x2048.Idx) : Cert.Ffn.IsReal (x0 i) :=
  Cert.Ffn.isReal_of_lt _ (congrFun h i)

/-- The output weights are finite. -/
theorem real1 (h : (fn x0 x1 x2).2.1 = fun _ => 1#1) (i : S5632x2048.Idx) : Cert.Ffn.IsReal (x1 i) :=
  Cert.Ffn.isReal_of_lt _ (congrFun h i)

/-- The second slice, as a matrix, holds the second half's entries. -/
theorem second (s : Fin 4096) (f : Fin 5632) :
    (show EReal from shapeCast S4096x5632 (extractStridedSlice S1x4096x5632 ![1, 0, 0] x2 Facts.slices_S2x4096x5632_S1x4096x5632_1_0_0)
      Facts.shapeCasts_S1x4096x5632_S4096x5632 (ix2 s f)) = x2 (ix3 1 s f) := by
  pointwise

/-- The linear half is finite. -/
theorem real2 (h : (fn x0 x1 x2).2.2 = fun _ => 1#1) (s : Fin 4096) (f : Fin 5632) : Cert.Ffn.IsReal (x2 (ix3 1 s f)) := by
  have := Cert.Ffn.isReal_of_lt _ (congrFun h (ix2 s f))
  rw [← second x2 s f]
  exact this

end Cert.Pre_finite2

end
-- ==== Proof.FfnDwIn.lean ====
/- The gradient of the feed-forward input weights: what the kernel writes is what the reference computes. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference3Ideal.FfnDwIn

open Cert.Reference3Ideal Cert.Reference3Ideal.Gen

/-- The reference's result from its arguments. -/
abbrev REF (A0 : FVec Ideal S2048x4096 .bf16) (A1 : FVec Ideal S2x4096x5632 .bf16) : FVec Ideal S2x2048x5632 .bf16 :=
  truncf .bf16 (addf (pad S2x2048x5632 ![1, 0, 0] ![0, 0, 0] ![0, 0, 0] (broadcastInDim S1x2048x5632 ![1, 2] bcast_S2048x5632_S1x2048x5632_1_2 (transpose S2048x5632 [1, 0] (Host.dotGeneral dot_S4096x5632_S4096x2048_S5632x2048_0_0_1_1_n_n none (shapeCast _ (extractStridedSlice S1x4096x5632 ![1, 0, 0] (extf .f32 A1 bitsLt_bf16_f32) slices_S2x4096x5632_S1x4096x5632_1_0_0) shapeCasts_S1x4096x5632_S4096x5632) (extf .f32 (transpose S4096x2048 [1, 0] A0 transposes_S2048x4096_S4096x2048_1_0) bitsLt_bf16_f32)) transposes_S5632x2048_S2048x5632_1_0)) (constant S_ .f32 0x00000000#32) pads_S1x2048x5632_S2x2048x5632_100_000_000 h_S_) (pad S2x2048x5632 ![0, 0, 0] ![1, 0, 0] ![0, 0, 0] (broadcastInDim S1x2048x5632 ![1, 2] bcast_S2048x5632_S1x2048x5632_1_2 (transpose S2048x5632 [1, 0] (Host.dotGeneral dot_S4096x5632_S4096x2048_S5632x2048_0_0_1_1_n_n none (shapeCast _ (extractStridedSlice S1x4096x5632 ![0, 0, 0] (extf .f32 A1 bitsLt_bf16_f32) slices_S2x4096x5632_S1x4096x5632_0_0_0) shapeCasts_S1x4096x5632_S4096x5632) (extf .f32 (transpose S4096x2048 [1, 0] A0 transposes_S2048x4096_S4096x2048_1_0) bitsLt_bf16_f32)) transposes_S5632x2048_S2048x5632_1_0)) (constant S_ .f32 0x00000000#32) pads_S1x2048x5632_S2x2048x5632_010_000_000 h_S_)) bitsLt_bf16_f32

end Cert.Reference3Ideal.FfnDwIn

namespace Cert.Kernel3Ideal.FfnDwIn

open Cert.Kernel3Ideal Cert.Kernel3Ideal.Gen
open Cert.Reference3Ideal.FfnDwIn (REF)

variable (m : (ℓ : Loc nD τ sig) → Buf (Elt Ideal) ℓ)

/-- Every window's index map at a point. -/
theorem idx : ∀ t : Fin cfg0.N,
    win0_0.index t = ![(grid0.coords t 1).val, 0] ∧ win0_1.index t = ![(grid0.coords t 0).val, 0, (grid0.coords t 2).val]
      ∧ win0_2.index t = ![(grid0.coords t 0).val, (grid0.coords t 1).val, (grid0.coords t 2).val] :=
  (by decide +kernel : ∀ t : Fin grid0.N, _)

/-- The kernel's block: the product of the two blocks. -/
theorem pay_at (X : FVec Ideal S2048x4096 .bf16) (W : FVec Ideal S1x4096x512 .bf16) (y : S1x2048x512.Idx) :
    (show EReal from k0_pay1 (F := Ideal) X W y) = ∑ x : Fin 4096, (X (ix2 (y 1) x) : EReal) * (W (ix3 0 x (y 2)) : EReal) := by
  pointwise [k0_pay1]

/-- The reference's gradient: the product of the rows and the gradient of either half. -/
theorem ref_at (A0 : FVec Ideal S2048x4096 .bf16) (A1 : FVec Ideal S2x4096x5632 .bf16) (e : S2x2048x5632.Idx) :
    REF A0 A1 e = ∑ x : Fin 4096, (A0 (ix2 (e 1) x) : EReal) * (A1 (ix3 (e 0) x (e 2)) : EReal) := by
  pointwise [REF]
  rcases (by have := (e 0).isLt; simp at this; omega : (e 0 : ℕ) = 0 ∨ (e 0 : ℕ) = 1) with h | h
  · have h' : (show Fin 2 from e 0) = 0 := Fin.ext h
    rw [dif_neg (by omega), dif_pos (by omega), zero_add]
    refine Finset.sum_congr rfl fun x _ => (mul_comm _ _).trans ?_
    exact (congrArg (fun a : Fin 2 => (A0 (ix2 (e 1) x) : EReal) * (A1 (ix3 a x (e 2)) : EReal)) h').symm
  · have h' : (show Fin 2 from e 0) = 1 := Fin.ext h
    rw [dif_pos (by omega), dif_neg (by omega), add_zero]
    refine Finset.sum_congr rfl fun x _ => (mul_comm _ _).trans ?_
    exact (congrArg (fun a : Fin 2 => (A0 (ix2 (e 1) x) : EReal) * (A1 (ix3 a x (e 2)) : EReal)) h').symm

/-- What a point stores at a place of its block is the reference at the place of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  refine (pay_at _ _ y).trans (Eq.trans ?_ (ref_at _ _ _).symm)
  blk_point [iblk, V, idx t]

/-- The result array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel3Ideal.FfnDwIn

end
-- ==== Proof.FfnDh.lean ====
/- The gradient of the feed-forward layer's input: what the kernel writes is what the reference computes. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference4Ideal.FfnDh

open Cert.Reference4Ideal Cert.Reference4Ideal.Gen

/-- The reference's result from its arguments. -/
abbrev REF (A0 : FVec Ideal S2x4096x5632 .bf16) (A1 : FVec Ideal S2x2048x5632 .bf16) : FVec Ideal S4096x2048 .f32 :=
  addf (Host.dotGeneral dot_S4096x5632_S2048x5632_S4096x2048_1_1_0_0_n_n none (shapeCast _ (extractStridedSlice S1x4096x5632 ![1, 0, 0] (extf .f32 A0 bitsLt_bf16_f32) slices_S2x4096x5632_S1x4096x5632_1_0_0) shapeCasts_S1x4096x5632_S4096x5632) (shapeCast _ (extractStridedSlice S1x2048x5632 ![1, 0, 0] (extf .f32 A1 bitsLt_bf16_f32) slices_S2x2048x5632_S1x2048x5632_1_0_0) shapeCasts_S1x2048x5632_S2048x5632)) (Host.dotGeneral dot_S4096x5632_S2048x5632_S4096x2048_1_1_0_0_n_n none (shapeCast _ (extractStridedSlice S1x4096x5632 ![0, 0, 0] (extf .f32 A0 bitsLt_bf16_f32) slices_S2x4096x5632_S1x4096x5632_0_0_0) shapeCasts_S1x4096x5632_S4096x5632) (shapeCast _ (extractStridedSlice S1x2048x5632 ![0, 0, 0] (extf .f32 A1 bitsLt_bf16_f32) slices_S2x2048x5632_S1x2048x5632_0_0_0) shapeCasts_S1x2048x5632_S2048x5632))

/-- One half's part of the gradient at a row and a column. -/
def part (A0 : FVec Ideal S2x4096x5632 .bf16) (A1 : FVec Ideal S2x2048x5632 .bf16) (h : Fin 2) (s : Fin 4096) (d : Fin 2048) : EReal :=
  ∑ x : Fin 5632, (A0 (ix3 h s x) : EReal) * (A1 (ix3 h d x) : EReal)

/-- The reference's gradient is the sum of the two parts. -/
theorem ref_at (A0 : FVec Ideal S2x4096x5632 .bf16) (A1 : FVec Ideal S2x2048x5632 .bf16) (s : Fin 4096) (d : Fin 2048) : (show EReal from REF A0 A1 (ix2 s d)) = part A0 A1 0 s d + part A0 A1 1 s d := by
  rw [add_comm]
  unfold part
  pointwise [REF]

end Cert.Reference4Ideal.FfnDh

namespace Cert.Kernel4Ideal.FfnDh

open Cert.Kernel4Ideal Cert.Kernel4Ideal.Gen
open Cert.Reference4Ideal.FfnDh (REF part ref_at)

variable (m : (ℓ : Loc nD τ sig) → Buf (Elt Ideal) ℓ)

/-- Every window's index map at a point. -/
theorem idx : ∀ t : Fin cfg0.N,
    win0_0.index t = ![t.val % 2, t.val / 8, 0] ∧ win0_1.index t = ![t.val % 2, t.val / 2 % 4, 0]
      ∧ win0_2.index t = ![t.val / 8, t.val / 2 % 4] :=
  (by decide +kernel : ∀ t : Fin grid0.N, _)

/-- The block's product at the first half. -/
theorem pay1_at (X : FVec Ideal S1x1024x5632 .bf16) (W : FVec Ideal S1x512x5632 .bf16) (y : S1024x512.Idx) :
    (show EReal from k0_pay1 (F := Ideal) X W y) = ∑ x : Fin 5632, (X (ix3 0 (y 0) x) : EReal) * (W (ix3 0 (y 1) x) : EReal) := by
  pointwise [k0_pay1]

/-- The second half is added to what the buffer holds. -/
theorem pay2_at (X : FVec Ideal S1x1024x5632 .bf16) (W : FVec Ideal S1x512x5632 .bf16) (acc : FVec Ideal S1024x512 .f32) (y : S1024x512.Idx) :
    (show EReal from k0_pay2 (F := Ideal) X W acc y) = acc y + ∑ x : Fin 5632, (X (ix3 0 (y 0) x) : EReal) * (W (ix3 0 (y 1) x) : EReal) := by
  pointwise [k0_pay2, k0_pay1]

/-- The product of a point's blocks is the half's part of the gradient. -/
theorem blocks (c : Dev nD) (t : Fin cfg0.N) (y : S1024x512.Idx) (h : Fin 2) (e : S4096x2048.Idx) (hh : h.val = t.val % 2)
    (he0 : (e 0 : ℕ) = 1024 * (t.val / 8) + y 0) (he1 : (e 1 : ℕ) = 512 * (t.val / 2 % 4) + y 1) :
    ∑ x : Fin 5632, ((show FVec Ideal S1x1024x5632 .bf16 from iblk m c 0 t) (ix3 0 (y 0) x) : EReal) * ((show FVec Ideal S1x512x5632 .bf16 from iblk m c 1 t) (ix3 0 (y 1) x) : EReal)
      = part (m ((c : Thread nD τ).loc main_arg0)) (m ((c : Thread nD τ).loc main_arg1)) h (e 0) (e 1) := by
  unfold part
  blk_point [iblk, V, idx t]

/-- The result array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  have ht : t.val < 32 := lt_of_lt_of_eq t.isLt N_0
  have hp : t.val % 2 = 1 := (flush0_2 t).mp hf
  have hs : t.val - 1 < cfg0.N := Nat.lt_of_le_of_lt (Nat.sub_le _ _) t.isLt
  blk_simp
  rw [after0_2, outsAt0_B m c t (by omega) hp]
  frame_out
  rw [show outsAt0 m c (t.val - 1) hs = _ from outsAt0_A m c ⟨t.val - 1, hs⟩ (by show (t.val - 1) % 2 = 0; omega) (by show ¬ (t.val - 1) % 2 = 1; omega)]
  frame_out
  generalize he : ((cfg0.win 2).blk t).view.emb y = e
  have he0 : (e 0 : ℕ) = 1024 * (t.val / 8) + y 0 := by subst he; blk_simp [idx t] <;> try omega
  have he1 : (e 1 : ℕ) = 512 * (t.val / 2 % 4) + y 1 := by subst he; blk_simp [idx t] <;> try omega
  refine (pay2_at _ _ _ y).trans (Eq.trans ?_ ((ref_at _ _ (e 0) (e 1)).symm.trans (congrArg (REF (m ((c : Thread nD τ).loc main_arg0)) (m ((c : Thread nD τ).loc main_arg1))) (eq_ix2 e).symm)))
  refine congrArg₂ (· + ·) ((pay1_at _ _ y).trans (blocks m c ⟨t.val - 1, hs⟩ y 0 e ?_ ?_ ?_)) (blocks m c t y 1 e ?_ he0 he1)
  · show 0 = (t.val - 1) % 2; omega
  · show (e 0 : ℕ) = 1024 * ((t.val - 1) / 8) + y 0; omega
  · show (e 1 : ℕ) = 512 * ((t.val - 1) / 2 % 4) + y 1; omega
  · show 1 = t.val % 2; omega

end Cert.Kernel4Ideal.FfnDh

end
-- ==== Proof.FfnDwOut.lean ====
/- The gradient of the feed-forward output weights: what the kernel writes is what the reference computes. -/
module

public import proofs.«01_k».proof.Proof.Gen.Kernel5Ideal.Value
public import proofs.«01_k».proof.Proof.Gen.Reference5Ideal.Run
public import proofs.«01_k».proof.Proof.FfnScale
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference5Ideal.FfnDwOut

open Cert.Reference5Ideal Cert.Reference5Ideal.Gen

/-- The reference's result from its arguments. -/
abbrev REF (A0 : FVec Ideal S5632x4096 .bf16) (A1 : FVec Ideal S4096x2048 .bf16) : FVec Ideal S1x5632x2048 .bf16 :=
  broadcastInDim S1x5632x2048 ![1, 2] bcast_S5632x2048_S1x5632x2048_1_2 (truncf .bf16 (transpose S5632x2048 [1, 0] (Host.dotGeneral dot_S4096x2048_S4096x5632_S2048x5632_0_0_1_1_n_n none (mulf (broadcastInDim S4096x2048 ![] bcast_S_S4096x2048 (constant S_ .f32 0x3F000000#32)) (extf .f32 A1 bitsLt_bf16_f32)) (extf .f32 (transpose S4096x5632 [1, 0] A0 transposes_S5632x4096_S4096x5632_1_0) bitsLt_bf16_f32)) transposes_S2048x5632_S5632x2048_1_0) bitsLt_bf16_f32)

end Cert.Reference5Ideal.FfnDwOut

namespace Cert.Kernel5Ideal.FfnDwOut

open Cert.Kernel5Ideal Cert.Kernel5Ideal.Gen
open Cert.Reference5Ideal.FfnDwOut (REF)

variable (m : (ℓ : Loc nD τ sig) → Buf (Elt Ideal) ℓ)

/-- Every window's index map at a point. -/
theorem idx : ∀ t : Fin cfg0.N,
    win0_0.index t = ![(grid0.coords t 1).val, 0] ∧ win0_1.index t = ![(grid0.coords t 0).val, 0, (grid0.coords t 2).val]
      ∧ win0_2.index t = ![(grid0.coords t 0).val, (grid0.coords t 1).val, (grid0.coords t 2).val] :=
  (by decide +kernel : ∀ t : Fin grid0.N, _)

/-- The kernel's block: one half of the product of the two blocks. -/
theorem pay_at (X : FVec Ideal S1408x4096 .bf16) (W : FVec Ideal S1x4096x512 .bf16) (y : S1x1408x512.Idx) :
    (show EReal from k0_pay1 (F := Ideal) X W y) = Ideal.ofBits FTy.f32 1056964608#32 * ∑ x : Fin 4096, (X (ix2 (y 1) x) : EReal) * (W (ix3 0 x (y 2)) : EReal) := by
  pointwise [k0_pay1]

/-- The reference's gradient: one half of the product of the activation and the incoming gradient. -/
theorem ref_at (A0 : FVec Ideal S5632x4096 .bf16) (A1 : FVec Ideal S4096x2048 .bf16) (e : S1x5632x2048.Idx) :
    REF A0 A1 e = Ideal.ofBits FTy.f32 1056964608#32 * ∑ x : Fin 4096, (A0 (ix2 (e 1) x) : EReal) * (A1 (ix2 x (e 2)) : EReal) := by
  rw [Cert.Ffn.half_sum]
  pointwise [REF]
  refine Finset.sum_congr rfl fun x _ => ?_
  exact (mul_assoc _ _ _).trans (congrArg _ (mul_comm _ _))

/-- What a point stores at a place of its block is the reference at the place of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  refine (pay_at _ _ y).trans (Eq.trans ?_ (ref_at _ _ _).symm)
  blk_point [iblk, V, idx t]

/-- The result array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel5Ideal.FfnDwOut

end
-- ==== Proof.FfnIn.lean ====
/- The feed-forward input projection and its gate: what the kernel writes is what the reference computes. -/
module

public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference6Ideal.FfnIn

open Cert.Reference6Ideal Cert.Reference6Ideal.Gen

/-- The reference's two projections from its arguments. -/
abbrev REF0 (A0 : FVec Ideal S4096x2048 .bf16) (A1 : FVec Ideal S2x2048x5632 .bf16) : FVec Ideal S2x4096x5632 .bf16 :=
  truncf .bf16 (concatenate S2x4096x5632 0 [⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![0, 0, 0] (extf .f32 A1 bitsLt_bf16_f32) slices_S2x2048x5632_S1x2048x5632_0_0_0) shapeCasts_S1x2048x5632_S2048x5632)))⟩, ⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![1, 0, 0] (extf .f32 A1 bitsLt_bf16_f32) slices_S2x2048x5632_S1x2048x5632_1_0_0) shapeCasts_S1x2048x5632_S2048x5632)))⟩] concatenates_S1x4096x5632_S1x4096x5632_S2x4096x5632_d0) bitsLt_bf16_f32

/-- The reference's gated activation from its arguments. -/
abbrev REF1 (A0 : FVec Ideal S4096x2048 .bf16) (A1 : FVec Ideal S2x2048x5632 .bf16) : FVec Ideal S4096x5632 .bf16 :=
  truncf .bf16 (mulf (mulf (shapeCast _ (extractStridedSlice S1x4096x5632 ![0, 0, 0] (concatenate S2x4096x5632 0 [⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![0, 0, 0] (extf .f32 A1 bitsLt_bf16_f32) slices_S2x2048x5632_S1x2048x5632_0_0_0) shapeCasts_S1x2048x5632_S2048x5632)))⟩, ⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![1, 0, 0] (extf .f32 A1 bitsLt_bf16_f32) slices_S2x2048x5632_S1x2048x5632_1_0_0) shapeCasts_S1x2048x5632_S2048x5632)))⟩] concatenates_S1x4096x5632_S1x4096x5632_S2x4096x5632_d0) slices_S2x4096x5632_S1x4096x5632_0_0_0) shapeCasts_S1x4096x5632_S4096x5632) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (shapeCast _ (extractStridedSlice S1x4096x5632 ![0, 0, 0] (concatenate S2x4096x5632 0 [⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![0, 0, 0] (extf .f32 A1 bitsLt_bf16_f32) slices_S2x2048x5632_S1x2048x5632_0_0_0) shapeCasts_S1x2048x5632_S2048x5632)))⟩, ⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![1, 0, 0] (extf .f32 A1 bitsLt_bf16_f32) slices_S2x2048x5632_S1x2048x5632_1_0_0) shapeCasts_S1x2048x5632_S2048x5632)))⟩] concatenates_S1x4096x5632_S1x4096x5632_S2x4096x5632_d0) slices_S2x4096x5632_S1x4096x5632_0_0_0) shapeCasts_S1x4096x5632_S4096x5632)))))) (shapeCast _ (extractStridedSlice S1x4096x5632 ![1, 0, 0] (concatenate S2x4096x5632 0 [⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![0, 0, 0] (extf .f32 A1 bitsLt_bf16_f32) slices_S2x2048x5632_S1x2048x5632_0_0_0) shapeCasts_S1x2048x5632_S2048x5632)))⟩, ⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![1, 0, 0] (extf .f32 A1 bitsLt_bf16_f32) slices_S2x2048x5632_S1x2048x5632_1_0_0) shapeCasts_S1x2048x5632_S2048x5632)))⟩] concatenates_S1x4096x5632_S1x4096x5632_S2x4096x5632_d0) slices_S2x4096x5632_S1x4096x5632_1_0_0) shapeCasts_S1x4096x5632_S4096x5632)) bitsLt_bf16_f32

/-- The reference's gated activation, transposed. -/
abbrev REF2 (A0 : FVec Ideal S4096x2048 .bf16) (A1 : FVec Ideal S2x2048x5632 .bf16) : FVec Ideal S5632x4096 .bf16 :=
  transpose S5632x4096 [1, 0] (truncf .bf16 (mulf (mulf (shapeCast _ (extractStridedSlice S1x4096x5632 ![0, 0, 0] (concatenate S2x4096x5632 0 [⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![0, 0, 0] (extf .f32 A1 bitsLt_bf16_f32) slices_S2x2048x5632_S1x2048x5632_0_0_0) shapeCasts_S1x2048x5632_S2048x5632)))⟩, ⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![1, 0, 0] (extf .f32 A1 bitsLt_bf16_f32) slices_S2x2048x5632_S1x2048x5632_1_0_0) shapeCasts_S1x2048x5632_S2048x5632)))⟩] concatenates_S1x4096x5632_S1x4096x5632_S2x4096x5632_d0) slices_S2x4096x5632_S1x4096x5632_0_0_0) shapeCasts_S1x4096x5632_S4096x5632) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (shapeCast _ (extractStridedSlice S1x4096x5632 ![0, 0, 0] (concatenate S2x4096x5632 0 [⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![0, 0, 0] (extf .f32 A1 bitsLt_bf16_f32) slices_S2x2048x5632_S1x2048x5632_0_0_0) shapeCasts_S1x2048x5632_S2048x5632)))⟩, ⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![1, 0, 0] (extf .f32 A1 bitsLt_bf16_f32) slices_S2x2048x5632_S1x2048x5632_1_0_0) shapeCasts_S1x2048x5632_S2048x5632)))⟩] concatenates_S1x4096x5632_S1x4096x5632_S2x4096x5632_d0) slices_S2x4096x5632_S1x4096x5632_0_0_0) shapeCasts_S1x4096x5632_S4096x5632)))))) (shapeCast _ (extractStridedSlice S1x4096x5632 ![1, 0, 0] (concatenate S2x4096x5632 0 [⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![0, 0, 0] (extf .f32 A1 bitsLt_bf16_f32) slices_S2x2048x5632_S1x2048x5632_0_0_0) shapeCasts_S1x2048x5632_S2048x5632)))⟩, ⟨S1x4096x5632, (broadcastInDim S1x4096x5632 ![1, 2] bcast_S4096x5632_S1x4096x5632_1_2 (Host.dotGeneral dot_S4096x2048_S2048x5632_S4096x5632_1_0_0_1_n_n none (extf .f32 A0 bitsLt_bf16_f32) (shapeCast _ (extractStridedSlice S1x2048x5632 ![1, 0, 0] (extf .f32 A1 bitsLt_bf16_f32) slices_S2x2048x5632_S1x2048x5632_1_0_0) shapeCasts_S1x2048x5632_S2048x5632)))⟩] concatenates_S1x4096x5632_S1x4096x5632_S2x4096x5632_d0) slices_S2x4096x5632_S1x4096x5632_1_0_0) shapeCasts_S1x4096x5632_S4096x5632)) bitsLt_bf16_f32) transposes_S4096x5632_S5632x4096_1_0

/-- One of the two projections at a row and a column. -/
def proj (A0 : FVec Ideal S4096x2048 .bf16) (A1 : FVec Ideal S2x2048x5632 .bf16) (h : Fin 2) (s : Fin 4096) (f : Fin 5632) : EReal :=
  ∑ x : Fin 2048, (A0 (ix2 s x) : EReal) * (A1 (ix3 h x f) : EReal)

/-- The gated activation at a row and a column. -/
def act (A0 : FVec Ideal S4096x2048 .bf16) (A1 : FVec Ideal S2x2048x5632 .bf16) (s : Fin 4096) (f : Fin 5632) : EReal :=
  proj A0 A1 0 s f * Ideal.div 1 (1 + Ideal.exp (-proj A0 A1 0 s f)) * proj A0 A1 1 s f

/-- The reference's projections. -/
theorem ref0_at (A0 : FVec Ideal S4096x2048 .bf16) (A1 : FVec Ideal S2x2048x5632 .bf16) (h : Fin 2) (s : Fin 4096) (f : Fin 5632) :
    (show EReal from REF0 A0 A1 (ix3 h s f)) = proj A0 A1 h s f := by
  unfold proj
  match h with
  | 0 => pointwise [REF0]
  | 1 => pointwise [REF0]

/-- The reference's activation. -/
theorem ref1_at (A0 : FVec Ideal S4096x2048 .bf16) (A1 : FVec Ideal S2x2048x5632 .bf16) (s : Fin 4096) (f : Fin 5632) : (show EReal from REF1 A0 A1 (ix2 s f)) = act A0 A1 s f := by
  unfold act proj
  pointwise [REF1]

/-- The reference's transposed activation. -/
theorem ref2_at (A0 : FVec Ideal S4096x2048 .bf16) (A1 : FVec Ideal S2x2048x5632 .bf16) (s : Fin 4096) (f : Fin 5632) : (show EReal from REF2 A0 A1 (ix2 f s)) = act A0 A1 s f := by
  unfold act proj
  pointwise [REF2]

end Cert.Reference6Ideal.FfnIn

namespace Cert.Kernel6Ideal.FfnIn

open Cert.Kernel6Ideal Cert.Kernel6Ideal.Gen
open Cert.Reference6Ideal.FfnIn (REF0 REF1 REF2 proj act ref0_at ref1_at ref2_at)

variable (m : (ℓ : Loc nD τ sig) → Buf (Elt Ideal) ℓ)

/-- Every window's index map at a point. -/
theorem idx : ∀ t : Fin cfg0.N,
    win0_0.index t = ![(grid0.coords t 0).val, 0] ∧ win0_1.index t = ![0, 0, (grid0.coords t 1).val]
      ∧ win0_2.index t = ![0, (grid0.coords t 0).val, (grid0.coords t 1).val]
      ∧ win0_3.index t = ![(grid0.coords t 0).val, (grid0.coords t 1).val]
      ∧ win0_4.index t = ![(grid0.coords t 1).val, (grid0.coords t 0).val] :=
  (by decide +kernel : ∀ t : Fin grid0.N, _)

/-- The projections a point stores. -/
theorem point0 (c : Dev nD) (t : Fin cfg0.N) (y : S2x1024x512.Idx) (e : S2x4096x5632.Idx)
    (he0 : (e 0 : ℕ) = y 0) (he1 : (e 1 : ℕ) = 1024 * (grid0.coords t 0).val + y 1) (he2 : (e 2 : ℕ) = 512 * (grid0.coords t 1).val + y 2) :
    (show EReal from out0_2 (F := Ideal) (iblk m c 0 t) (iblk m c 1 t) y)
      = proj (m ((c : Thread nD τ).loc main_arg0)) (m ((c : Thread nD τ).loc main_arg1)) (e 0) (e 1) (e 2) := by
  unfold out0_2 proj
  canon_tiles x h
  all_goals (open_payloads; pointwise; blk_point [iblk, V, idx t])

/-- The activation a point stores. -/
theorem point1 (c : Dev nD) (t : Fin cfg0.N) (y : S1024x512.Idx) (e : S4096x5632.Idx)
    (he0 : (e 0 : ℕ) = 1024 * (grid0.coords t 0).val + y 0) (he1 : (e 1 : ℕ) = 512 * (grid0.coords t 1).val + y 1) :
    (show EReal from out0_3 (F := Ideal) (iblk m c 0 t) (iblk m c 1 t) y)
      = act (m ((c : Thread nD τ).loc main_arg0)) (m ((c : Thread nD τ).loc main_arg1)) (e 0) (e 1) := by
  unfold out0_3 act proj
  canon_tiles x h
  all_goals (open_payloads; pointwise; rw [zero_sub]; blk_point [iblk, V, idx t])

/-- The transposed activation a point stores. -/
theorem point2 (c : Dev nD) (t : Fin cfg0.N) (y : S512x1024.Idx) (e : S5632x4096.Idx)
    (he0 : (e 1 : ℕ) = 1024 * (grid0.coords t 0).val + y 1) (he1 : (e 0 : ℕ) = 512 * (grid0.coords t 1).val + y 0) :
    (show EReal from out0_4 (F := Ideal) (iblk m c 0 t) (iblk m c 1 t) y)
      = act (m ((c : Thread nD τ).loc main_arg0)) (m ((c : Thread nD τ).loc main_arg1)) (e 1) (e 0) := by
  unfold out0_4 act proj
  canon_tiles x h
  all_goals (open_payloads; pointwise; rw [zero_sub]; blk_point [iblk, V, idx t])

/-- The projections after the run. -/
theorem final0 (c : Dev nD) : (dats m 0 c).arrAt 2 cfg0.N = REF0 (m ((c : Thread nD τ).loc main_arg0)) (m ((c : Thread nD τ).loc main_arg1)) := by
  refine (dats m 0 c).arrAt_eq_of_covers 2 _ (by decide +kernel) fun t _ y => ?_
  blk_simp
  rw [after0_2]
  generalize he : ((cfg0.win 2).blk t).view.emb y = e
  refine (point0 m c t y e ?_ ?_ ?_).trans ((ref0_at _ _ (e 0) (e 1) (e 2)).symm.trans (congrArg (REF0 (m ((c : Thread nD τ).loc main_arg0)) (m ((c : Thread nD τ).loc main_arg1))) (eq_ix3 e).symm))
  all_goals (subst he; blk_simp [idx t] <;> try omega)

/-- The activation after the run. -/
theorem final1 (c : Dev nD) : (dats m 0 c).arrAt 3 cfg0.N = REF1 (m ((c : Thread nD τ).loc main_arg0)) (m ((c : Thread nD τ).loc main_arg1)) := by
  refine (dats m 0 c).arrAt_eq_of_covers 3 _ (by decide +kernel) fun t _ y => ?_
  blk_simp
  rw [after0_3]
  generalize he : ((cfg0.win 3).blk t).view.emb y = e
  refine (point1 m c t y e ?_ ?_).trans ((ref1_at _ _ (e 0) (e 1)).symm.trans (congrArg (REF1 (m ((c : Thread nD τ).loc main_arg0)) (m ((c : Thread nD τ).loc main_arg1))) (eq_ix2 e).symm))
  all_goals (subst he; blk_simp [idx t] <;> try omega)

/-- The transposed activation after the run. -/
theorem final2 (c : Dev nD) : (dats m 0 c).arrAt 4 cfg0.N = REF2 (m ((c : Thread nD τ).loc main_arg0)) (m ((c : Thread nD τ).loc main_arg1)) := by
  refine (dats m 0 c).arrAt_eq_of_covers 4 _ (by decide +kernel) fun t _ y => ?_
  blk_simp
  rw [after0_4]
  generalize he : ((cfg0.win 4).blk t).view.emb y = e
  refine (point2 m c t y e ?_ ?_).trans ((ref2_at _ _ (e 1) (e 0)).symm.trans (congrArg (REF2 (m ((c : Thread nD τ).loc main_arg0)) (m ((c : Thread nD τ).loc main_arg1))) (eq_ix2 e).symm))
  all_goals (subst he; blk_simp [idx t] <;> try omega)

end Cert.Kernel6Ideal.FfnIn

end
-- ==== Proof.FfnOut.lean ====
/- The residual projection of the feed-forward layer: what the kernel writes is what the reference computes. -/
module

public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel7Ideal.FfnOut

open Cert.Kernel7Ideal Cert.Kernel7Ideal.Gen

variable (m : (ℓ : Loc nD τ sig) → Buf (Elt Ideal) ℓ)

/-- Every window's index map at a point: rows by the first grid axis, columns by the second. -/
theorem idx : ∀ t : Fin cfg0.N,
    win0_0.index t = ![(grid0.coords t 0).val, 0] ∧ win0_1.index t = ![0, (grid0.coords t 1).val]
      ∧ win0_2.index t = ![(grid0.coords t 0).val, (grid0.coords t 1).val]
      ∧ win0_3.index t = ![(grid0.coords t 0).val, (grid0.coords t 1).val] :=
  (by decide +kernel : ∀ t : Fin grid0.N, _)

/-- The reference's result from its arguments. -/
abbrev REF (A : FVec Ideal S4096x5632 .bf16) (W : FVec Ideal S5632x2048 .bf16) (X : FVec Ideal S4096x2048 .f32) : FVec Ideal S4096x2048 .f32 :=
  addf X (mulf (broadcastInDim Cert.Reference7Ideal.S4096x2048 ![] Cert.Reference7Ideal.Gen.bcast_S_S4096x2048 (constant (F := Ideal) Cert.Reference7Ideal.S_ .f32 0x3F000000#32)) (Host.dotGeneral (F := Ideal) (φ₁ := .f32) (φ₂ := .f32) Cert.Reference7Ideal.dot_S4096x5632_S5632x2048_S4096x2048_1_0_0_1_n_n none (extf .f32 A Cert.Reference7Ideal.Gen.bitsLt_bf16_f32) (extf .f32 W Cert.Reference7Ideal.Gen.bitsLt_bf16_f32)))

/-- What a point stores at a place of its block is the reference at the place of the array. -/
theorem point (c : Dev nD) (t : Fin cfg0.N) (y) : k0_pay1 (iblk m c 2 t) (iblk m c 0 t) (iblk m c 1 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The result array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel7Ideal.FfnOut

end
-- ==== Proof.MixProd.lean ====
/- The products around the mixers: what each kernel writes is what its reference computes. -/
module

public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference8Ideal.Mix

open Cert.Reference8Ideal Cert.Reference8Ideal.Gen

/-- The reference of the gradient of the mixers' output weights, from its arguments. -/
abbrev REF (A0 : FVec Ideal S2048x4096 .bf16) (A1 : FVec Ideal S4096x2048 .bf16) : FVec Ideal S1x2048x2048 .bf16 :=
  broadcastInDim S1x2048x2048 ![1, 2] bcast_S2048x2048_S1x2048x2048_1_2 (truncf .bf16 (transpose S2048x2048 [1, 0] (Host.dotGeneral dot_S4096x2048_S4096x2048_S2048x2048_0_0_1_1_n_n none (extf .f32 A1 bitsLt_bf16_f32) (extf .f32 (transpose S4096x2048 [1, 0] A0 transposes_S2048x4096_S4096x2048_1_0) bitsLt_bf16_f32)) transposes_S2048x2048_S2048x2048_1_0) bitsLt_bf16_f32)

/-- It is a sum of products. -/
theorem ref_at (A0 : FVec Ideal S2048x4096 .bf16) (A1 : FVec Ideal S4096x2048 .bf16) (e : S1x2048x2048.Idx) :
    (show EReal from REF A0 A1 e) = ∑ x : Fin 4096, (A0 (ix2 (e 1) x) : EReal) * (A1 (ix2 x (e 2)) : EReal) := by
  pointwise [REF]
  exact Finset.sum_congr rfl fun x _ => mul_comm _ _

end Cert.Reference8Ideal.Mix

namespace Cert.Kernel8Ideal.Mix

open Cert.Kernel8Ideal Cert.Kernel8Ideal.Gen
open Cert.Reference8Ideal.Mix (REF ref_at)

variable (m : (ℓ : Loc nD τ sig) → Buf (Elt Ideal) ℓ)

/-- Every window's index map at a point. -/
theorem idx : ∀ t : Fin cfg0.N,
    win0_0.index t = ![(grid0.coords t 1).val, 0] ∧ win0_1.index t = ![(grid0.coords t 0).val, 0, (grid0.coords t 2).val]
      ∧ win0_2.index t = ![(grid0.coords t 0).val, (grid0.coords t 1).val, (grid0.coords t 2).val] :=
  (by decide +kernel : ∀ t : Fin grid0.N, _)

/-- The kernel's block is a sum of products of its blocks. -/
theorem pay_at (X : FVec Ideal S2048x4096 .bf16) (W : FVec Ideal S1x4096x512 .bf16) (y : S1x2048x512.Idx) :
    (show EReal from k0_pay1 (F := Ideal) X W y) = ∑ x : Fin 4096, (X (ix2 (y 1) x) : EReal) * (W (ix3 0 x (y 2)) : EReal) := by
  pointwise [k0_pay1]

/-- What a point stores at a place of its block is the reference at the place of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  refine (pay_at _ _ y).trans (Eq.trans ?_ (ref_at _ _ _).symm)
  blk_point [iblk, V, idx t]

/-- The result array after the run: the gradient of the mixers' output weights. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.Mix

namespace Cert.Reference9Ideal.Mix

open Cert.Reference9Ideal Cert.Reference9Ideal.Gen

/-- The reference of the gradient of the mixers' outputs, from its arguments. -/
abbrev REF (A0 : FVec Ideal S4096x2048 .bf16) (A1 : FVec Ideal S2048x2048 .bf16) : FVec Ideal S4096x2048 .f32 :=
  Host.dotGeneral dot_S4096x2048_S2048x2048_S4096x2048_1_1_0_0_n_n none (extf .f32 A0 bitsLt_bf16_f32) (extf .f32 A1 bitsLt_bf16_f32)

/-- It is a sum of products. -/
theorem ref_at (A0 : FVec Ideal S4096x2048 .bf16) (A1 : FVec Ideal S2048x2048 .bf16) (e : S4096x2048.Idx) :
    (show EReal from REF A0 A1 e) = ∑ x : Fin 2048, (A0 (ix2 (e 0) x) : EReal) * (A1 (ix2 (e 1) x) : EReal) := by
  pointwise [REF]

end Cert.Reference9Ideal.Mix

namespace Cert.Kernel9Ideal.Mix

open Cert.Kernel9Ideal Cert.Kernel9Ideal.Gen
open Cert.Reference9Ideal.Mix (REF ref_at)

variable (m : (ℓ : Loc nD τ sig) → Buf (Elt Ideal) ℓ)

/-- Every window's index map at a point. -/
theorem idx : ∀ t : Fin cfg0.N,
    win0_0.index t = ![(grid0.coords t 2).val, (grid0.coords t 0).val, 0] ∧ win0_1.index t = ![(grid0.coords t 2).val, (grid0.coords t 1).val, 0]
      ∧ win0_2.index t = ![(grid0.coords t 0).val, (grid0.coords t 1).val] :=
  (by decide +kernel : ∀ t : Fin grid0.N, _)

/-- The kernel's block is a sum of products of its blocks. -/
theorem pay_at (X : FVec Ideal S1x2048x2048 .bf16) (W : FVec Ideal S1x512x2048 .bf16) (y : S2048x512.Idx) :
    (show EReal from k0_pay1 (F := Ideal) X W y) = ∑ x : Fin 2048, (X (ix3 0 (y 0) x) : EReal) * (W (ix3 0 (y 1) x) : EReal) := by
  pointwise [k0_pay1]

/-- What a point stores at a place of its block is the reference at the place of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  refine (pay_at _ _ y).trans (Eq.trans ?_ (ref_at _ _ _).symm)
  blk_point [iblk, V, idx t]

/-- The result array after the run: the gradient of the mixers' outputs. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel9Ideal.Mix

namespace Cert.Reference10Ideal.Mix

open Cert.Reference10Ideal Cert.Reference10Ideal.Gen

/-- The reference of the gradient of the mixers' input weights, from its arguments. -/
abbrev REF (A0 : FVec Ideal S2048x4096 .bf16) (A1 : FVec Ideal S4096x3584 .bf16) : FVec Ideal S1x2048x3584 .bf16 :=
  broadcastInDim S1x2048x3584 ![1, 2] bcast_S2048x3584_S1x2048x3584_1_2 (truncf .bf16 (transpose S2048x3584 [1, 0] (Host.dotGeneral dot_S4096x3584_S4096x2048_S3584x2048_0_0_1_1_n_n none (extf .f32 A1 bitsLt_bf16_f32) (extf .f32 (transpose S4096x2048 [1, 0] A0 transposes_S2048x4096_S4096x2048_1_0) bitsLt_bf16_f32)) transposes_S3584x2048_S2048x3584_1_0) bitsLt_bf16_f32)

/-- It is a sum of products. -/
theorem ref_at (A0 : FVec Ideal S2048x4096 .bf16) (A1 : FVec Ideal S4096x3584 .bf16) (e : S1x2048x3584.Idx) :
    (show EReal from REF A0 A1 e) = ∑ x : Fin 4096, (A0 (ix2 (e 1) x) : EReal) * (A1 (ix2 x (e 2)) : EReal) := by
  pointwise [REF]
  exact Finset.sum_congr rfl fun x _ => mul_comm _ _

end Cert.Reference10Ideal.Mix

namespace Cert.Kernel10Ideal.Mix

open Cert.Kernel10Ideal Cert.Kernel10Ideal.Gen
open Cert.Reference10Ideal.Mix (REF ref_at)

variable (m : (ℓ : Loc nD τ sig) → Buf (Elt Ideal) ℓ)

/-- Every window's index map at a point. -/
theorem idx : ∀ t : Fin cfg0.N,
    win0_0.index t = ![(grid0.coords t 1).val, 0] ∧ win0_1.index t = ![(grid0.coords t 0).val, 0, (grid0.coords t 2).val]
      ∧ win0_2.index t = ![(grid0.coords t 0).val, (grid0.coords t 1).val, (grid0.coords t 2).val] :=
  (by decide +kernel : ∀ t : Fin grid0.N, _)

/-- The kernel's block is a sum of products of its blocks. -/
theorem pay_at (X : FVec Ideal S2048x4096 .bf16) (W : FVec Ideal S1x4096x512 .bf16) (y : S1x2048x512.Idx) :
    (show EReal from k0_pay1 (F := Ideal) X W y) = ∑ x : Fin 4096, (X (ix2 (y 1) x) : EReal) * (W (ix3 0 x (y 2)) : EReal) := by
  pointwise [k0_pay1]

/-- What a point stores at a place of its block is the reference at the place of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  refine (pay_at _ _ y).trans (Eq.trans ?_ (ref_at _ _ _).symm)
  blk_point [iblk, V, idx t]

/-- The result array after the run: the gradient of the mixers' input weights. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel10Ideal.Mix

namespace Cert.Reference11Ideal.Mix

open Cert.Reference11Ideal Cert.Reference11Ideal.Gen

/-- The reference of the gradient of the mixers' normalised input, from its arguments. -/
abbrev REF (A0 : FVec Ideal S4096x3584 .bf16) (A1 : FVec Ideal S2048x3584 .bf16) : FVec Ideal S4096x2048 .f32 :=
  Host.dotGeneral dot_S4096x3584_S2048x3584_S4096x2048_1_1_0_0_n_n none (extf .f32 A0 bitsLt_bf16_f32) (extf .f32 A1 bitsLt_bf16_f32)

/-- It is a sum of products. -/
theorem ref_at (A0 : FVec Ideal S4096x3584 .bf16) (A1 : FVec Ideal S2048x3584 .bf16) (e : S4096x2048.Idx) :
    (show EReal from REF A0 A1 e) = ∑ x : Fin 3584, (A0 (ix2 (e 0) x) : EReal) * (A1 (ix2 (e 1) x) : EReal) := by
  pointwise [REF]

end Cert.Reference11Ideal.Mix

namespace Cert.Kernel11Ideal.Mix

open Cert.Kernel11Ideal Cert.Kernel11Ideal.Gen
open Cert.Reference11Ideal.Mix (REF ref_at)

variable (m : (ℓ : Loc nD τ sig) → Buf (Elt Ideal) ℓ)

/-- Every window's index map at a point. -/
theorem idx : ∀ t : Fin cfg0.N,
    win0_0.index t = ![(grid0.coords t 2).val, (grid0.coords t 0).val, 0] ∧ win0_1.index t = ![(grid0.coords t 2).val, (grid0.coords t 1).val, 0]
      ∧ win0_2.index t = ![(grid0.coords t 0).val, (grid0.coords t 1).val] :=
  (by decide +kernel : ∀ t : Fin grid0.N, _)

/-- The kernel's block is a sum of products of its blocks. -/
theorem pay_at (X : FVec Ideal S1x2048x3584 .bf16) (W : FVec Ideal S1x512x3584 .bf16) (y : S2048x512.Idx) :
    (show EReal from k0_pay1 (F := Ideal) X W y) = ∑ x : Fin 3584, (X (ix3 0 (y 0) x) : EReal) * (W (ix3 0 (y 1) x) : EReal) := by
  pointwise [k0_pay1]

/-- What a point stores at a place of its block is the reference at the place of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  refine (pay_at _ _ y).trans (Eq.trans ?_ (ref_at _ _ _).symm)
  blk_point [iblk, V, idx t]

/-- The result array after the run: the gradient of the mixers' normalised input. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel11Ideal.Mix

namespace Cert.Reference12Ideal.Mix

open Cert.Reference12Ideal Cert.Reference12Ideal.Gen

/-- The reference of the mixers' input projection, from its arguments. -/
abbrev REF (A0 : FVec Ideal S4096x2048 .bf16) (A1 : FVec Ideal S2048x3584 .bf16) : FVec Ideal S1x4096x3584 .f32 :=
  broadcastInDim S1x4096x3584 ![1, 2] bcast_S4096x3584_S1x4096x3584_1_2 (Host.dotGeneral dot_S4096x2048_S2048x3584_S4096x3584_1_0_0_1_n_n none (extf .f32 A0 bitsLt_bf16_f32) (extf .f32 A1 bitsLt_bf16_f32))

/-- It is a sum of products. -/
theorem ref_at (A0 : FVec Ideal S4096x2048 .bf16) (A1 : FVec Ideal S2048x3584 .bf16) (e : S1x4096x3584.Idx) :
    (show EReal from REF A0 A1 e) = ∑ x : Fin 2048, (A0 (ix2 (e 1) x) : EReal) * (A1 (ix2 x (e 2)) : EReal) := by
  pointwise [REF]

end Cert.Reference12Ideal.Mix

namespace Cert.Kernel12Ideal.Mix

open Cert.Kernel12Ideal Cert.Kernel12Ideal.Gen
open Cert.Reference12Ideal.Mix (REF ref_at)

variable (m : (ℓ : Loc nD τ sig) → Buf (Elt Ideal) ℓ)

/-- Every window's index map at a point. -/
theorem idx : ∀ t : Fin cfg0.N,
    win0_0.index t = ![(grid0.coords t 1).val, 0] ∧ win0_1.index t = ![(grid0.coords t 0).val, 0, (grid0.coords t 2).val]
      ∧ win0_2.index t = ![(grid0.coords t 0).val, (grid0.coords t 1).val, (grid0.coords t 2).val] :=
  (by decide +kernel : ∀ t : Fin grid0.N, _)

/-- The kernel's block is a sum of products of its blocks. -/
theorem pay_at (X : FVec Ideal S2048x2048 .bf16) (W : FVec Ideal S1x2048x512 .bf16) (y : S1x2048x512.Idx) :
    (show EReal from k0_pay1 (F := Ideal) X W y) = ∑ x : Fin 2048, (X (ix2 (y 1) x) : EReal) * (W (ix3 0 x (y 2)) : EReal) := by
  pointwise [k0_pay1]

/-- What a point stores at a place of its block is the reference at the place of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  refine (pay_at _ _ y).trans (Eq.trans ?_ (ref_at _ _ _).symm)
  blk_point [iblk, V, idx t]

/-- The result array after the run: the mixers' input projection. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel12Ideal.Mix

namespace Cert.Reference13Ideal.Mix

open Cert.Reference13Ideal Cert.Reference13Ideal.Gen

/-- The reference of the mixers' output projection with its residual, from its arguments. -/
abbrev REF (A0 : FVec Ideal S4096x2048 .bf16) (A1 : FVec Ideal S2048x2048 .bf16) (A2 : FVec Ideal S4096x2048 .f32) : FVec Ideal S4096x2048 .f32 :=
  addf A2 (Host.dotGeneral dot_S4096x2048_S2048x2048_S4096x2048_1_0_0_1_n_n none (extf .f32 A0 bitsLt_bf16_f32) (extf .f32 A1 bitsLt_bf16_f32))

/-- It is a sum of products. -/
theorem ref_at (A0 : FVec Ideal S4096x2048 .bf16) (A1 : FVec Ideal S2048x2048 .bf16) (A2 : FVec Ideal S4096x2048 .f32) (e : S4096x2048.Idx) :
    (show EReal from REF A0 A1 A2 e) = (A2 e : EReal) + ∑ x : Fin 2048, (A0 (ix2 (e 0) x) : EReal) * (A1 (ix2 x (e 1)) : EReal) := by
  pointwise [REF]

end Cert.Reference13Ideal.Mix

namespace Cert.Kernel13Ideal.Mix

open Cert.Kernel13Ideal Cert.Kernel13Ideal.Gen
open Cert.Reference13Ideal.Mix (REF ref_at)

variable (m : (ℓ : Loc nD τ sig) → Buf (Elt Ideal) ℓ)

/-- Every window's index map at a point. -/
theorem idx : ∀ t : Fin cfg0.N,
    win0_0.index t = ![(grid0.coords t 0).val, 0] ∧ win0_1.index t = ![0, (grid0.coords t 1).val]
      ∧ win0_2.index t = ![(grid0.coords t 0).val, (grid0.coords t 1).val]
      ∧ win0_3.index t = ![(grid0.coords t 0).val, (grid0.coords t 1).val] :=
  (by decide +kernel : ∀ t : Fin grid0.N, _)

/-- The kernel's block is a sum of products of its blocks. -/
theorem pay_at (R : FVec Ideal S1024x512 .f32) (X : FVec Ideal S1024x2048 .bf16) (W : FVec Ideal S2048x512 .bf16) (y : S1024x512.Idx) :
    (show EReal from k0_pay1 (F := Ideal) R X W y) = (R y : EReal) + ∑ x : Fin 2048, (X (ix2 (y 0) x) : EReal) * (W (ix2 x (y 1)) : EReal) := by
  pointwise [k0_pay1]

/-- What a point stores at a place of its block is the reference at the place of the array. -/
theorem point (c : Dev nD) (t : Fin cfg0.N) (y) : k0_pay1 (iblk m c 2 t) (iblk m c 0 t) (iblk m c 1 t) y
    = REF (m ((c : Thread nD τ).loc main_arg0)) (m ((c : Thread nD τ).loc main_arg1)) (m ((c : Thread nD τ).loc main_arg2)) (((cfg0.win 3).blk t).view.emb y) := by
  refine (pay_at _ _ _ y).trans (Eq.trans ?_ (ref_at _ _ _ _).symm)
  blk_point [iblk, V, idx t]

/-- The result array after the run: the mixers' output projection with its residual. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel13Ideal.Mix

end
-- ==== Proof.NormMath.lean ====
/- The gradient of a row through the scaled normalisation: the differentiated reference's expression is the kernel's, on every row. -/
module

public import Idealize.ShloMosaic.Lib.Pointwise
public import Mathlib.Tactic.FieldSimp
public import Mathlib.Tactic.Ring
public import Mathlib.Tactic.LinearCombination
public import Mathlib.Tactic.NormNum

@[expose] public section

set_option maxRecDepth 16384

noncomputable section

open Idealize.ShloMosaic

namespace Cert.Norm

/-- The row length, as the programs' literal word. -/
def cN : EReal := Ideal.ofBits .f32 0x45000000#32

/-- The small constant that keeps the root away from zero, as the programs' literal word. -/
def eps : EReal := Ideal.ofBits .f32 0x3727C5AC#32

/-- Minus one half, as the reference's literal word. -/
def mhalf : EReal := Ideal.ofBits .f32 0xBF000000#32

/-- The mean square of a row, stabilised. -/
def msq (x : Fin 2048 → EReal) : EReal := Ideal.div (∑ k, x k * x k) cN + eps

/-- The reciprocal of the root of the stabilised mean square. -/
def rms (x : Fin 2048 → EReal) : EReal := Ideal.rsqrt (msq x)

/-- The coefficient of the row in the differentiated reference, `z` the gradient of the normalised row. -/
def coef (x z : Fin 2048 → EReal) : EReal := Ideal.div ((∑ k, x k * z k) * (mhalf * Ideal.div (rms x) (msq x))) cN

/-- The gradient of the row in the differentiated reference. -/
def dref (x z : Fin 2048 → EReal) (k : Fin 2048) : EReal := (z k * rms x + x k * coef x z) + coef x z * x k

/-- The gradient of the row in the kernel. -/
def dker (x z : Fin 2048 → EReal) (k : Fin 2048) : EReal :=
  rms x * (z k - x k * rms x * Ideal.div (∑ l, z l * (x l * rms x)) cN)

/-- The row length is 2048. -/
theorem cN_eq : cN = ((2048 : ℝ) : EReal) := by
  unfold cN
  simp [Ideal.ofBits, Ideal.ieee, -EReal.coe_mul]; norm_num

/-- The factor is minus one half. -/
theorem mhalf_eq : mhalf = ((-(1 / 2) : ℝ) : EReal) := by
  unfold mhalf
  simp [Ideal.ofBits, Ideal.ieee, -EReal.coe_mul]; norm_num

/-- The small constant is a positive real. -/
theorem eps_eq : ∃ e : ℝ, 0 < e ∧ eps = (e : EReal) := by
  refine ⟨10995116 * (2 : ℝ) ^ (-40 : ℤ), by positivity, ?_⟩
  unfold eps
  simp [Ideal.ofBits, Ideal.ieee, -EReal.coe_mul]

/-- A square is not negative, also at the infinities. -/
theorem sq_nonneg (x : EReal) : 0 ≤ x * x := by
  rcases le_total 0 x with h | h
  · exact mul_nonneg h h
  · rw [← neg_mul_neg]
    exact mul_nonneg (EReal.neg_nonneg.2 h) (EReal.neg_nonneg.2 h)

/-- The stabilised mean square is a positive real or infinite. -/
theorem msq_cases (x : Fin 2048 → EReal) : msq x = ⊤ ∨ ∃ v : ℝ, 0 < v ∧ msq x = (v : EReal) := by
  obtain ⟨e, he, hee⟩ := eps_eq
  have h : 0 ≤ Ideal.div (∑ k, x k * x k) cN := by
    rw [cN_eq, Ideal.div_coe (by norm_num)]
    exact mul_nonneg (Finset.sum_nonneg fun k _ => sq_nonneg _) (EReal.coe_nonneg.2 (by norm_num))
  unfold msq
  rw [hee]
  generalize Ideal.div (∑ k, x k * x k) cN = a at h ⊢
  induction a using EReal.rec with
  | bot => exact absurd h (by decide)
  | top => exact .inl (EReal.top_add_coe e)
  | coe a => exact .inr ⟨a + e, add_pos_of_nonneg_of_pos (EReal.coe_nonneg.1 h) he, (EReal.coe_add a e).symm⟩

/-- A common finite factor of every summand is a factor of the sum, when it is not negative. -/
theorem sum_mul_real {n : ℕ} (f : Fin n → EReal) (r : ℝ) (hr : 0 ≤ r) : ∑ k, f k * (r : EReal) = (∑ k, f k) * (r : EReal) := by
  have h : ∀ s : Finset (Fin n), ∑ k ∈ s, f k * (r : EReal) = (∑ k ∈ s, f k) * (r : EReal) := fun s => by
    induction s using Finset.cons_induction with
    | empty => simp
    | cons a s ha ih =>
      rw [Finset.sum_cons, Finset.sum_cons, ih,
        EReal.right_distrib_of_nonneg_of_ne_top (EReal.coe_nonneg.2 hr) (EReal.coe_ne_top r)]
  exact h _

/-- The two expressions of the row's gradient are one, whatever the row and the gradient hold. -/
theorem dref_eq (x z : Fin 2048 → EReal) (k : Fin 2048) : dref x z k = dker x z k := by
  have hN : (2048 : ℝ) ≠ 0 := by norm_num
  rcases msq_cases x with h | ⟨v, hv, h⟩
  · have hr : rms x = 0 := by rw [rms, h]; rfl
    have h0 : Ideal.div 0 (⊤ : EReal) = 0 := by
      rw [Ideal.div, if_neg EReal.top_ne_zero, zero_mul]
    have hc : coef x z = 0 := by
      rw [coef, hr, h, h0, mul_zero, mul_zero, cN_eq, Ideal.div_coe hN, zero_mul]
    rw [dref, dker, hc, hr, mul_zero, mul_zero, zero_mul, zero_mul, add_zero, add_zero]
  · let r : ℝ := (Real.sqrt v)⁻¹
    have hr : rms x = (r : EReal) := by
      rw [rms, h, Ideal.rsqrt_coe, if_neg (not_lt.2 hv.le), if_neg hv.ne']
    have hr0 : 0 ≤ r := inv_nonneg.2 (Real.sqrt_nonneg v)
    have hrr : r / v = r * r * r := by
      have : r * r * v = 1 := by
        show (Real.sqrt v)⁻¹ * (Real.sqrt v)⁻¹ * v = 1
        rw [← mul_inv, Real.mul_self_sqrt hv.le, inv_mul_cancel₀ hv.ne']
      rw [div_eq_iff hv.ne']
      linear_combination (-r) * this
    let p : ℝ := r * r * r / 4096
    have hp0 : 0 ≤ p := by positivity
    let S : EReal := ∑ l, x l * z l
    have hc : coef x z = -S * (p : EReal) := by
      rw [coef, hr, h, Ideal.div_coe hv.ne', cN_eq, Ideal.div_coe hN, mhalf_eq, ← EReal.coe_mul, ← EReal.coe_mul, mul_assoc, ← EReal.coe_mul]
      have e : (-(1 / 2) * (r * (1 / v)) * (1 / 2048) : ℝ) = -p := by
        rw [mul_one_div r v, hrr]
        show _ = -(r * r * r / 4096)
        ring
      rw [e, EReal.coe_neg, mul_neg, neg_mul]
    have hd : Ideal.div (∑ l, z l * (x l * rms x)) cN = S * ((r / 2048 : ℝ) : EReal) := by
      have e : ∑ l, z l * (x l * rms x) = S * (r : EReal) := by
        refine Eq.trans ?_ (sum_mul_real (fun l => x l * z l) r hr0)
        refine Finset.sum_congr rfl fun l _ => ?_
        rw [hr, ← mul_assoc, mul_comm (z l)]
      rw [e, cN_eq, Ideal.div_coe hN, mul_assoc, ← EReal.coe_mul, mul_one_div]
    have hR : dker x z k = (r : EReal) * z k + x k * -S * ((2 * p : ℝ) : EReal) := by
      rw [dker, hd, hr, sub_eq_add_neg, EReal.left_distrib_of_nonneg_of_ne_top (EReal.coe_nonneg.2 hr0) (EReal.coe_ne_top r)]
      congr 1
      have e : (2 * p : ℝ) = r * r * (r / 2048) := by
        show 2 * (r * r * r / 4096) = _
        ring
      rw [e, EReal.coe_mul, EReal.coe_mul, mul_neg, mul_neg, neg_mul]
      congr 1
      ac_rfl
    rw [hR, dref, hc, hr, add_assoc, mul_comm (z k)]
    congr 1
    have e2 : ((2 * p : ℝ) : EReal) = (p : EReal) + (p : EReal) := by rw [two_mul, EReal.coe_add]
    rw [e2, EReal.left_distrib_of_nonneg (EReal.coe_nonneg.2 hp0) (EReal.coe_nonneg.2 hp0)]
    congr 1
    · rw [mul_assoc]
    · rw [mul_comm, mul_assoc]

end Cert.Norm

end
-- ==== Proof.NormBwd.lean ====
/- The gradient of the normalisation: what the kernel writes is what the reference computes. -/
module

public import proofs.«01_k».proof.Proof.Gen.Kernel14Ideal.Value
public import proofs.«01_k».proof.Proof.Gen.Reference14Ideal.Run
public import Idealize.ShloMosaic.Lib.Pointwise
public import Idealize.ShloMosaic.Lib.Pipeline.ValueKit
public import Idealize.ShloMosaic.Lib.Pipeline.ReadBack
public import proofs.«01_k».proof.Proof.NormMath
public import proofs.«01_k».proof.Proof.SguFold

@[expose] public section

set_option maxRecDepth 16384

noncomputable section

open Idealize.ShloMosaic Idealize.ShloMosaic.TcCoe Idealize.SL.Sem
open Idealize.ShloMosaic.Pipeline (Dat)

namespace Cert.Reference14Ideal.Norm

open Cert.Reference14Ideal Cert.Reference14Ideal.Gen
open Cert.Norm

/-- The reference's gradient of the rows, from its arguments. -/
abbrev DX (A0 : FVec Ideal S4096x2048 .f32) (A1 : FVec Ideal S4096x2048 .f32) (A2 : FVec Ideal S2048 .f32) (A3 : FVec Ideal S4096x2048 .f32) : FVec Ideal S4096x2048 .f32 :=
  addf A3 (addf (addf (mulf (mulf A0 (broadcastInDim S4096x2048 ![0, 1] bcast_S1x2048_S4096x2048_0_1 (broadcastInDim S1x2048 ![1] bcast_S2048_S1x2048_1 A2))) (broadcastInDim S4096x2048 ![0, 1] bcast_S4096x1_S4096x2048_0_1 (Host.rsqrt (addf (Host.divf (broadcastInDim S4096x1 ![0] bcast_S4096_S4096x1_0 (Host.reduceAdd (mulf A1 A1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (mulf A1 (broadcastInDim S4096x2048 ![0] bcast_S4096_S4096x2048_0 (Host.reduceAdd (Host.divf (mulf (shapeCast _ (Host.reduceAdd (mulf A1 (mulf A0 (broadcastInDim S4096x2048 ![0, 1] bcast_S1x2048_S4096x2048_0_1 (broadcastInDim S1x2048 ![1] bcast_S2048_S1x2048_1 A2)))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf A1 A1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))) (addf (Host.divf (broadcastInDim S4096x1 ![0] bcast_S4096_S4096x1_0 (Host.reduceAdd (mulf A1 A1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf A1 (mulf A0 (broadcastInDim S4096x2048 ![0, 1] bcast_S1x2048_S4096x2048_0_1 (broadcastInDim S1x2048 ![1] bcast_S2048_S1x2048_1 A2)))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf A1 A1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))) (addf (Host.divf (broadcastInDim S4096x1 ![0] bcast_S4096_S4096x1_0 (Host.reduceAdd (mulf A1 A1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x1 ![] bcast_S_S4096x1 (constant S_ .f32 0x45000000#32))) (constant S_ .f32 0x00000000#32) reducesTo_S4096x1_S4096_d1 h_S_)) A1))

/-- It is the incoming gradient plus the gradient through the normalisation. -/
theorem DX_ref (A0 : FVec Ideal S4096x2048 .f32) (A1 : FVec Ideal S4096x2048 .f32) (A2 : FVec Ideal S2048 .f32) (A3 : FVec Ideal S4096x2048 .f32) (e : S4096x2048.Idx) :
    (show EReal from DX A0 A1 A2 A3 e) = (A3 e : EReal) + dref (fun x => A1 (ix2 (e 0) x)) (fun x => (A0 (ix2 (e 0) x) : EReal) * (A2 (ix1 x) : EReal)) (e 1) := by
  obtain ⟨a, k, rfl⟩ : ∃ a k, e = ix2 a k := ⟨_, _, eq_ix2 e⟩
  unfold dref coef rms msq cN eps mhalf
  pointwise [DX]
  simp only [Fin.sum_univ_one, ix2_0, ix2_1]

/-- In the kernel's order of the same gradient. -/
theorem DX_at (A0 : FVec Ideal S4096x2048 .f32) (A1 : FVec Ideal S4096x2048 .f32) (A2 : FVec Ideal S2048 .f32) (A3 : FVec Ideal S4096x2048 .f32) (e : S4096x2048.Idx) :
    (show EReal from DX A0 A1 A2 A3 e) = (A3 e : EReal) + dker (fun x => A1 (ix2 (e 0) x)) (fun x => (A0 (ix2 (e 0) x) : EReal) * (A2 (ix1 x) : EReal)) (e 1) :=
  (DX_ref A0 A1 A2 A3 e).trans (congrArg (fun z : EReal => (A3 e : EReal) + z) (dref_eq _ _ _))

/-- The reference's rounded gradient of the rows, from its arguments. -/
abbrev DXB (A0 : FVec Ideal S4096x2048 .f32) (A1 : FVec Ideal S4096x2048 .f32) (A2 : FVec Ideal S2048 .f32) (A3 : FVec Ideal S4096x2048 .f32) : FVec Ideal S4096x2048 .bf16 :=
  truncf .bf16 (addf A3 (addf (addf (mulf (mulf A0 (broadcastInDim S4096x2048 ![0, 1] bcast_S1x2048_S4096x2048_0_1 (broadcastInDim S1x2048 ![1] bcast_S2048_S1x2048_1 A2))) (broadcastInDim S4096x2048 ![0, 1] bcast_S4096x1_S4096x2048_0_1 (Host.rsqrt (addf (Host.divf (broadcastInDim S4096x1 ![0] bcast_S4096_S4096x1_0 (Host.reduceAdd (mulf A1 A1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (mulf A1 (broadcastInDim S4096x2048 ![0] bcast_S4096_S4096x2048_0 (Host.reduceAdd (Host.divf (mulf (shapeCast _ (Host.reduceAdd (mulf A1 (mulf A0 (broadcastInDim S4096x2048 ![0, 1] bcast_S1x2048_S4096x2048_0_1 (broadcastInDim S1x2048 ![1] bcast_S2048_S1x2048_1 A2)))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf A1 A1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))) (addf (Host.divf (broadcastInDim S4096x1 ![0] bcast_S4096_S4096x1_0 (Host.reduceAdd (mulf A1 A1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf A1 (mulf A0 (broadcastInDim S4096x2048 ![0, 1] bcast_S1x2048_S4096x2048_0_1 (broadcastInDim S1x2048 ![1] bcast_S2048_S1x2048_1 A2)))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf A1 A1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))) (addf (Host.divf (broadcastInDim S4096x1 ![0] bcast_S4096_S4096x1_0 (Host.reduceAdd (mulf A1 A1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x1 ![] bcast_S_S4096x1 (constant S_ .f32 0x45000000#32))) (constant S_ .f32 0x00000000#32) reducesTo_S4096x1_S4096_d1 h_S_)) A1))) bitsLt_bf16_f32

/-- It is the gradient of the rows. -/
theorem DXB_at (A0 : FVec Ideal S4096x2048 .f32) (A1 : FVec Ideal S4096x2048 .f32) (A2 : FVec Ideal S2048 .f32) (A3 : FVec Ideal S4096x2048 .f32) (e : S4096x2048.Idx) :
    (show EReal from DXB A0 A1 A2 A3 e) = (A3 e : EReal) + dker (fun x => A1 (ix2 (e 0) x)) (fun x => (A0 (ix2 (e 0) x) : EReal) * (A2 (ix1 x) : EReal)) (e 1) := by
  exact DX_at A0 A1 A2 A3 e

/-- The reference's gradient of the scale, from its arguments. -/
abbrev DG (A0 : FVec Ideal S4096x2048 .f32) (A1 : FVec Ideal S4096x2048 .f32) (A2 : FVec Ideal S2048 .f32) (A3 : FVec Ideal S4096x2048 .f32) : FVec Ideal S1x2048 .f32 :=
  shapeCast _ (Host.reduceAdd (shapeCast _ (Host.reduceAdd (mulf (mulf A1 (broadcastInDim S4096x2048 ![0, 1] bcast_S4096x1_S4096x2048_0_1 (Host.rsqrt (addf (Host.divf (broadcastInDim S4096x1 ![0] bcast_S4096_S4096x1_0 (Host.reduceAdd (mulf A1 A1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) A0) (constant S_ .f32 0x00000000#32) reducesTo_S4096x2048_S2048_d0 h_S_) shapeCasts_S2048_S1x2048) (constant S_ .f32 0x00000000#32) reducesTo_S1x2048_S2048_d0 h_S_) shapeCasts_S2048_S1x2048

/-- It is the sum over the rows of the gradient times the normalised row. -/
theorem DG_at (A0 : FVec Ideal S4096x2048 .f32) (A1 : FVec Ideal S4096x2048 .f32) (A2 : FVec Ideal S2048 .f32) (A3 : FVec Ideal S4096x2048 .f32) (e : S1x2048.Idx) :
    (show EReal from DG A0 A1 A2 A3 e) = ∑ p : Fin 4096, ((A1 (ix2 p (e 1)) : EReal) * rms (fun x => A1 (ix2 p x))) * (A0 (ix2 p (e 1)) : EReal) := by
  unfold rms msq cN eps
  pointwise [DG]
  exact Fin.sum_univ_one _

end Cert.Reference14Ideal.Norm

namespace Cert.Kernel14Ideal.Norm

open Cert.Kernel14Ideal Cert.Kernel14Ideal.Gen Cert.Kernel14Ideal.Value
open Cert.Norm
open Cert.Reference14Ideal.Norm (DX DXB DG DX_at DXB_at DG_at)
open Cert.KernelIdeal.SguFold (fold_sum sum_blocks)

variable (m : (ℓ : Loc nD τ sig) → Buf (Elt Ideal) ℓ)

/-- Every window's index map at a point. -/
theorem idx : ∀ t : Fin cfg0.N,
    win0_0.index t = ![(grid0.coords t 0).val, 0] ∧ win0_1.index t = ![(grid0.coords t 0).val, 0]
      ∧ win0_2.index t = ![0, 0] ∧ win0_3.index t = ![(grid0.coords t 0).val, 0]
      ∧ win0_4.index t = ![(grid0.coords t 0).val, 0] ∧ win0_5.index t = ![(grid0.coords t 0).val, 0]
      ∧ win0_6.index t = ![0, 0] ∧ (grid0.coords t 0).val = t.val :=
  (by decide +kernel : ∀ t : Fin grid0.N, _)

/-- The kernel's block of the rows' gradient. -/
theorem pay6_at (X Y : FVec Ideal S512x2048 .f32) (G : FVec Ideal S1x2048 .f32) (D : FVec Ideal S512x2048 .f32) (y : S512x2048.Idx) :
    (show EReal from k0_pay6 (F := Ideal) X Y G D y) = (D y : EReal)
      + dker (fun x => X (ix2 (y 0) x)) (fun x => (Y (ix2 (y 0) x) : EReal) * (G (ix2 0 x) : EReal)) (y 1) := by
  obtain ⟨a, k, rfl⟩ : ∃ a k, y = ix2 a k := ⟨_, _, eq_ix2 y⟩
  unfold dker rms msq cN eps
  pointwise [k0_pay6, k0_pay5, k0_pay4]

/-- One point's part of the scale's gradient, folded to eight rows. -/
def part (X Y : FVec Ideal S512x2048 .f32) (a : Fin 8) (k : Fin 2048) : EReal :=
  ∑ q : Fin 64, (Y (ix2 ⟨q.val * 8 + a.val, by omega⟩ k) : EReal)
    * ((X (ix2 ⟨q.val * 8 + a.val, by omega⟩ k) : EReal) * rms (fun x => X (ix2 ⟨q.val * 8 + a.val, by omega⟩ x)))

/-- A point adds its part to the sum. -/
theorem pay1_at (X Y : FVec Ideal S512x2048 .f32) (A : FVec Ideal S8x2048 .f32) (a : Fin 8) (k : Fin 2048) :
    (show EReal from k0_pay1 (F := Ideal) (k0_pay5 X) Y A (ix2 a k)) = (A (ix2 a k) : EReal) + part X Y a k := by
  unfold part rms msq cN eps
  pointwise [k0_pay1, k0_pay5, k0_pay4]

/-- The last point adds the eight rows of the sum. -/
theorem pay2_at (A : FVec Ideal S8x2048 .f32) (y : S1x2048.Idx) :
    (show EReal from k0_pay2 (F := Ideal) A y) = ∑ a : Fin 8, (A (ix2 a (y 1)) : EReal) := by
  pointwise [k0_pay2]

/-- The sum starts from zero. -/
theorem pay3_at (a : Fin 8) (k : Fin 2048) : (show EReal from k0_pay3 (F := Ideal) (ix2 a k)) = 0 := by
  pointwise [k0_pay3]

/-- Every point writes its block of the rows' gradient. -/
theorem row_st (c : Dev nD) (t : Fin cfg0.N) (acc) :
    (stAt0 (F := Ideal) m c t.val t.isLt acc).1 = k0_pay6 (iblk m c 1 t) (iblk m c 0 t) (iblk m c 2 t) (iblk m c 3 t) := by
  have hN := lt_of_lt_of_eq t.isLt N_0
  by_cases h0 : t.val % 8 = 0
  · rw [stAt0_A m c t acc h0 (by omega)]
    frame_out
  · by_cases h1 : t.val % 8 = 7
    · rw [stAt0_C m c t acc h0 h1]
      frame_out
    · rw [stAt0_B m c t acc h0 h1]
      frame_out

/-- Every point writes its block of the rounded rows' gradient. -/
theorem rowb_st (c : Dev nD) (t : Fin cfg0.N) (acc) :
    (stAt0 (F := Ideal) m c t.val t.isLt acc).2.1 = k0_pay7 (iblk m c 1 t) (iblk m c 0 t) (iblk m c 2 t) (iblk m c 3 t) := by
  have hN := lt_of_lt_of_eq t.isLt N_0
  by_cases h0 : t.val % 8 = 0
  · rw [stAt0_A m c t acc h0 (by omega)]
    frame_out
  · by_cases h1 : t.val % 8 = 7
    · rw [stAt0_C m c t acc h0 h1]
      frame_out
    · rw [stAt0_B m c t acc h0 h1]
      frame_out

/-- The first point sets the sum to its part. -/
theorem sum_A (c : Dev nD) (t : Fin cfg0.N) (acc) (h0 : t.val % 8 = 0) (h1 : ¬t.val % 8 = 7) (a : Fin 8) (k : Fin 2048) :
    (stAt0 (F := Ideal) m c t.val t.isLt acc).2.2.2 (ix2 a k) = part (iblk m c 1 t) (iblk m c 0 t) a k := by
  rw [stAt0_A m c t acc h0 h1]
  frame_open
  dsimp only
  simp (disch := decide) only [↓ View.readCov_fill]
  frame_out
  refine (pay1_at _ _ _ a k).trans ?_
  exact (congrArg (· + part (iblk m c 1 t) (iblk m c 0 t) a k) (pay3_at a k)).trans (zero_add _)

/-- A middle point adds its part to the sum. -/
theorem sum_B (c : Dev nD) (t : Fin cfg0.N) (acc) (h0 : ¬t.val % 8 = 0) (h1 : ¬t.val % 8 = 7) (a : Fin 8) (k : Fin 2048) :
    (stAt0 (F := Ideal) m c t.val t.isLt acc).2.2.2 (ix2 a k) = acc.2.2.2 (ix2 a k) + part (iblk m c 1 t) (iblk m c 0 t) a k := by
  rw [stAt0_B m c t acc h0 h1]
  frame_out
  simp only [read_unread_whole]
  exact pay1_at _ _ _ a k

/-- The last point writes the scale's gradient: the sum and its own part, the eight rows put together. -/
theorem sum_C (c : Dev nD) (t : Fin cfg0.N) (acc) (h0 : ¬t.val % 8 = 0) (h1 : t.val % 8 = 7) (u : Fin 1) (k : Fin 2048) :
    (stAt0 (F := Ideal) m c t.val t.isLt acc).2.2.1 (ix2 u k) = ∑ a : Fin 8, (acc.2.2.2 (ix2 a k) + part (iblk m c 1 t) (iblk m c 0 t) a k) := by
  rw [stAt0_C m c t acc h0 h1]
  frame_out
  simp only [read_unread_whole]
  refine (pay2_at _ (ix2 u k)).trans (Finset.sum_congr rfl fun a _ => ?_)
  exact pay1_at _ _ _ a k

/-- The sum after point `n`, before the last point. -/
theorem sum_st (c : Dev nD) (a : Fin 8) (k : Fin 2048) (n : ℕ) (hn : 0 + n < cfg0.N) (h7 : n < 7) :
    (Pipeline.accAt (fun n h => stAt0 (F := Ideal) m c n h junk0) (stAt0 m c) 0 n hn).2.2.2 (ix2 a k)
      = ∑ i : Fin (n + 1), part (iblk m c 1 ⟨i.val, by omega⟩) (iblk m c 0 ⟨i.val, by omega⟩) a k := by
  induction n with
  | zero =>
    rw [Pipeline.accAt_zero, Fin.sum_univ_one]
    exact sum_A m c ⟨0, by omega⟩ junk0 (by decide : 0 % 8 = 0) (by decide : ¬0 % 8 = 7) a k
  | succ n ih =>
    rw [Pipeline.accAt_succ]
    refine Eq.trans ?_ (Fin.sum_univ_castSucc _).symm
    refine (sum_B m c ⟨0 + (n + 1), hn⟩ _ (by show ¬(0 + (n + 1)) % 8 = 0; omega) (by show ¬(0 + (n + 1)) % 8 = 7; omega) a k).trans ?_
    rw [ih (by omega) (by omega)]
    exact congrArg₂ (· + ·) rfl (congrArg (fun t => part (iblk m c 1 t) (iblk m c 0 t) a k) (Fin.ext (Nat.zero_add _)))

/-- Row `p` of a point's block, as a row of the array. -/
def grow (n : ℕ) (hn : n < cfg0.N) (p : Fin 512) : Fin 4096 :=
  ⟨512 * n + p.val, by have h := lt_of_lt_of_eq hn N_0; have := p.isLt; omega⟩

/-- The arguments. -/
abbrev a0 (c : Dev nD) : FVec Ideal S4096x2048 .f32 := m ((c : Thread nD τ).loc main_arg0)
/-- The rows. -/
abbrev a1 (c : Dev nD) : FVec Ideal S4096x2048 .f32 := m ((c : Thread nD τ).loc main_arg1)
/-- The scale. -/
abbrev a2 (c : Dev nD) : FVec Ideal S2048 .f32 := m ((c : Thread nD τ).loc main_arg2)
/-- The gradient that is added. -/
abbrev a3 (c : Dev nD) : FVec Ideal S4096x2048 .f32 := m ((c : Thread nD τ).loc main_arg3)

/-- A place of the block of the incoming gradient. -/
theorem b0 (c : Dev nD) (t : Fin cfg0.N) (p : Fin 512) (k : Fin 2048) : iblk m c 0 t (ix2 p k) = a0 m c (ix2 (grow t.val t.isLt p) k) := by
  obtain ⟨i0, -, -, -, -, -, -, hc⟩ := idx t
  unfold grow
  blk_point [iblk, V, i0, hc]

/-- A place of the block of the rows. -/
theorem b1 (c : Dev nD) (t : Fin cfg0.N) (p : Fin 512) (k : Fin 2048) : iblk m c 1 t (ix2 p k) = a1 m c (ix2 (grow t.val t.isLt p) k) := by
  obtain ⟨-, i1, -, -, -, -, -, hc⟩ := idx t
  unfold grow
  blk_point [iblk, V, i1, hc]

/-- What every point stores at a place of its block of the first result is the reference at the place of the array. -/
theorem point4 (c : Dev nD) (t : Fin cfg0.N) (y) : k0_pay6 (iblk m c 1 t) (iblk m c 0 t) (iblk m c 2 t) (iblk m c 3 t) y
    = DX (a0 m c) (a1 m c) (a2 m c) (a3 m c) (((cfg0.win 4).blk t).view.emb y) := by
  refine (pay6_at _ _ _ _ y).trans (Eq.trans ?_ (DX_at _ _ _ _ _).symm)
  blk_point [iblk, V, idx t]

/-- What every point stores at a place of its block of the second result is the reference at the place of the array. -/
theorem point5 (c : Dev nD) (t : Fin cfg0.N) (y) : k0_pay7 (iblk m c 1 t) (iblk m c 0 t) (iblk m c 2 t) (iblk m c 3 t) y
    = DXB (a0 m c) (a1 m c) (a2 m c) (a3 m c) (((cfg0.win 5).blk t).view.emb y) := by
  refine (pay6_at _ _ _ _ y).trans (Eq.trans ?_ (DXB_at _ _ _ _ _).symm)
  blk_point [iblk, V, idx t]

/-- One row's term of the scale's gradient. -/
def term (c : Dev nD) (k : Fin 2048) (p : Fin 4096) : EReal :=
  (a1 m c (ix2 p k) * rms (fun x => a1 m c (ix2 p x))) * a0 m c (ix2 p k)

/-- One point's part of the scale's gradient, against the arrays. -/
theorem part_blk (c : Dev nD) (t : Fin cfg0.N) (a : Fin 8) (k : Fin 2048) :
    part (iblk m c 1 t) (iblk m c 0 t) a k = ∑ q : Fin 64, term m c k (grow t.val t.isLt ⟨q.val * 8 + a.val, by omega⟩) := by
  unfold part term
  refine Finset.sum_congr rfl fun q _ => ?_
  simp only [b0, b1]
  exact mul_comm (a0 m c _) _

/-- A sum over eighths, points and groups of eight rows is the sum over all rows. -/
theorem sum_rows (F : Fin 4096 → EReal) (hN : ∀ i : Fin 8, i.val < cfg0.N) :
    ∑ a : Fin 8, ∑ i : Fin 8, ∑ q : Fin 64, F (grow i.val (hN i) ⟨q.val * 8 + a.val, by omega⟩) = ∑ p, F p := by
  rw [Finset.sum_comm, ← sum_blocks 8 512 rfl]
  refine Finset.sum_congr rfl fun i _ => ?_
  rw [Finset.sum_comm, ← sum_blocks 64 8 rfl]
  refine Finset.sum_congr rfl fun q _ => Finset.sum_congr rfl fun a _ => congrArg F (Fin.ext ?_)
  show 512 * i.val + (q.val * 8 + a.val) = 512 * i.val + (8 * q.val + a.val)
  omega

/-- The block of the rows' gradient after a point. -/
theorem row_outs (c : Dev nD) (n : ℕ) (hn : n < cfg0.N) :
    (outsAt0 (F := Ideal) m c n hn).1 = k0_pay6 (iblk m c 1 ⟨n, hn⟩) (iblk m c 0 ⟨n, hn⟩) (iblk m c 2 ⟨n, hn⟩) (iblk m c 3 ⟨n, hn⟩) := by
  rw [outsAt0_sweep]
  cases n with
  | zero => exact row_st m c ⟨0, hn⟩ junk0
  | succ n =>
    rw [Pipeline.accAt_succ]
    simp only [Nat.zero_add]
    exact row_st m c ⟨n + 1, hn⟩ _

/-- The block of the rounded rows' gradient after a point. -/
theorem rowb_outs (c : Dev nD) (n : ℕ) (hn : n < cfg0.N) :
    (outsAt0 (F := Ideal) m c n hn).2.1 = k0_pay7 (iblk m c 1 ⟨n, hn⟩) (iblk m c 0 ⟨n, hn⟩) (iblk m c 2 ⟨n, hn⟩) (iblk m c 3 ⟨n, hn⟩) := by
  rw [outsAt0_sweep]
  cases n with
  | zero => exact rowb_st m c ⟨0, hn⟩ junk0
  | succ n =>
    rw [Pipeline.accAt_succ]
    simp only [Nat.zero_add]
    exact rowb_st m c ⟨n + 1, hn⟩ _

/-- The first result array after the run. -/
theorem out4 (c : Dev nD) : G4 (F := Ideal) m c = DX (a0 m c) (a1 m c) (a2 m c) (a3 m c) := by
  rw [← final4]
  refine (dats m 0 c).arrAt_eq_of_covers 4 _ (by decide +kernel) fun t _ y => ?_
  blk_simp
  rw [after0_4, row_outs]
  exact point4 m c t y

/-- The second result array after the run. -/
theorem out5 (c : Dev nD) : G5 (F := Ideal) m c = DXB (a0 m c) (a1 m c) (a2 m c) (a3 m c) := by
  rw [← final5]
  refine (dats m 0 c).arrAt_eq_of_covers 5 _ (by decide +kernel) fun t _ y => ?_
  blk_simp
  rw [after0_5, rowb_outs]
  exact point5 m c t y

/-- The third result array after the run. -/
theorem out6 (c : Dev nD) : G6 (F := Ideal) m c = DG (a0 m c) (a1 m c) (a2 m c) (a3 m c) := by
  funext y
  obtain ⟨u, k, rfl⟩ : ∃ (u : Fin 1) (k : Fin 2048), y = ix2 u k := ⟨_, _, eq_ix2 y⟩
  rw [G6_last, Pipeline.accAt_succ]
  refine (sum_C m c ⟨7, lt_of_lt_of_eq (by decide) N_0.symm⟩ _ (by decide) (by decide) u k).trans (Eq.trans ?_ (DG_at _ _ _ _ (ix2 u k)).symm)
  refine Eq.trans ?_ (sum_rows (term m c k) fun i => lt_of_lt_of_eq i.isLt N_0.symm)
  refine Finset.sum_congr rfl fun a _ => ?_
  rw [sum_st m c a k 6 _ (by decide)]
  refine Eq.trans ?_ (Fin.sum_univ_castSucc _).symm
  simp only [part_blk]
  rfl

end Cert.Kernel14Ideal.Norm

end
-- ==== Proof.NormFwd.lean ====
/- The normalisation of the rows: what the kernel writes, and its transpose, is what the reference computes. -/
module

public import proofs.«01_k».proof.Proof.Gen.Kernel15Ideal.Value
public import proofs.«01_k».proof.Proof.Gen.Reference15Ideal.Run
public import Idealize.ShloMosaic.Lib.Pointwise
public import Idealize.ShloMosaic.Lib.Pipeline.ValueKit
public import Idealize.ShloMosaic.Lib.Pipeline.ReadBack
public import proofs.«01_k».proof.Proof.NormMath

@[expose] public section

set_option maxRecDepth 16384

noncomputable section

open Idealize.ShloMosaic Idealize.ShloMosaic.TcCoe Idealize.SL.Sem
open Idealize.ShloMosaic.Pipeline (Dat)

namespace Cert.Reference15Ideal.Norm

open Cert.Reference15Ideal Cert.Reference15Ideal.Gen
open Cert.Norm

/-- The reference's normalised rows, from its arguments. -/
abbrev H (A0 : FVec Ideal S4096x2048 .f32) (A1 : FVec Ideal S2048 .f32) : FVec Ideal S4096x2048 .bf16 :=
  truncf .bf16 (mulf (mulf A0 (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 A1))) bitsLt_bf16_f32

/-- The normalised row is the row over its root mean square, scaled. -/
theorem H_at (A0 : FVec Ideal S4096x2048 .f32) (A1 : FVec Ideal S2048 .f32) (e : S4096x2048.Idx) :
    (show EReal from H A0 A1 e) = (A0 e : EReal) * rms (fun x => A0 (ix2 (e 0) x)) * (A1 (ix1 (e 1)) : EReal) := by
  unfold rms msq cN eps
  pointwise [H]

/-- The reference's transposed normalised rows, from its arguments. -/
abbrev HT (A0 : FVec Ideal S4096x2048 .f32) (A1 : FVec Ideal S2048 .f32) : FVec Ideal S2048x4096 .bf16 :=
  transpose S2048x4096 [1, 0] (truncf .bf16 (mulf (mulf A0 (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 A1))) bitsLt_bf16_f32) transposes_S4096x2048_S2048x4096_1_0

/-- The transposed result holds the same values, rows and columns exchanged. -/
theorem HT_at (A0 : FVec Ideal S4096x2048 .f32) (A1 : FVec Ideal S2048 .f32) (e : S2048x4096.Idx) :
    (show EReal from HT A0 A1 e) = (A0 (ix2 (e 1) (e 0)) : EReal) * rms (fun x => A0 (ix2 (e 1) x)) * (A1 (ix1 (e 0)) : EReal) := by
  unfold rms msq cN eps
  pointwise [HT]

end Cert.Reference15Ideal.Norm

namespace Cert.Kernel15Ideal.Norm

open Cert.Kernel15Ideal Cert.Kernel15Ideal.Gen
open Cert.Norm
open Cert.Reference15Ideal.Norm (H HT H_at HT_at)

variable (m : (ℓ : Loc nD τ sig) → Buf (Elt Ideal) ℓ)

/-- Every window's index map at a point. -/
theorem idx : ∀ t : Fin cfg0.N,
    win0_0.index t = ![(grid0.coords t 0).val, 0] ∧ win0_1.index t = ![0, 0]
      ∧ win0_2.index t = ![(grid0.coords t 0).val, 0] ∧ win0_3.index t = ![0, (grid0.coords t 0).val] :=
  (by decide +kernel : ∀ t : Fin grid0.N, _)

/-- The kernel's block of normalised rows. -/
theorem pay1_at (X : FVec Ideal S512x2048 .f32) (G : FVec Ideal S1x2048 .f32) (y : S512x2048.Idx) :
    (show EReal from k0_pay1 (F := Ideal) X G y) = (X y : EReal) * rms (fun x => X (ix2 (y 0) x)) * (G (ix2 0 (y 1)) : EReal) := by
  unfold rms msq cN eps
  pointwise [k0_pay1]

/-- The kernel's block of transposed normalised rows. -/
theorem pay2_at (X : FVec Ideal S512x2048 .f32) (G : FVec Ideal S1x2048 .f32) (y : S2048x512.Idx) :
    (show EReal from k0_pay2 (F := Ideal) X G y) = (X (ix2 (y 1) (y 0)) : EReal) * rms (fun x => X (ix2 (y 1) x)) * (G (ix2 0 (y 0)) : EReal) := by
  unfold rms msq cN eps
  pointwise [k0_pay2, k0_pay1]

/-- What a point stores at a place of its block of the first result is the reference at the place of the array. -/
theorem point2 (c : Dev nD) (t : Fin cfg0.N) (y) : k0_pay1 (iblk m c 0 t) (iblk m c 1 t) y
    = H (m ((c : Thread nD τ).loc main_arg0)) (m ((c : Thread nD τ).loc main_arg1)) (((cfg0.win 2).blk t).view.emb y) := by
  refine (pay1_at _ _ y).trans (Eq.trans ?_ (H_at _ _ _).symm)
  blk_point [iblk, V, idx t]

/-- What a point stores at a place of its block of the second result is the reference at the place of the array. -/
theorem point3 (c : Dev nD) (t : Fin cfg0.N) (y) : k0_pay2 (iblk m c 0 t) (iblk m c 1 t) y
    = HT (m ((c : Thread nD τ).loc main_arg0)) (m ((c : Thread nD τ).loc main_arg1)) (((cfg0.win 3).blk t).view.emb y) := by
  refine (pay2_at _ _ y).trans (Eq.trans ?_ (HT_at _ _ _).symm)
  blk_point [iblk, V, idx t]

/-- The first result array after the run. -/
theorem final2 (c : Dev nD) : (dats m 0 c).arrAt 2 cfg0.N
    = H (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

/-- The second result array after the run. -/
theorem final3 (c : Dev nD) : (dats m 0 c).arrAt 3 cfg0.N
    = HT (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

end Cert.Kernel15Ideal.Norm

end
-- ==== Proof.Loss.lean ====
/- The loss and its gradient: what the kernel writes is what the reference computes. -/
module

public import proofs.«01_k».proof.Proof.Gen.Kernel16Ideal.Value
public import proofs.«01_k».proof.Proof.Gen.Reference16Ideal.Run
public import Idealize.ShloMosaic.Lib.Pointwise
public import Idealize.ShloMosaic.Lib.Pipeline.ValueKit
public import Idealize.ShloMosaic.Lib.Pipeline.ReadBack
public import proofs.«01_k».proof.Proof.NormMath
public import proofs.«01_k».proof.Proof.SguFold

@[expose] public section

set_option maxRecDepth 16384

noncomputable section

open Idealize.ShloMosaic Idealize.ShloMosaic.TcCoe Idealize.SL.Sem
open Idealize.ShloMosaic.Pipeline (Dat)

namespace Cert.Norm

/-- One half, as the programs' literal word. -/
def half : EReal := Ideal.ofBits .f32 0x3F000000#32

/-- One, as the reference's literal word. -/
def one : EReal := Ideal.ofBits .f32 0x3F800000#32

/-- Two, as the reference's literal word. -/
def two : EReal := Ideal.ofBits .f32 0x40000000#32

/-- The first word is one half. -/
theorem half_eq : half = ((1 / 2 : ℝ) : EReal) := by
  unfold half
  simp [Ideal.ofBits, Ideal.ieee, -EReal.coe_mul]; norm_num

/-- The second word is one. -/
theorem one_eq : one = ((1 : ℝ) : EReal) := by
  unfold one
  simp [Ideal.ofBits, Ideal.ieee, -EReal.coe_mul]; norm_num

/-- The third word is two. -/
theorem two_eq : two = ((2 : ℝ) : EReal) := by
  unfold two
  simp [Ideal.ofBits, Ideal.ieee, -EReal.coe_mul]; norm_num

/-- The difference of the scaled normalised row and the target. -/
def dif (x g t : Fin 2048 → EReal) (k : Fin 2048) : EReal := (x k * rms x) * g k - t k

/-- The gradient of the loss with respect to the scaled normalised row, in the kernel's form. -/
def dy (x g t : Fin 2048 → EReal) (k : Fin 2048) : EReal := Ideal.div (dif x g t k) cN

/-- The reference's form of the same gradient. -/
theorem dy_ref (x g t : Fin 2048 → EReal) (k : Fin 2048) : Ideal.div (half * one) cN * (two * dif x g t k) = dy x g t k := by
  have hN : (2048 : ℝ) ≠ 0 := by norm_num
  rw [dy, half_eq, one_eq, two_eq, cN_eq, ← EReal.coe_mul, Ideal.div_coe hN, Ideal.div_coe hN, ← EReal.coe_mul, ← mul_assoc, ← EReal.coe_mul,
    mul_comm (dif x g t k)]
  congr 2
  norm_num

/-- The mean squared difference of a row. -/
def tok (x g t : Fin 2048 → EReal) : EReal := Ideal.div (∑ k, dif x g t k * dif x g t k) cN

/-- One half of a sum is the sum of the halves. -/
theorem half_sum {n : ℕ} (f : Fin n → EReal) : half * ∑ k, f k = ∑ k, half * f k := by
  have h := sum_mul_real f (1 / 2) (by norm_num)
  rw [half_eq, mul_comm, ← h]
  exact Finset.sum_congr rfl fun k _ => mul_comm _ _

end Cert.Norm

namespace Cert.Reference16Ideal.Loss

open Cert.Reference16Ideal Cert.Reference16Ideal.Gen
open Cert.Norm

/-- The reference's gradient of the rows, from its arguments. -/
abbrev DX (A0 : FVec Ideal S4096x2048 .f32) (A1 : FVec Ideal S2048 .f32) (A2 : FVec Ideal S4096x2048 .f32) : FVec Ideal S4096x2048 .f32 :=
  addf (addf (mulf (mulf (mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (subf (mulf (mulf A0 (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 A1))) A2))) (broadcastInDim S4096x2048 ![0, 1] bcast_S1x2048_S4096x2048_0_1 (broadcastInDim S1x2048 ![1] bcast_S2048_S1x2048_1 A1))) (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (mulf A0 (broadcastInDim S4096x2048 ![0] bcast_S4096_S4096x2048_0 (Host.reduceAdd (Host.divf (mulf (shapeCast _ (Host.reduceAdd (mulf A0 (mulf (mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (subf (mulf (mulf A0 (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 A1))) A2))) (broadcastInDim S4096x2048 ![0, 1] bcast_S1x2048_S4096x2048_0_1 (broadcastInDim S1x2048 ![1] bcast_S2048_S1x2048_1 A1)))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))) (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf A0 (mulf (mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (subf (mulf (mulf A0 (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 A1))) A2))) (broadcastInDim S4096x2048 ![0, 1] bcast_S1x2048_S4096x2048_0_1 (broadcastInDim S1x2048 ![1] bcast_S2048_S1x2048_1 A1)))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))) (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x1 ![] bcast_S_S4096x1 (constant S_ .f32 0x45000000#32))) (constant S_ .f32 0x00000000#32) reducesTo_S4096x1_S4096_d1 h_S_)) A0)

/-- It is the gradient through the normalisation of the gradient of the normalised row. -/
theorem DX_ref (A0 : FVec Ideal S4096x2048 .f32) (A1 : FVec Ideal S2048 .f32) (A2 : FVec Ideal S4096x2048 .f32) (e : S4096x2048.Idx) :
    (show EReal from DX A0 A1 A2 e) = dref (fun x => A0 (ix2 (e 0) x))
      (fun x => (Ideal.div (half * one) cN * (two * dif (fun x => A0 (ix2 (e 0) x)) (fun x => A1 (ix1 x)) (fun x => A2 (ix2 (e 0) x)) x)) * (A1 (ix1 x) : EReal)) (e 1) := by
  obtain ⟨a, k, rfl⟩ : ∃ a k, e = ix2 a k := ⟨_, _, eq_ix2 e⟩
  unfold dref dif coef rms msq cN eps mhalf half one two
  pointwise [DX]
  simp only [Fin.sum_univ_one, ix2_0, ix2_1]

/-- In the kernel's order of the same gradient. -/
theorem DX_at (A0 : FVec Ideal S4096x2048 .f32) (A1 : FVec Ideal S2048 .f32) (A2 : FVec Ideal S4096x2048 .f32) (e : S4096x2048.Idx) :
    (show EReal from DX A0 A1 A2 e) = dker (fun x => A0 (ix2 (e 0) x)) (fun x => dy (fun x => A0 (ix2 (e 0) x)) (fun x => A1 (ix1 x)) (fun x => A2 (ix2 (e 0) x)) x * (A1 (ix1 x) : EReal)) (e 1) := by
  refine (DX_ref A0 A1 A2 e).trans ?_
  simp only [dy_ref]
  exact dref_eq _ _ _

/-- The reference's rounded gradient of the rows, from its arguments. -/
abbrev DXB (A0 : FVec Ideal S4096x2048 .f32) (A1 : FVec Ideal S2048 .f32) (A2 : FVec Ideal S4096x2048 .f32) : FVec Ideal S4096x2048 .bf16 :=
  truncf .bf16 (addf (addf (mulf (mulf (mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (subf (mulf (mulf A0 (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 A1))) A2))) (broadcastInDim S4096x2048 ![0, 1] bcast_S1x2048_S4096x2048_0_1 (broadcastInDim S1x2048 ![1] bcast_S2048_S1x2048_1 A1))) (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (mulf A0 (broadcastInDim S4096x2048 ![0] bcast_S4096_S4096x2048_0 (Host.reduceAdd (Host.divf (mulf (shapeCast _ (Host.reduceAdd (mulf A0 (mulf (mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (subf (mulf (mulf A0 (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 A1))) A2))) (broadcastInDim S4096x2048 ![0, 1] bcast_S1x2048_S4096x2048_0_1 (broadcastInDim S1x2048 ![1] bcast_S2048_S1x2048_1 A1)))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))) (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf A0 (mulf (mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (subf (mulf (mulf A0 (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 A1))) A2))) (broadcastInDim S4096x2048 ![0, 1] bcast_S1x2048_S4096x2048_0_1 (broadcastInDim S1x2048 ![1] bcast_S2048_S1x2048_1 A1)))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))) (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x1 ![] bcast_S_S4096x1 (constant S_ .f32 0x45000000#32))) (constant S_ .f32 0x00000000#32) reducesTo_S4096x1_S4096_d1 h_S_)) A0)) bitsLt_bf16_f32

/-- It is the gradient of the rows. -/
theorem DXB_at (A0 : FVec Ideal S4096x2048 .f32) (A1 : FVec Ideal S2048 .f32) (A2 : FVec Ideal S4096x2048 .f32) (e : S4096x2048.Idx) :
    (show EReal from DXB A0 A1 A2 e) = dker (fun x => A0 (ix2 (e 0) x)) (fun x => dy (fun x => A0 (ix2 (e 0) x)) (fun x => A1 (ix1 x)) (fun x => A2 (ix2 (e 0) x)) x * (A1 (ix1 x) : EReal)) (e 1) := by
  exact DX_at A0 A1 A2 e

/-- The reference's gradient of the scale, from its arguments. -/
abbrev DG (A0 : FVec Ideal S4096x2048 .f32) (A1 : FVec Ideal S2048 .f32) (A2 : FVec Ideal S4096x2048 .f32) : FVec Ideal S1x2048 .f32 :=
  shapeCast _ (Host.reduceAdd (shapeCast _ (Host.reduceAdd (mulf (mulf A0 (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (subf (mulf (mulf A0 (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 A1))) A2)))) (constant S_ .f32 0x00000000#32) reducesTo_S4096x2048_S2048_d0 h_S_) shapeCasts_S2048_S1x2048) (constant S_ .f32 0x00000000#32) reducesTo_S1x2048_S2048_d0 h_S_) shapeCasts_S2048_S1x2048

/-- It is the sum over the rows of the normalised row times the gradient. -/
theorem DG_at (A0 : FVec Ideal S4096x2048 .f32) (A1 : FVec Ideal S2048 .f32) (A2 : FVec Ideal S4096x2048 .f32) (e : S1x2048.Idx) :
    (show EReal from DG A0 A1 A2 e) = ∑ p : Fin 4096, ((A0 (ix2 p (e 1)) : EReal) * rms (fun x => A0 (ix2 p x))) * dy (fun x => A0 (ix2 p x)) (fun x => A1 (ix1 x)) (fun x => A2 (ix2 p x)) (e 1) := by
  refine Eq.trans ?_ (Finset.sum_congr rfl fun p _ => congrArg (fun z : EReal => ((A0 (ix2 p (e 1)) : EReal) * rms (fun x => A0 (ix2 p x))) * z)
    (dy_ref (fun x => A0 (ix2 p x)) (fun x => A1 (ix1 x)) (fun x => A2 (ix2 p x)) (e 1)))
  unfold dif rms msq cN eps half one two
  pointwise [DG]
  exact Fin.sum_univ_one _

/-- The reference's loss, from its arguments. -/
abbrev LOSS (A0 : FVec Ideal S4096x2048 .f32) (A1 : FVec Ideal S2048 .f32) (A2 : FVec Ideal S4096x2048 .f32) : FVec Ideal S1x1 .f32 :=
  shapeCast _ (mulf (constant S_ .f32 0x3F000000#32) (Host.reduceAdd (Host.divf (Host.reduceAdd (mulf (subf (mulf (mulf A0 (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 A1))) A2) (subf (mulf (mulf A0 (broadcastInDim S4096x2048 ![0, 1] bcast_S4096x1_S4096x2048_0_1 (Host.rsqrt (addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 A1))) A2)) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_)) shapeCasts_S_S1x1

/-- It is the sum over the rows of one half of the mean squared difference. -/
theorem LOSS_at (A0 : FVec Ideal S4096x2048 .f32) (A1 : FVec Ideal S2048 .f32) (A2 : FVec Ideal S4096x2048 .f32) (e : S1x1.Idx) :
    (show EReal from LOSS A0 A1 A2 e) = ∑ p : Fin 4096, half * tok (fun x => A0 (ix2 p x)) (fun x => A1 (ix1 x)) (fun x => A2 (ix2 p x)) := by
  refine Eq.trans ?_ (half_sum _)
  unfold tok dif rms msq cN eps half
  pointwise [LOSS]

end Cert.Reference16Ideal.Loss

namespace Cert.Kernel16Ideal.Loss

open Cert.Kernel16Ideal Cert.Kernel16Ideal.Gen Cert.Kernel16Ideal.Value
open Cert.Norm
open Cert.Reference16Ideal.Loss (DX DXB DG LOSS DX_at DXB_at DG_at LOSS_at)
open Cert.KernelIdeal.SguFold (fold_sum sum_blocks)

variable (m : (ℓ : Loc nD τ sig) → Buf (Elt Ideal) ℓ)

/-- Every window's index map at a point. -/
theorem idx : ∀ t : Fin cfg0.N,
    win0_0.index t = ![(grid0.coords t 0).val, 0] ∧ win0_1.index t = ![0, 0]
      ∧ win0_2.index t = ![(grid0.coords t 0).val, 0] ∧ win0_3.index t = ![(grid0.coords t 0).val, 0]
      ∧ win0_4.index t = ![(grid0.coords t 0).val, 0] ∧ win0_5.index t = ![0, 0]
      ∧ win0_6.index t = ![0, 0] ∧ (grid0.coords t 0).val = t.val :=
  (by decide +kernel : ∀ t : Fin grid0.N, _)

/-- The kernel's block of the rows' gradient. -/
abbrev dxp (X : FVec Ideal S256x2048 .f32) (G : FVec Ideal S1x2048 .f32) (T : FVec Ideal S256x2048 .f32) : FVec Ideal S256x2048 .f32 :=
  k0_pay1 (k0_pay8 X) (k0_pay9 X) (k0_pay13 X G T)

/-- The same block, rounded. -/
abbrev dxbp (X : FVec Ideal S256x2048 .f32) (G : FVec Ideal S1x2048 .f32) (T : FVec Ideal S256x2048 .f32) : FVec Ideal S256x2048 .bf16 :=
  k0_pay2 (k0_pay8 X) (k0_pay9 X) (k0_pay13 X G T)

/-- The block at a place. -/
theorem dxp_at (X : FVec Ideal S256x2048 .f32) (G : FVec Ideal S1x2048 .f32) (T : FVec Ideal S256x2048 .f32) (y : S256x2048.Idx) :
    (show EReal from dxp X G T y) = dker (fun x => X (ix2 (y 0) x))
      (fun x => dy (fun x => X (ix2 (y 0) x)) (fun x => G (ix2 0 x)) (fun x => T (ix2 (y 0) x)) x * (G (ix2 0 x) : EReal)) (y 1) := by
  obtain ⟨a, k, rfl⟩ : ∃ a k, y = ix2 a k := ⟨_, _, eq_ix2 y⟩
  unfold dker dy dif rms msq cN eps
  pointwise [dxp, k0_pay1, k0_pay13, k0_pay12, k0_pay10, k0_pay9, k0_pay8, k0_pay7]

/-- One point's part of the scale's gradient, folded to eight rows. -/
def part (X : FVec Ideal S256x2048 .f32) (G : FVec Ideal S1x2048 .f32) (T : FVec Ideal S256x2048 .f32) (a : Fin 8) (k : Fin 2048) : EReal :=
  ∑ q : Fin 32, dy (fun x => X (ix2 ⟨q.val * 8 + a.val, by omega⟩ x)) (fun x => G (ix2 0 x)) (fun x => T (ix2 ⟨q.val * 8 + a.val, by omega⟩ x)) k
    * ((X (ix2 ⟨q.val * 8 + a.val, by omega⟩ k) : EReal) * rms (fun x => X (ix2 ⟨q.val * 8 + a.val, by omega⟩ x)))

/-- A point adds its part to the sum. -/
theorem pay3_at (X : FVec Ideal S256x2048 .f32) (G : FVec Ideal S1x2048 .f32) (T : FVec Ideal S256x2048 .f32) (A : FVec Ideal S8x2048 .f32) (a : Fin 8) (k : Fin 2048) :
    (show EReal from k0_pay3 (F := Ideal) (k0_pay9 X) (k0_pay12 X G T) A (ix2 a k)) = (A (ix2 a k) : EReal) + part X G T a k := by
  unfold part dy dif rms msq cN eps
  pointwise [k0_pay3, k0_pay12, k0_pay10, k0_pay9, k0_pay8, k0_pay7]

/-- The last point adds the eight rows of the sum. -/
theorem pay4_at (A : FVec Ideal S8x2048 .f32) (y : S1x2048.Idx) :
    (show EReal from k0_pay4 (F := Ideal) A y) = ∑ a : Fin 8, (A (ix2 a (y 1)) : EReal) := by
  pointwise [k0_pay4]

/-- The sum starts from zero. -/
theorem pay5_at (a : Fin 8) (k : Fin 2048) : (show EReal from k0_pay5 (F := Ideal) (ix2 a k)) = 0 := by
  pointwise [k0_pay5]

/-- The loss starts from zero. -/
theorem pay6_at (y : S1x1.Idx) : (show EReal from k0_pay6 (F := Ideal) y) = 0 := by
  pointwise [k0_pay6]

/-- One point's part of the loss. -/
def lpart (X : FVec Ideal S256x2048 .f32) (G : FVec Ideal S1x2048 .f32) (T : FVec Ideal S256x2048 .f32) : EReal :=
  half * ∑ p : Fin 256, tok (fun x => X (ix2 p x)) (fun x => G (ix2 0 x)) (fun x => T (ix2 p x))

/-- A point adds its part to the loss. -/
theorem pay11_at (X : FVec Ideal S256x2048 .f32) (G : FVec Ideal S1x2048 .f32) (T : FVec Ideal S256x2048 .f32) (L : FVec Ideal S1x1 .f32) (u v : Fin 1) :
    (show EReal from k0_pay11 (F := Ideal) X G T L (ix2 u v)) = (L (ix2 u v) : EReal) + lpart X G T := by
  unfold lpart tok dif rms msq cN eps half
  pointwise [k0_pay11, k0_pay10, k0_pay9, k0_pay8, k0_pay7]

/-- Every point writes its block of the rows' gradient. -/
theorem row_st (c : Dev nD) (t : Fin cfg0.N) (acc) : (stAt0 (F := Ideal) m c t.val t.isLt acc).1 = dxp (iblk m c 0 t) (iblk m c 1 t) (iblk m c 2 t) := by
  have hN := lt_of_lt_of_eq t.isLt N_0
  by_cases h0 : t.val % 16 = 0
  · rw [stAt0_A m c t acc h0 (by omega)]
    frame_out
  · by_cases h1 : t.val % 16 = 15
    · rw [stAt0_C m c t acc h0 h1]
      frame_out
    · rw [stAt0_B m c t acc h0 h1]
      frame_out

/-- Every point writes its block of the rounded rows' gradient. -/
theorem rowb_st (c : Dev nD) (t : Fin cfg0.N) (acc) : (stAt0 (F := Ideal) m c t.val t.isLt acc).2.1 = dxbp (iblk m c 0 t) (iblk m c 1 t) (iblk m c 2 t) := by
  have hN := lt_of_lt_of_eq t.isLt N_0
  by_cases h0 : t.val % 16 = 0
  · rw [stAt0_A m c t acc h0 (by omega)]
    frame_out
  · by_cases h1 : t.val % 16 = 15
    · rw [stAt0_C m c t acc h0 h1]
      frame_out
    · rw [stAt0_B m c t acc h0 h1]
      frame_out

/-- The first point sets the sum to its part. -/
theorem sum_A (c : Dev nD) (t : Fin cfg0.N) (acc) (h0 : t.val % 16 = 0) (h1 : ¬t.val % 16 = 15) (a : Fin 8) (k : Fin 2048) :
    (stAt0 (F := Ideal) m c t.val t.isLt acc).2.2.2.2 (ix2 a k) = part (iblk m c 0 t) (iblk m c 1 t) (iblk m c 2 t) a k := by
  rw [stAt0_A m c t acc h0 h1]
  frame_open
  dsimp only
  simp (disch := decide) only [↓ View.readCov_fill]
  frame_out
  refine (pay3_at _ _ _ _ a k).trans ?_
  exact (congrArg (· + part (iblk m c 0 t) (iblk m c 1 t) (iblk m c 2 t) a k) (pay5_at a k)).trans (zero_add _)

/-- A middle point adds its part to the sum. -/
theorem sum_B (c : Dev nD) (t : Fin cfg0.N) (acc) (h0 : ¬t.val % 16 = 0) (h1 : ¬t.val % 16 = 15) (a : Fin 8) (k : Fin 2048) :
    (stAt0 (F := Ideal) m c t.val t.isLt acc).2.2.2.2 (ix2 a k) = acc.2.2.2.2 (ix2 a k) + part (iblk m c 0 t) (iblk m c 1 t) (iblk m c 2 t) a k := by
  rw [stAt0_B m c t acc h0 h1]
  frame_out
  simp only [read_unread_whole]
  exact pay3_at _ _ _ _ a k

/-- The last point writes the scale's gradient: the sum and its own part, the eight rows put together. -/
theorem sum_C (c : Dev nD) (t : Fin cfg0.N) (acc) (h0 : ¬t.val % 16 = 0) (h1 : t.val % 16 = 15) (u : Fin 1) (k : Fin 2048) :
    (stAt0 (F := Ideal) m c t.val t.isLt acc).2.2.1 (ix2 u k) = ∑ a : Fin 8, (acc.2.2.2.2 (ix2 a k) + part (iblk m c 0 t) (iblk m c 1 t) (iblk m c 2 t) a k) := by
  rw [stAt0_C m c t acc h0 h1]
  frame_out
  simp only [read_unread_whole]
  refine (pay4_at _ (ix2 u k)).trans (Finset.sum_congr rfl fun a _ => ?_)
  exact pay3_at _ _ _ _ a k

/-- The first point sets the loss to its part. -/
theorem loss_A (c : Dev nD) (t : Fin cfg0.N) (acc) (h0 : t.val % 16 = 0) (h1 : ¬t.val % 16 = 15) (u v : Fin 1) :
    (stAt0 (F := Ideal) m c t.val t.isLt acc).2.2.2.1 (ix2 u v) = lpart (iblk m c 0 t) (iblk m c 1 t) (iblk m c 2 t) := by
  rw [stAt0_A m c t acc h0 h1]
  frame_open
  dsimp only
  simp (disch := decide) only [↓ View.readCov_fill]
  frame_out
  refine (pay11_at _ _ _ _ u v).trans ?_
  exact (congrArg (· + lpart (iblk m c 0 t) (iblk m c 1 t) (iblk m c 2 t)) (pay6_at (ix2 u v))).trans (zero_add _)

/-- A middle point adds its part to the loss. -/
theorem loss_B (c : Dev nD) (t : Fin cfg0.N) (acc) (h0 : ¬t.val % 16 = 0) (h1 : ¬t.val % 16 = 15) (u v : Fin 1) :
    (stAt0 (F := Ideal) m c t.val t.isLt acc).2.2.2.1 (ix2 u v) = acc.2.2.2.1 (ix2 u v) + lpart (iblk m c 0 t) (iblk m c 1 t) (iblk m c 2 t) := by
  rw [stAt0_B m c t acc h0 h1]
  frame_out
  exact pay11_at _ _ _ _ u v

/-- The last point adds its part to the loss. -/
theorem loss_C (c : Dev nD) (t : Fin cfg0.N) (acc) (h0 : ¬t.val % 16 = 0) (h1 : t.val % 16 = 15) (u v : Fin 1) :
    (stAt0 (F := Ideal) m c t.val t.isLt acc).2.2.2.1 (ix2 u v) = acc.2.2.2.1 (ix2 u v) + lpart (iblk m c 0 t) (iblk m c 1 t) (iblk m c 2 t) := by
  rw [stAt0_C m c t acc h0 h1]
  frame_out
  exact pay11_at _ _ _ _ u v

/-- The sum after point `n`, before the last point. -/
theorem sum_st (c : Dev nD) (a : Fin 8) (k : Fin 2048) (n : ℕ) (hn : 0 + n < cfg0.N) (h7 : n < 15) :
    (Pipeline.accAt (fun n h => stAt0 (F := Ideal) m c n h junk0) (stAt0 m c) 0 n hn).2.2.2.2 (ix2 a k)
      = ∑ i : Fin (n + 1), part (iblk m c 0 ⟨i.val, by omega⟩) (iblk m c 1 ⟨i.val, by omega⟩) (iblk m c 2 ⟨i.val, by omega⟩) a k := by
  induction n with
  | zero =>
    rw [Pipeline.accAt_zero, Fin.sum_univ_one]
    exact sum_A m c ⟨0, by omega⟩ junk0 (by decide : 0 % 16 = 0) (by decide : ¬0 % 16 = 15) a k
  | succ n ih =>
    rw [Pipeline.accAt_succ]
    refine Eq.trans ?_ (Fin.sum_univ_castSucc _).symm
    refine (sum_B m c ⟨0 + (n + 1), hn⟩ _ (by show ¬(0 + (n + 1)) % 16 = 0; omega) (by show ¬(0 + (n + 1)) % 16 = 15; omega) a k).trans ?_
    rw [ih (by omega) (by omega)]
    exact congrArg₂ (· + ·) rfl (congrArg (fun t => part (iblk m c 0 t) (iblk m c 1 t) (iblk m c 2 t) a k) (Fin.ext (Nat.zero_add _)))

/-- The loss after point `n`. -/
theorem loss_st (c : Dev nD) (u v : Fin 1) (n : ℕ) (hn : 0 + n < cfg0.N) :
    (Pipeline.accAt (fun n h => stAt0 (F := Ideal) m c n h junk0) (stAt0 m c) 0 n hn).2.2.2.1 (ix2 u v)
      = ∑ i : Fin (n + 1), lpart (iblk m c 0 ⟨i.val, by omega⟩) (iblk m c 1 ⟨i.val, by omega⟩) (iblk m c 2 ⟨i.val, by omega⟩) := by
  have hN := lt_of_lt_of_eq hn N_0
  induction n with
  | zero =>
    rw [Pipeline.accAt_zero, Fin.sum_univ_one]
    exact loss_A m c ⟨0, by omega⟩ junk0 (by decide : 0 % 16 = 0) (by decide : ¬0 % 16 = 15) u v
  | succ n ih =>
    rw [Pipeline.accAt_succ]
    refine Eq.trans ?_ (Fin.sum_univ_castSucc _).symm
    by_cases h1 : (0 + (n + 1)) % 16 = 15
    · refine (loss_C m c ⟨0 + (n + 1), hn⟩ _ (by show ¬(0 + (n + 1)) % 16 = 0; omega) h1 u v).trans ?_
      rw [ih (by omega) (by omega)]
      exact congrArg₂ (· + ·) rfl (congrArg (fun t => lpart (iblk m c 0 t) (iblk m c 1 t) (iblk m c 2 t)) (Fin.ext (Nat.zero_add _)))
    · refine (loss_B m c ⟨0 + (n + 1), hn⟩ _ (by show ¬(0 + (n + 1)) % 16 = 0; omega) h1 u v).trans ?_
      rw [ih (by omega) (by omega)]
      exact congrArg₂ (· + ·) rfl (congrArg (fun t => lpart (iblk m c 0 t) (iblk m c 1 t) (iblk m c 2 t)) (Fin.ext (Nat.zero_add _)))

/-- Row `p` of a point's block, as a row of the array. -/
def grow (n : ℕ) (hn : n < cfg0.N) (p : Fin 256) : Fin 4096 :=
  ⟨256 * n + p.val, by have h := lt_of_lt_of_eq hn N_0; have := p.isLt; omega⟩

/-- The rows. -/
abbrev a0 (c : Dev nD) : FVec Ideal S4096x2048 .f32 := m ((c : Thread nD τ).loc main_arg0)
/-- The scale. -/
abbrev a1 (c : Dev nD) : FVec Ideal S2048 .f32 := m ((c : Thread nD τ).loc main_arg1)
/-- The targets. -/
abbrev a2 (c : Dev nD) : FVec Ideal S4096x2048 .f32 := m ((c : Thread nD τ).loc main_arg2)

/-- A place of the block of the rows. -/
theorem b0 (c : Dev nD) (t : Fin cfg0.N) (p : Fin 256) (k : Fin 2048) : iblk m c 0 t (ix2 p k) = a0 m c (ix2 (grow t.val t.isLt p) k) := by
  obtain ⟨i0, -, -, -, -, -, -, hc⟩ := idx t
  unfold grow
  blk_point [iblk, V, i0, hc]

/-- A place of the block of the scale. -/
theorem b1 (c : Dev nD) (t : Fin cfg0.N) (k : Fin 2048) : iblk m c 1 t (ix2 0 k) = a1 m c (ix1 k) := by
  blk_point [iblk, V, idx t]

/-- A place of the block of the targets. -/
theorem b2 (c : Dev nD) (t : Fin cfg0.N) (p : Fin 256) (k : Fin 2048) : iblk m c 2 t (ix2 p k) = a2 m c (ix2 (grow t.val t.isLt p) k) := by
  obtain ⟨-, -, i2, -, -, -, -, hc⟩ := idx t
  unfold grow
  blk_point [iblk, V, i2, hc]

/-- What every point stores at a place of its block of the first result is the reference at the place of the array. -/
theorem point3 (c : Dev nD) (t : Fin cfg0.N) (y) : dxp (iblk m c 0 t) (iblk m c 1 t) (iblk m c 2 t) y
    = DX (a0 m c) (a1 m c) (a2 m c) (((cfg0.win 3).blk t).view.emb y) := by
  refine (dxp_at _ _ _ y).trans (Eq.trans ?_ (DX_at _ _ _ _).symm)
  blk_point [iblk, V, idx t]

/-- What every point stores at a place of its block of the second result is the reference at the place of the array. -/
theorem point4 (c : Dev nD) (t : Fin cfg0.N) (y) : dxbp (iblk m c 0 t) (iblk m c 1 t) (iblk m c 2 t) y
    = DXB (a0 m c) (a1 m c) (a2 m c) (((cfg0.win 4).blk t).view.emb y) := by
  refine (dxp_at _ _ _ y).trans (Eq.trans ?_ (DXB_at _ _ _ _).symm)
  blk_point [iblk, V, idx t]

/-- One row's term of the scale's gradient. -/
def term (c : Dev nD) (k : Fin 2048) (p : Fin 4096) : EReal :=
  (a0 m c (ix2 p k) * rms (fun x => a0 m c (ix2 p x))) * dy (fun x => a0 m c (ix2 p x)) (fun x => a1 m c (ix1 x)) (fun x => a2 m c (ix2 p x)) k

/-- One row's term of the loss. -/
def lterm (c : Dev nD) (p : Fin 4096) : EReal :=
  half * tok (fun x => a0 m c (ix2 p x)) (fun x => a1 m c (ix1 x)) (fun x => a2 m c (ix2 p x))

/-- One point's part of the scale's gradient, against the arrays. -/
theorem part_blk (c : Dev nD) (t : Fin cfg0.N) (a : Fin 8) (k : Fin 2048) :
    part (iblk m c 0 t) (iblk m c 1 t) (iblk m c 2 t) a k = ∑ q : Fin 32, term m c k (grow t.val t.isLt ⟨q.val * 8 + a.val, by omega⟩) := by
  unfold part term
  refine Finset.sum_congr rfl fun q _ => ?_
  simp only [b0, b1, b2]
  exact mul_comm _ _

/-- One point's part of the loss, against the arrays. -/
theorem lpart_blk (c : Dev nD) (t : Fin cfg0.N) : lpart (iblk m c 0 t) (iblk m c 1 t) (iblk m c 2 t) = ∑ p : Fin 256, lterm m c (grow t.val t.isLt p) := by
  unfold lpart lterm
  rw [half_sum]
  simp only [b0, b1, b2]

/-- A sum over eighths, points and groups of eight rows is the sum over all rows. -/
theorem sum_rows (F : Fin 4096 → EReal) (hN : ∀ i : Fin 16, i.val < cfg0.N) :
    ∑ a : Fin 8, ∑ i : Fin 16, ∑ q : Fin 32, F (grow i.val (hN i) ⟨q.val * 8 + a.val, by omega⟩) = ∑ p, F p := by
  rw [Finset.sum_comm, ← sum_blocks 16 256 rfl]
  refine Finset.sum_congr rfl fun i _ => ?_
  rw [Finset.sum_comm, ← sum_blocks 32 8 rfl]
  refine Finset.sum_congr rfl fun q _ => Finset.sum_congr rfl fun a _ => congrArg F (Fin.ext ?_)
  show 256 * i.val + (q.val * 8 + a.val) = 256 * i.val + (8 * q.val + a.val)
  omega

/-- The block of the rows' gradient after a point. -/
theorem row_outs (c : Dev nD) (n : ℕ) (hn : n < cfg0.N) :
    (outsAt0 (F := Ideal) m c n hn).1 = dxp (iblk m c 0 ⟨n, hn⟩) (iblk m c 1 ⟨n, hn⟩) (iblk m c 2 ⟨n, hn⟩) := by
  rw [outsAt0_sweep]
  cases n with
  | zero => exact row_st m c ⟨0, hn⟩ junk0
  | succ n =>
    rw [Pipeline.accAt_succ]
    simp only [Nat.zero_add]
    exact row_st m c ⟨n + 1, hn⟩ _

/-- The block of the rounded rows' gradient after a point. -/
theorem rowb_outs (c : Dev nD) (n : ℕ) (hn : n < cfg0.N) :
    (outsAt0 (F := Ideal) m c n hn).2.1 = dxbp (iblk m c 0 ⟨n, hn⟩) (iblk m c 1 ⟨n, hn⟩) (iblk m c 2 ⟨n, hn⟩) := by
  rw [outsAt0_sweep]
  cases n with
  | zero => exact rowb_st m c ⟨0, hn⟩ junk0
  | succ n =>
    rw [Pipeline.accAt_succ]
    simp only [Nat.zero_add]
    exact rowb_st m c ⟨n + 1, hn⟩ _

/-- The first result array after the run. -/
theorem out3 (c : Dev nD) : G3 (F := Ideal) m c = DX (a0 m c) (a1 m c) (a2 m c) := by
  rw [← final3]
  refine (dats m 0 c).arrAt_eq_of_covers 3 _ (by decide +kernel) fun t _ y => ?_
  blk_simp
  rw [after0_3, row_outs]
  exact point3 m c t y

/-- The second result array after the run. -/
theorem out4 (c : Dev nD) : G4 (F := Ideal) m c = DXB (a0 m c) (a1 m c) (a2 m c) := by
  rw [← final4]
  refine (dats m 0 c).arrAt_eq_of_covers 4 _ (by decide +kernel) fun t _ y => ?_
  blk_simp
  rw [after0_4, rowb_outs]
  exact point4 m c t y

/-- The third result array after the run. -/
theorem out5 (c : Dev nD) : G5 (F := Ideal) m c = DG (a0 m c) (a1 m c) (a2 m c) := by
  funext y
  obtain ⟨u, k, rfl⟩ : ∃ (u : Fin 1) (k : Fin 2048), y = ix2 u k := ⟨_, _, eq_ix2 y⟩
  rw [G5_last, Pipeline.accAt_succ]
  refine (sum_C m c ⟨15, lt_of_lt_of_eq (by decide) N_0.symm⟩ _ (by decide) (by decide) u k).trans (Eq.trans ?_ (DG_at _ _ _ (ix2 u k)).symm)
  refine Eq.trans ?_ (sum_rows (term m c k) fun i => lt_of_lt_of_eq i.isLt N_0.symm)
  refine Finset.sum_congr rfl fun a _ => ?_
  rw [sum_st m c a k 14 _ (by decide)]
  refine Eq.trans ?_ (Fin.sum_univ_castSucc _).symm
  simp only [part_blk]
  rfl

/-- The fourth result array after the run. -/
theorem out6 (c : Dev nD) : G6 (F := Ideal) m c = LOSS (a0 m c) (a1 m c) (a2 m c) := by
  funext y
  obtain ⟨u, v, rfl⟩ : ∃ (u v : Fin 1), y = ix2 u v := ⟨_, _, eq_ix2 y⟩
  rw [G6_last]
  refine (loss_st m c u v 15 _).trans (Eq.trans ?_ (LOSS_at _ _ _ (ix2 u v)).symm)
  simp only [lpart_blk]
  exact sum_blocks 16 256 rfl (lterm m c)

end Cert.Kernel16Ideal.Loss

end
-- ==== Proof.SguFwd.lean ====
/- The forward pass of the gating: the kernel's blocks, and its result against the reference. -/
module

public import proofs.«01_k».proof.Proof.Gen.Kernel17Ideal.Value
public import proofs.«01_k».proof.Proof.Gen.Reference17Ideal.Run
public import Idealize.ShloMosaic.Lib.Pointwise
public import Idealize.ShloMosaic.Lib.Pipeline.ValueKit
public import Idealize.ShloMosaic.Lib.Pipeline.ReadBack
public import proofs.«01_k».proof.Proof.SguBlk
public import proofs.«01_k».proof.Proof.SguArr
public import proofs.«01_k».proof.Proof.SguRef

@[expose] public section

set_option maxRecDepth 16384

noncomputable section

open Idealize.ShloMosaic Idealize.ShloMosaic.TcCoe Idealize.SL.Sem
open Idealize.ShloMosaic.Pipeline (Dat)

namespace Cert.Reference17Ideal.SguFwd

open Cert.Reference17Ideal Cert.Reference17Ideal.Gen Cert.Sgu

variable (A0 : FVec Ideal S4096x3584 .f32) (A1 A2 : FVec Ideal S512 .f32) (A3 : FVec Ideal S8x128x128 .f32) (A4 : FVec Ideal S8x128 .f32)

/-- The reference's result, as a function of the arguments. -/
abbrev OUT : FVec Ideal S4096x512 .bf16 :=
  truncf .bf16 (shapeCast _ (mulf (extractStridedSlice S1x4096x512 ![0, 0, 0] (broadcastInDim S1x4096x1024 ![1, 2] bcast_S4096x1024_S1x4096x1024_1_2 (extractStridedSlice S4096x1024 ![0, 2560] A0 slices_S4096x3584_S4096x1024_0_2560)) slices_S1x4096x1024_S1x4096x512_0_0_0) (shapeCast _ (addf (transpose S1x32x128x8x64 [1, 2, 4, 0, 3] (Host.dotGeneral dot_S1x32x128x8x64_S8x128x128_S8x1x32x64x128_2_2_014_1_3_0 none (shapeCast _ (addf (mulf (mulf (subf (extractStridedSlice S1x4096x512 ![0, 0, 512] (broadcastInDim S1x4096x1024 ![1, 2] bcast_S4096x1024_S1x4096x1024_1_2 (extractStridedSlice S4096x1024 ![0, 2560] A0 slices_S4096x3584_S4096x1024_0_2560)) slices_S1x4096x1024_S1x4096x512_0_0_512) (broadcastInDim S1x4096x512 ![0, 1, 2] bcast_S1x4096x1_S1x4096x512_0_1_2 (Host.divf (broadcastInDim S1x4096x1 ![0, 1] bcast_S1x4096_S1x4096x1_0_1 (Host.reduceAdd (extractStridedSlice S1x4096x512 ![0, 0, 512] (broadcastInDim S1x4096x1024 ![1, 2] bcast_S4096x1024_S1x4096x1024_1_2 (extractStridedSlice S4096x1024 ![0, 2560] A0 slices_S4096x3584_S4096x1024_0_2560)) slices_S1x4096x1024_S1x4096x512_0_0_512) (constant S_ .f32 0x00000000#32) reducesTo_S1x4096x512_S1x4096_d2 h_S_)) (broadcastInDim S1x4096x1 ![] bcast_S_S1x4096x1 (constant S_ .f32 0x44000000#32))))) (broadcastInDim S1x4096x512 ![0, 1, 2] bcast_S1x4096x1_S1x4096x512_0_1_2 (Host.rsqrt (addf (Host.divf (broadcastInDim S1x4096x1 ![0, 1] bcast_S1x4096_S1x4096x1_0_1 (Host.reduceAdd (mulf (subf (extractStridedSlice S1x4096x512 ![0, 0, 512] (broadcastInDim S1x4096x1024 ![1, 2] bcast_S4096x1024_S1x4096x1024_1_2 (extractStridedSlice S4096x1024 ![0, 2560] A0 slices_S4096x3584_S4096x1024_0_2560)) slices_S1x4096x1024_S1x4096x512_0_0_512) (broadcastInDim S1x4096x512 ![0, 1, 2] bcast_S1x4096x1_S1x4096x512_0_1_2 (Host.divf (broadcastInDim S1x4096x1 ![0, 1] bcast_S1x4096_S1x4096x1_0_1 (Host.reduceAdd (extractStridedSlice S1x4096x512 ![0, 0, 512] (broadcastInDim S1x4096x1024 ![1, 2] bcast_S4096x1024_S1x4096x1024_1_2 (extractStridedSlice S4096x1024 ![0, 2560] A0 slices_S4096x3584_S4096x1024_0_2560)) slices_S1x4096x1024_S1x4096x512_0_0_512) (constant S_ .f32 0x00000000#32) reducesTo_S1x4096x512_S1x4096_d2 h_S_)) (broadcastInDim S1x4096x1 ![] bcast_S_S1x4096x1 (constant S_ .f32 0x44000000#32))))) (subf (extractStridedSlice S1x4096x512 ![0, 0, 512] (broadcastInDim S1x4096x1024 ![1, 2] bcast_S4096x1024_S1x4096x1024_1_2 (extractStridedSlice S4096x1024 ![0, 2560] A0 slices_S4096x3584_S4096x1024_0_2560)) slices_S1x4096x1024_S1x4096x512_0_0_512) (broadcastInDim S1x4096x512 ![0, 1, 2] bcast_S1x4096x1_S1x4096x512_0_1_2 (Host.divf (broadcastInDim S1x4096x1 ![0, 1] bcast_S1x4096_S1x4096x1_0_1 (Host.reduceAdd (extractStridedSlice S1x4096x512 ![0, 0, 512] (broadcastInDim S1x4096x1024 ![1, 2] bcast_S4096x1024_S1x4096x1024_1_2 (extractStridedSlice S4096x1024 ![0, 2560] A0 slices_S4096x3584_S4096x1024_0_2560)) slices_S1x4096x1024_S1x4096x512_0_0_512) (constant S_ .f32 0x00000000#32) reducesTo_S1x4096x512_S1x4096_d2 h_S_)) (broadcastInDim S1x4096x1 ![] bcast_S_S1x4096x1 (constant S_ .f32 0x44000000#32)))))) (constant S_ .f32 0x00000000#32) reducesTo_S1x4096x512_S1x4096_d2 h_S_)) (broadcastInDim S1x4096x1 ![] bcast_S_S1x4096x1 (constant S_ .f32 0x44000000#32))) (broadcastInDim S1x4096x1 ![] bcast_S_S1x4096x1 (constant S_ .f32 0x3727C5AC#32)))))) (broadcastInDim S1x4096x512 ![0, 1, 2] bcast_S1x1x512_S1x4096x512_0_1_2 (broadcastInDim S1x1x512 ![2] bcast_S512_S1x1x512_2 A1))) (broadcastInDim S1x4096x512 ![0, 1, 2] bcast_S1x1x512_S1x4096x512_0_1_2 (broadcastInDim S1x1x512 ![2] bcast_S512_S1x1x512_2 A2))) shapeCasts_S1x4096x512_S1x32x128x8x64) (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) A3 (broadcastInDim S8x128x128 ![] bcast_S_S8x128x128 (constant S_ .f32 0x00000000#32)))) transposes_S8x1x32x64x128_S1x32x128x8x64_1_2_4_0_3) (broadcastInDim S1x32x128x8x64 ![0, 1, 2, 3, 4] bcast_S1x1x128x8x1_S1x32x128x8x64_0_1_2_3_4 (broadcastInDim S1x1x128x8x1 ![2, 3] bcast_S128x8_S1x1x128x8x1_2_3 (transpose S128x8 [1, 0] A4 transposes_S8x128_S128x8_1_0)))) shapeCasts_S1x32x128x8x64_S1x4096x512)) shapeCasts_S1x4096x512_S4096x512) bitsLt_bf16_f32

/-- The result is the gating product of the backward pass's recomputation, as a matrix. -/
theorem out_eq : OUT A0 A1 A2 A3 A4
    = truncf .bf16 (shapeCast S4096x512 (Cert.ReferenceIdeal.Read.val_main_v42 (F := Ideal) A0 A1 A2 A3 A4) shapeCasts_S1x4096x512_S4096x512) bitsLt_bf16_f32 := rfl

/-- The result at a row and a channel. -/
theorem out_at (R : Fin 4096) (k : Fin 512) : OUT A0 A1 A2 A3 A4 (ix2 R k)
    = Cert.ReferenceIdeal.SguRef.urow A0 R k
      * mix (Cert.ReferenceIdeal.SguRef.wmat A3) (Cert.ReferenceIdeal.SguRef.bmat A4)
          (Cert.ReferenceIdeal.SguRef.vch A0 A1 A2 (Cert.ReferenceIdeal.SguRef.ch R)) (Cert.ReferenceIdeal.SguRef.off R) k := by
  rw [out_eq]
  have h : (truncf .bf16 (shapeCast S4096x512 (Cert.ReferenceIdeal.Read.val_main_v42 (F := Ideal) A0 A1 A2 A3 A4) shapeCasts_S1x4096x512_S4096x512) bitsLt_bf16_f32 : FVec Ideal S4096x512 .bf16) (ix2 R k)
      = Cert.ReferenceIdeal.Read.val_main_v42 (F := Ideal) A0 A1 A2 A3 A4 (ix3 0 R k) := by
    generalize Cert.ReferenceIdeal.Read.val_main_v42 (F := Ideal) A0 A1 A2 A3 A4 = X
    pointwise
  refine h.trans ?_
  rw [← Cert.ReferenceIdeal.SguRef.v41_at]
  have h2 : Cert.ReferenceIdeal.Read.val_main_v2 (F := Ideal) A0 (ix3 0 R k) = Cert.ReferenceIdeal.SguRef.urow A0 R k := by
    pointwise [Cert.ReferenceIdeal.Read.val_main_v2, Cert.ReferenceIdeal.Read.val_main_v1, Cert.ReferenceIdeal.Read.val_main_v0, Cert.ReferenceIdeal.SguRef.urow]
  rw [← h2]
  rfl

end Cert.Reference17Ideal.SguFwd

namespace Cert.Kernel17Ideal.SguFwd

open Cert.Kernel17Ideal Cert.Kernel17Ideal.Gen Cert.Sgu Cert.KernelIdeal.SguCore
open Cert.ReferenceIdeal.SguRef (urow vrow vec wmat bmat vch ch off rw_)

variable (m : (ℓ : Loc nD τ sig) → Buf (Elt Ideal) ℓ)

/-- Every window's index map at a point. -/
theorem idx : ∀ t : Fin cfg0.N,
    win0_0.index t = ![t.val, 5] ∧ win0_1.index t = ![t.val, 6] ∧ win0_2.index t = ![0, 0]
      ∧ win0_3.index t = ![0, 0] ∧ win0_4.index t = ![0, 0, 0] ∧ win0_5.index t = ![0, 0]
      ∧ win0_6.index t = ![t.val, 0] :=
  (by decide +kernel : ∀ t : Fin grid0.N, _)

/-- The input projection, as the run finds it. -/
abbrev a0 (c : Dev nD) : FVec Ideal S4096x3584 .f32 := m ((c : Thread nD τ).loc main_arg0)
/-- The normalisation's scale. -/
abbrev a1 (c : Dev nD) : FVec Ideal S512 .f32 := m ((c : Thread nD τ).loc main_arg1)
/-- The normalisation's shift. -/
abbrev a2 (c : Dev nD) : FVec Ideal S512 .f32 := m ((c : Thread nD τ).loc main_arg2)
/-- The mixing matrices. -/
abbrev a3 (c : Dev nD) : FVec Ideal S8x128x128 .f32 := m ((c : Thread nD τ).loc main_arg3)
/-- The mixing biases. -/
abbrev a4 (c : Dev nD) : FVec Ideal S8x128 .f32 := m ((c : Thread nD τ).loc main_arg4)

/-- Row `r` of block `t` in the arrays. -/
def grow (t : Fin cfg0.N) (r : Fin 256) : Fin 4096 :=
  ⟨256 * t.val + r.val, by have := lt_of_lt_of_eq t.isLt N_0; omega⟩

/-- A row's mate in its chunk, as a row of the arrays. -/
theorem grow_mate (t : Fin cfg0.N) (r : Fin 256) (s : Fin 128) : grow t (mate r s) = rw_ (ch (grow t r)) s := by
  apply Fin.ext
  simp only [grow, mate, rw_, ch]
  omega

/-- A row's place in its chunk. -/
theorem inch_off (t : Fin cfg0.N) (r : Fin 256) : inch r = off (grow t r) := by
  apply Fin.ext
  simp only [grow, inch, off]
  omega

/-- The gating half's block. -/
theorem b0 (c : Dev nD) (t : Fin cfg0.N) (r : Fin 256) (k : Fin 512) :
    iblk m c 0 t (ix2 r k) = urow (a0 m c) (grow t r) k := by
  unfold urow grow a0
  blk_ext [iblk, V, idx t]

/-- The normalised half's block. -/
theorem b1 (c : Dev nD) (t : Fin cfg0.N) (r : Fin 256) (k : Fin 512) :
    iblk m c 1 t (ix2 r k) = vrow (a0 m c) (grow t r) k := by
  unfold vrow grow a0
  blk_ext [iblk, V, idx t]

/-- The scale's block. -/
theorem b2 (c : Dev nD) (t : Fin cfg0.N) (z : Fin 1) (k : Fin 512) :
    iblk m c 2 t (ix2 z k) = vec (a1 m c) k := by
  unfold vec a1
  blk_point [iblk, V, idx t]

/-- The shift's block. -/
theorem b3 (c : Dev nD) (t : Fin cfg0.N) (z : Fin 1) (k : Fin 512) :
    iblk m c 3 t (ix2 z k) = vec (a2 m c) k := by
  unfold vec a2
  blk_point [iblk, V, idx t]

/-- The mixing matrices' block. -/
theorem b4 (c : Dev nD) (t : Fin cfg0.N) (h : Fin 8) (a b : Fin 128) :
    iblk m c 4 t (ix3 h a b) = wmat (a3 m c) h a b := by
  unfold wmat a3
  blk_ext [iblk, V, idx t]

/-- The repeated biases' block. -/
theorem b5 (c : Dev nD) (t : Fin cfg0.N) (a : Fin 128) (k : Fin 512) :
    iblk m c 5 t (ix2 a k) = bmat (a4 m c) (hd k) a := by
  unfold bmat a4 hd
  blk_point [iblk, V, idx t]

/-- The scaled and shifted normalised rows of a block. -/
theorem pay1 (X : Vec Ideal S256x512 .f32) (G B : Vec Ideal S1x512 .f32) (r : Fin 256) (k : Fin 512) :
    k0_pay1 X G B (ix2 r k) = vn (fun l => G (ix2 0 l)) (fun l => B (ix2 0 l)) (brow X r) k := by
  pointwise [k0_pay1, vn, yh, brow, rstd, cen, mean]
  rfl

/-- The block's normalised rows, against the arrays. -/
theorem pay1_blk (c : Dev nD) (t : Fin cfg0.N) (r : Fin 256) (k : Fin 512) :
    k0_pay1 (iblk m c 1 t) (iblk m c 2 t) (iblk m c 3 t) (ix2 r k)
      = vn (vec (a1 m c)) (vec (a2 m c)) (vrow (a0 m c) (grow t r)) k := by
  rw [pay1, show brow (iblk m c 1 t) r = vrow (a0 m c) (grow t r) from funext fun l => b1 m c t r l,
    show (fun l => iblk m c 2 t (ix2 0 l)) = vec (a1 m c) from funext fun l => b2 m c t 0 l,
    show (fun l => iblk m c 3 t (ix2 0 l)) = vec (a2 m c) from funext fun l => b3 m c t 0 l]

/-- The mixed values of a block, against the arrays. -/
theorem mixB_blk (c : Dev nD) (t : Fin cfg0.N) (r : Fin 256) (k : Fin 512) :
    mixB (iblk m c 4 t) (iblk m c 5 t) (k0_pay1 (iblk m c 1 t) (iblk m c 2 t) (iblk m c 3 t)) r k
      = mix (wmat (a3 m c)) (bmat (a4 m c)) (vch (a0 m c) (a1 m c) (a2 m c) (ch (grow t r))) (off (grow t r)) k := by
  unfold mixB mix
  rw [b5, inch_off t r]
  refine congrArg (· + _) (Finset.sum_congr rfl fun s _ => ?_)
  rw [b4, pay1_blk, grow_mate]
  rfl

/-- What the body leaves in the output block: the gating half times the mixed values. -/
theorem body (x0 x1 : FVec Ideal S256x512 .f32) (x2 x3 : FVec Ideal S1x512 .f32) (x4 : FVec Ideal S8x128x128 .f32) (x5 : FVec Ideal S128x512 .f32)
    (r : Fin 256) (k : Fin 512) :
    out0_6 (F := Ideal) x0 x1 x2 x3 x4 x5 (ix2 r k) = x0 (ix2 r k) * mixB x4 x5 (k0_pay1 x1 x2 x3) r k := by
  unfold_out out0_6
  frame_out
  canon_tiles x h'
  case piece0 =>
    have e0 := h'0
    have e1 := h'1
    obtain rfl : r = hi (x 0) := Fin.ext (by first | exact h'0 | (dsimp only [lo, hi]; omega))
    have hk : k.val = 384 + (x 1).val := by first | exact h'1 | omega
    rw [show k = ⟨384 + (x 1).val, by omega⟩ from Fin.ext hk]
    generalize k0_pay1 (F := Ideal) _ _ _ = W
    open_payloads
    pointwise
    exact close_mix _ x4 x5 W hi (hi (x 0)) (x 0) (x 1) ⟨384 + (x 1).val, by omega⟩ 3 6 7 (by simp) rfl rfl (fun s => by show _ = _; dsimp only [lo, hi]; omega) (by dsimp only [lo, hi]; omega)
  case piece1 =>
    have e0 := h'0
    have e1 := h'1
    obtain rfl : r = lo (x 0) := Fin.ext (by first | exact h'0 | (dsimp only [lo, hi]; omega))
    have hk : k.val = 384 + (x 1).val := by first | exact h'1 | omega
    rw [show k = ⟨384 + (x 1).val, by omega⟩ from Fin.ext hk]
    generalize k0_pay1 (F := Ideal) _ _ _ = W
    open_payloads
    pointwise
    exact close_mix _ x4 x5 W lo (lo (x 0)) (x 0) (x 1) ⟨384 + (x 1).val, by omega⟩ 3 6 7 (by simp) rfl rfl (fun s => by show _ = _; dsimp only [lo, hi]; omega) (by dsimp only [lo, hi]; omega)
  case piece2 =>
    have e0 := h'0
    have e1 := h'1
    obtain rfl : r = hi (x 0) := Fin.ext (by first | exact h'0 | (dsimp only [lo, hi]; omega))
    have hk : k.val = 256 + (x 1).val := by first | exact h'1 | omega
    rw [show k = ⟨256 + (x 1).val, by omega⟩ from Fin.ext hk]
    generalize k0_pay1 (F := Ideal) _ _ _ = W
    open_payloads
    pointwise
    exact close_mix _ x4 x5 W hi (hi (x 0)) (x 0) (x 1) ⟨256 + (x 1).val, by omega⟩ 2 4 5 (by simp) rfl rfl (fun s => by show _ = _; dsimp only [lo, hi]; omega) (by dsimp only [lo, hi]; omega)
  case piece3 =>
    have e0 := h'0
    have e1 := h'1
    obtain rfl : r = lo (x 0) := Fin.ext (by first | exact h'0 | (dsimp only [lo, hi]; omega))
    have hk : k.val = 256 + (x 1).val := by first | exact h'1 | omega
    rw [show k = ⟨256 + (x 1).val, by omega⟩ from Fin.ext hk]
    generalize k0_pay1 (F := Ideal) _ _ _ = W
    open_payloads
    pointwise
    exact close_mix _ x4 x5 W lo (lo (x 0)) (x 0) (x 1) ⟨256 + (x 1).val, by omega⟩ 2 4 5 (by simp) rfl rfl (fun s => by show _ = _; dsimp only [lo, hi]; omega) (by dsimp only [lo, hi]; omega)
  case piece4 =>
    have e0 := h'0
    have e1 := h'1
    obtain rfl : r = hi (x 0) := Fin.ext (by first | exact h'0 | (dsimp only [lo, hi]; omega))
    have hk : k.val = 128 + (x 1).val := by first | exact h'1 | omega
    rw [show k = ⟨128 + (x 1).val, by omega⟩ from Fin.ext hk]
    generalize k0_pay1 (F := Ideal) _ _ _ = W
    open_payloads
    pointwise
    exact close_mix _ x4 x5 W hi (hi (x 0)) (x 0) (x 1) ⟨128 + (x 1).val, by omega⟩ 1 2 3 (by simp) rfl rfl (fun s => by show _ = _; dsimp only [lo, hi]; omega) (by dsimp only [lo, hi]; omega)
  case piece5 =>
    have e0 := h'0
    have e1 := h'1
    obtain rfl : r = lo (x 0) := Fin.ext (by first | exact h'0 | (dsimp only [lo, hi]; omega))
    have hk : k.val = 128 + (x 1).val := by first | exact h'1 | omega
    rw [show k = ⟨128 + (x 1).val, by omega⟩ from Fin.ext hk]
    generalize k0_pay1 (F := Ideal) _ _ _ = W
    open_payloads
    pointwise
    exact close_mix _ x4 x5 W lo (lo (x 0)) (x 0) (x 1) ⟨128 + (x 1).val, by omega⟩ 1 2 3 (by simp) rfl rfl (fun s => by show _ = _; dsimp only [lo, hi]; omega) (by dsimp only [lo, hi]; omega)
  case piece6 =>
    have e0 := h'0
    have e1 := h'1
    obtain rfl : r = hi (x 0) := Fin.ext (by first | exact h'0 | (dsimp only [lo, hi]; omega))
    have hk : k.val = (x 1).val := by first | exact h'1 | omega
    rw [show k = ⟨(x 1).val, by omega⟩ from Fin.ext hk]
    generalize k0_pay1 (F := Ideal) _ _ _ = W
    open_payloads
    pointwise
    exact close_mix _ x4 x5 W hi (hi (x 0)) (x 0) (x 1) ⟨(x 1).val, by omega⟩ 0 0 1 (by simp) rfl rfl (fun s => by show _ = _; dsimp only [lo, hi]; omega) (by dsimp only [lo, hi]; omega)
  case piece7 =>
    have e0 := h'0
    have e1 := h'1
    obtain rfl : r = lo (x 0) := Fin.ext (by first | exact h'0 | (dsimp only [lo, hi]; omega))
    have hk : k.val = (x 1).val := by first | exact h'1 | omega
    rw [show k = ⟨(x 1).val, by omega⟩ from Fin.ext hk]
    generalize k0_pay1 (F := Ideal) _ _ _ = W
    open_payloads
    pointwise
    exact close_mix _ x4 x5 W lo (lo (x 0)) (x 0) (x 1) ⟨(x 1).val, by omega⟩ 0 0 1 (by simp) rfl rfl (fun s => by show _ = _; dsimp only [lo, hi]; omega) (by dsimp only [lo, hi]; omega)

/-- The kernel's result is the reference's. -/
theorem final (c : Dev nD) : (dats m 0 c).arrAt 6 cfg0.N
    = Cert.Reference17Ideal.SguFwd.OUT (a0 m c) (a1 m c) (a2 m c) (a3 m c) (a4 m c) :=
  (dats m 0 c).arrAt_eq_of_covers 6 _ (by decide +kernel) fun t _ y => by
    obtain ⟨r, k, rfl⟩ : ∃ (r : Fin 256) (k : Fin 512), y = ix2 r k := ⟨_, _, eq_ix2 y⟩
    blk_simp
    rw [after0_6]
    refine Eq.trans (body _ _ _ _ _ _ r k) ?_
    rw [b0, mixB_blk, ← Cert.Reference17Ideal.SguFwd.out_at]
    generalize Cert.Reference17Ideal.SguFwd.OUT (a0 m c) (a1 m c) (a2 m c) (a3 m c) (a4 m c) = Y
    unfold grow
    blk_point [idx t]

end Cert.Kernel17Ideal.SguFwd

end
-- ==== Proof.ConvMath.lean ====
/- The convolution's mathematics: gates and sums of shifted products. -/
module

public import proofs.«01_k».proof.Proof.SguMath
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Conv

/-- A value times the logistic function of another. -/
def gate (x z : EReal) : EReal := x * Ideal.div 1 (1 + Ideal.exp (-z))

/-- A sum of 31 terms, written out. -/
theorem sum31 (f : Fin 31 → EReal) : ∑ j, f j = 0 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Finset.univ_eq_empty, Finset.sum_empty]
  rfl

/-- The 31 terms added one by one to a first value. -/
theorem fold31 (b : EReal) (f : Fin 31 → EReal) : b + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = (∑ j, f j) + b := by
  rw [sum31]
  refine Eq.trans ?_ (add_comm b _)
  simp only [zero_add, add_assoc]

end Cert.Conv

end
-- ==== Proof.ConvKer.lean ====
/- The convolution's kernel: what a grid point leaves in the two output blocks. -/
module

public import proofs.«01_k».proof.Proof.Gen.Kernel18Ideal.Value
public import Idealize.ShloMosaic.Lib.Pointwise
public import Idealize.ShloMosaic.Lib.Pipeline.ValueKit
public import Idealize.ShloMosaic.Lib.Pipeline.ReadBack
public import proofs.«01_k».proof.Proof.ConvMath

@[expose] public section

set_option maxRecDepth 16384

noncomputable section

open Idealize.ShloMosaic Idealize.ShloMosaic.TcCoe Idealize.SL.Sem
open Idealize.ShloMosaic.Pipeline (Dat)

namespace Cert.Kernel18Ideal.ConvFwd

open Cert.Kernel18Ideal Cert.Kernel18Ideal.Gen Cert.Sgu Cert.Conv

variable (m : (ℓ : Loc nD τ sig) → Buf (Elt Ideal) ℓ)

/-- A load after stores reads what they leave. -/
theorem load_canon (v : View sig .tc .vmem S288x512 .f32) (L : List (View.Piece (Elt Ideal) S288x512 .f32)) (r : Rect S288x512) :
    v.readCov L r.toLoadRect = View.ld (View.canon L) r := View.readCov_eq_canon' v L _

/-- The gated rows that a point convolves: 32 rows before its block, and its block. -/
def rows (i : grid0.Coords) (x0 x1 : FVec Ideal S256x512 .f32) (x2 x3 : FVec Ideal S32x512 .f32) (p : Fin 288) (k : Fin 512) : Elt Ideal .f32 :=
  if h : p.val < 32 then k0_pay1 (F := Ideal) i x2 x3 (ix2 ⟨p.val, h⟩ k) else k0_pay2 (F := Ideal) x0 x1 (ix2 ⟨p.val - 32, by omega⟩ k)

/-- The scratch rows after both stores. -/
abbrev scratch (i : grid0.Coords) (x0 x1 : FVec Ideal S256x512 .f32) (x2 x3 : FVec Ideal S32x512 .f32) : FVec Ideal S288x512 .f32 :=
  View.canon (Val := Elt Ideal) [(⟨Rect.unit ![32, 0] ![256, 512] inb_S288x512_S256x512_32_0, k0_pay2 (F := Ideal) x0 x1⟩ : View.Piece (Elt Ideal) S288x512 .f32),
      ⟨Rect.unit ![0, 0] ![32, 512] inb_S288x512_S32x512_0_0, k0_pay1 (F := Ideal) i x2 x3⟩]

/-- The scratch rows by row number. -/
theorem scratch_at (i : grid0.Coords) (x0 x1 : FVec Ideal S256x512 .f32) (x2 x3 : FVec Ideal S32x512 .f32) (p : Fin 288) (k : Fin 512) :
    scratch i x0 x1 x2 x3 (ix2 p k) = rows i x0 x1 x2 x3 p k := by
  canon_tiles x h' using (View.cover_of_tiledBy _ ![32, 512] (by sl_kernel_rfl) _)
  case piece0 =>
    have e0 := h'0
    have e1 := h'1
    obtain ⟨a1, a2, rfl⟩ : ∃ (a1 : Fin 256) (a2 : Fin 512), x = ix2 a1 a2 := ⟨x 0, x 1, eq_ix2 x⟩
    have hp : p.val = 32 + a1.val := by first | exact h'0 | (change 32 + 1 * a1.val = p.val at e0; omega) | (change p.val = 32 + 1 * a1.val at e0; omega)
    obtain rfl : k = a2 := Fin.ext (by first | exact h'1 | (change 0 + 1 * a2.val = k.val at e1; omega) | (change k.val = 0 + 1 * a2.val at e1; omega))
    rw [rows, dif_neg (show ¬p.val < 32 by omega)]
    rw [show (⟨p.val - 32, by omega⟩ : Fin 256) = a1 from Fin.ext (by show p.val - 32 = a1.val; omega)]
  case piece1 =>
    have e0 := h'0
    have e1 := h'1
    obtain ⟨a1, a2, rfl⟩ : ∃ (a1 : Fin 32) (a2 : Fin 512), x = ix2 a1 a2 := ⟨x 0, x 1, eq_ix2 x⟩
    have hp : p.val = a1.val := by first | exact h'0 | (change 0 + 1 * a1.val = p.val at e0; omega) | (change p.val = 0 + 1 * a1.val at e0; omega)
    obtain rfl : k = a2 := Fin.ext (by first | exact h'1 | (change 0 + 1 * a2.val = k.val at e1; omega) | (change k.val = 0 + 1 * a2.val at e1; omega))
    rw [rows, dif_pos (show p.val < 32 by omega)]
    rw [show (⟨p.val, by omega⟩ : Fin 32) = a1 from Fin.ext hp]

/-- The convolved row values from the scratch rows, the taps and the bias. -/
def conv (H : FVec Ideal S288x512 .f32) (w : FVec Ideal S32x512 .f32) (b : FVec Ideal S1x512 .f32) (r : Fin 256) (k : Fin 512) : EReal :=
  (∑ j : Fin 31, H (ix2 ⟨2 + j.val + r.val, by omega⟩ k) * w (ix2 ⟨j.val, by omega⟩ k)) + b (ix2 0 k)

set_option maxHeartbeats 2000000 in
/-- The second output block: the convolved rows. -/
theorem y_at (c : Dev nD) (t : Fin cfg0.N) (r : Fin 256) (k : Fin 512) :
    (outsAt0 (F := Ideal) m c t).2 (ix2 r k)
      = conv (scratch (grid0.coords t) (iblk m c 0 t) (iblk m c 1 t) (iblk m c 2 t) (iblk m c 3 t)) (iblk m c 4 t) (iblk m c 5 t) r k := by
  unfold outsAt0
  frame_open
  dsimp only
  simp only [load_canon]
  frame_out
  generalize View.canon (Val := Elt Ideal) _ = H
  generalize (iblk m c 4 t : FVec Ideal S32x512 .f32) = w
  generalize (iblk m c 5 t : FVec Ideal S1x512 .f32) = b
  open_payloads
  pointwise
  unfold conv
  exact fold31 (b (ix2 0 k)) (fun j : Fin 31 => H (ix2 ⟨2 + j.val + r.val, by omega⟩ k) * w (ix2 ⟨j.val, by omega⟩ k))

/-- The last stage over convolved rows: layer normalisation, then the logistic gate. -/
theorem pay10 (v s : FVec Ideal S256x512 .f32) (w g b : FVec Ideal S1x512 .f32) (r : Fin 256) (k : Fin 512) :
    k0_pay10 (F := Ideal) v s w g b (ix2 r k)
      = gate (vn (fun l => g (ix2 0 l)) (fun l => b (ix2 0 l)) (fun l => k0_pay9 (F := Ideal) v s w (ix2 r l)) k)
          (vn (fun l => g (ix2 0 l)) (fun l => b (ix2 0 l)) (fun l => k0_pay9 (F := Ideal) v s w (ix2 r l)) k) := by
  unfold k0_pay10
  dsimp only
  generalize k0_pay9 (F := Ideal) v s w = Y
  pointwise [gate, vn, yh, rstd, cen, mean]
  simp only [zero_sub]
  rfl

/-- The first output block, from the second. -/
theorem z_at (c : Dev nD) (t : Fin cfg0.N) (r : Fin 256) (k : Fin 512) :
    (outsAt0 (F := Ideal) m c t).1 (ix2 r k)
      = gate (vn (fun l => iblk m c 6 t (ix2 0 l)) (fun l => iblk m c 7 t (ix2 0 l)) (fun l => (outsAt0 (F := Ideal) m c t).2 (ix2 r l)) k)
          (vn (fun l => iblk m c 6 t (ix2 0 l)) (fun l => iblk m c 7 t (ix2 0 l)) (fun l => (outsAt0 (F := Ideal) m c t).2 (ix2 r l)) k) := by
  unfold outsAt0
  frame_open
  dsimp only
  simp only [load_canon]
  frame_out
  exact pay10 _ _ _ _ _ r k

end Cert.Kernel18Ideal.ConvFwd

end
-- ==== Proof.ConvRef.lean ====
/- The convolution's reference, at a row and a channel. -/
module

public import proofs.«01_k».proof.Proof.Gen.Reference18Ideal.Run
public import proofs.«01_k».proof.Proof.ConvMath

@[expose] public section

set_option maxRecDepth 16384

noncomputable section

open Idealize.ShloMosaic Idealize.ShloMosaic.TcCoe Idealize.SL.Sem
open Idealize.ShloMosaic.Pipeline (Dat)

namespace Cert.Reference18Ideal.ConvFwd

open Cert.Reference18Ideal Cert.Reference18Ideal.Gen Cert.Sgu Cert.Conv

/-- The reference's two halves of the input projection. -/
def v1 (A0 : FVec Ideal S4096x3584 .f32) : FVec Ideal S1x4096x1024 .f32 :=
  broadcastInDim S1x4096x1024 ![1, 2] bcast_S4096x1024_S1x4096x1024_1_2 (extractStridedSlice S4096x1024 ![0, 1536] A0 slices_S4096x3584_S4096x1024_0_1536)

/-- The gated rows, thirty zero rows in front. -/
def v11 (A0 : FVec Ideal S4096x3584 .f32) : FVec Ideal S1x4126x512 .f32 :=
  pad S1x4126x512 ![0, 30, 0] ![0, 0, 0] ![0, 0, 0] (mulf (extractStridedSlice S1x4096x512 ![0, 0, 0] (v1 A0) slices_S1x4096x1024_S1x4096x512_0_0_0) (Host.divf (broadcastInDim S1x4096x512 ![] bcast_S_S1x4096x512 (constant S_ .f32 0x3F800000#32)) (addf (broadcastInDim S1x4096x512 ![] bcast_S_S1x4096x512 (constant S_ .f32 0x3F800000#32)) (Host.exp (Host.negf (extractStridedSlice S1x4096x512 ![0, 0, 512] (v1 A0) slices_S1x4096x1024_S1x4096x512_0_0_512)))))) (sitofp .f32 (constantI S_ 32 0#32)) pads_S1x4096x512_S1x4126x512_000_3000_000 h_S_

/-- The first eleven taps, added. -/
def v89 (A0 : FVec Ideal S4096x3584 .f32) (A1 : FVec Ideal S31x512 .f32) : FVec Ideal S1x4096x512 .f32 :=
  addf (addf (addf (addf (addf (addf (addf (addf (addf (addf (addf (broadcastInDim S1x4096x512 ![] bcast_S_S1x4096x512 (constant S_ .f32 0x00000000#32)) (mulf (extractStridedSlice S1x4096x512 ![0, 0, 0] (v11 A0) slices_S1x4126x512_S1x4096x512_0_0_0) (broadcastInDim S1x4096x512 ![0, 1, 2] bcast_S1x1x512_S1x4096x512_0_1_2 (broadcastInDim S1x1x512 ![2] bcast_S512_S1x1x512_2 (shapeCast _ (extractStridedSlice S1x512 ![0, 0] A1 slices_S31x512_S1x512_0_0) shapeCasts_S1x512_S512))))) (mulf (extractStridedSlice S1x4096x512 ![0, 1, 0] (v11 A0) slices_S1x4126x512_S1x4096x512_0_1_0) (broadcastInDim S1x4096x512 ![0, 1, 2] bcast_S1x1x512_S1x4096x512_0_1_2 (broadcastInDim S1x1x512 ![2] bcast_S512_S1x1x512_2 (shapeCast _ (extractStridedSlice S1x512 ![1, 0] A1 slices_S31x512_S1x512_1_0) shapeCasts_S1x512_S512))))) (mulf (extractStridedSlice S1x4096x512 ![0, 2, 0] (v11 A0) slices_S1x4126x512_S1x4096x512_0_2_0) (broadcastInDim S1x4096x512 ![0, 1, 2] bcast_S1x1x512_S1x4096x512_0_1_2 (broadcastInDim S1x1x512 ![2] bcast_S512_S1x1x512_2 (shapeCast _ (extractStridedSlice S1x512 ![2, 0] A1 slices_S31x512_S1x512_2_0) shapeCasts_S1x512_S512))))) (mulf (extractStridedSlice S1x4096x512 ![0, 3, 0] (v11 A0) slices_S1x4126x512_S1x4096x512_0_3_0) (broadcastInDim S1x4096x512 ![0, 1, 2] bcast_S1x1x512_S1x4096x512_0_1_2 (broadcastInDim S1x1x512 ![2] bcast_S512_S1x1x512_2 (shapeCast _ (extractStridedSlice S1x512 ![3, 0] A1 slices_S31x512_S1x512_3_0) shapeCasts_S1x512_S512))))) (mulf (extractStridedSlice S1x4096x512 ![0, 4, 0] (v11 A0) slices_S1x4126x512_S1x4096x512_0_4_0) (broadcastInDim S1x4096x512 ![0, 1, 2] bcast_S1x1x512_S1x4096x512_0_1_2 (broadcastInDim S1x1x512 ![2] bcast_S512_S1x1x512_2 (shapeCast _ (extractStridedSlice S1x512 ![4, 0] A1 slices_S31x512_S1x512_4_0) shapeCasts_S1x512_S512))))) (mulf (extractStridedSlice S1x4096x512 ![0, 5, 0] (v11 A0) slices_S1x4126x512_S1x4096x512_0_5_0) (broadcastInDim S1x4096x512 ![0, 1, 2] bcast_S1x1x512_S1x4096x512_0_1_2 (broadcastInDim S1x1x512 ![2] bcast_S512_S1x1x512_2 (shapeCast _ (extractStridedSlice S1x512 ![5, 0] A1 slices_S31x512_S1x512_5_0) shapeCasts_S1x512_S512))))) (mulf (extractStridedSlice S1x4096x512 ![0, 6, 0] (v11 A0) slices_S1x4126x512_S1x4096x512_0_6_0) (broadcastInDim S1x4096x512 ![0, 1, 2] bcast_S1x1x512_S1x4096x512_0_1_2 (broadcastInDim S1x1x512 ![2] bcast_S512_S1x1x512_2 (shapeCast _ (extractStridedSlice S1x512 ![6, 0] A1 slices_S31x512_S1x512_6_0) shapeCasts_S1x512_S512))))) (mulf (extractStridedSlice S1x4096x512 ![0, 7, 0] (v11 A0) slices_S1x4126x512_S1x4096x512_0_7_0) (broadcastInDim S1x4096x512 ![0, 1, 2] bcast_S1x1x512_S1x4096x512_0_1_2 (broadcastInDim S1x1x512 ![2] bcast_S512_S1x1x512_2 (shapeCast _ (extractStridedSlice S1x512 ![7, 0] A1 slices_S31x512_S1x512_7_0) shapeCasts_S1x512_S512))))) (mulf (extractStridedSlice S1x4096x512 ![0, 8, 0] (v11 A0) slices_S1x4126x512_S1x4096x512_0_8_0) (broadcastInDim S1x4096x512 ![0, 1, 2] bcast_S1x1x512_S1x4096x512_0_1_2 (broadcastInDim S1x1x512 ![2] bcast_S512_S1x1x512_2 (shapeCast _ (extractStridedSlice S1x512 ![8, 0] A1 slices_S31x512_S1x512_8_0) shapeCasts_S1x512_S512))))) (mulf (extractStridedSlice S1x4096x512 ![0, 9, 0] (v11 A0) slices_S1x4126x512_S1x4096x512_0_9_0) (broadcastInDim S1x4096x512 ![0, 1, 2] bcast_S1x1x512_S1x4096x512_0_1_2 (broadcastInDim S1x1x512 ![2] bcast_S512_S1x1x512_2 (shapeCast _ (extractStridedSlice S1x512 ![9, 0] A1 slices_S31x512_S1x512_9_0) shapeCasts_S1x512_S512))))) (mulf (extractStridedSlice S1x4096x512 ![0, 10, 0] (v11 A0) slices_S1x4126x512_S1x4096x512_0_10_0) (broadcastInDim S1x4096x512 ![0, 1, 2] bcast_S1x1x512_S1x4096x512_0_1_2 (broadcastInDim S1x1x512 ![2] bcast_S512_S1x1x512_2 (shapeCast _ (extractStridedSlice S1x512 ![10, 0] A1 slices_S31x512_S1x512_10_0) shapeCasts_S1x512_S512))))

/-- The first twenty-two taps, added. -/
def v166 (A0 : FVec Ideal S4096x3584 .f32) (A1 : FVec Ideal S31x512 .f32) : FVec Ideal S1x4096x512 .f32 :=
  addf (addf (addf (addf (addf (addf (addf (addf (addf (addf (addf (v89 A0 A1) (mulf (extractStridedSlice S1x4096x512 ![0, 11, 0] (v11 A0) slices_S1x4126x512_S1x4096x512_0_11_0) (broadcastInDim S1x4096x512 ![0, 1, 2] bcast_S1x1x512_S1x4096x512_0_1_2 (broadcastInDim S1x1x512 ![2] bcast_S512_S1x1x512_2 (shapeCast _ (extractStridedSlice S1x512 ![11, 0] A1 slices_S31x512_S1x512_11_0) shapeCasts_S1x512_S512))))) (mulf (extractStridedSlice S1x4096x512 ![0, 12, 0] (v11 A0) slices_S1x4126x512_S1x4096x512_0_12_0) (broadcastInDim S1x4096x512 ![0, 1, 2] bcast_S1x1x512_S1x4096x512_0_1_2 (broadcastInDim S1x1x512 ![2] bcast_S512_S1x1x512_2 (shapeCast _ (extractStridedSlice S1x512 ![12, 0] A1 slices_S31x512_S1x512_12_0) shapeCasts_S1x512_S512))))) (mulf (extractStridedSlice S1x4096x512 ![0, 13, 0] (v11 A0) slices_S1x4126x512_S1x4096x512_0_13_0) (broadcastInDim S1x4096x512 ![0, 1, 2] bcast_S1x1x512_S1x4096x512_0_1_2 (broadcastInDim S1x1x512 ![2] bcast_S512_S1x1x512_2 (shapeCast _ (extractStridedSlice S1x512 ![13, 0] A1 slices_S31x512_S1x512_13_0) shapeCasts_S1x512_S512))))) (mulf (extractStridedSlice S1x4096x512 ![0, 14, 0] (v11 A0) slices_S1x4126x512_S1x4096x512_0_14_0) (broadcastInDim S1x4096x512 ![0, 1, 2] bcast_S1x1x512_S1x4096x512_0_1_2 (broadcastInDim S1x1x512 ![2] bcast_S512_S1x1x512_2 (shapeCast _ (extractStridedSlice S1x512 ![14, 0] A1 slices_S31x512_S1x512_14_0) shapeCasts_S1x512_S512))))) (mulf (extractStridedSlice S1x4096x512 ![0, 15, 0] (v11 A0) slices_S1x4126x512_S1x4096x512_0_15_0) (broadcastInDim S1x4096x512 ![0, 1, 2] bcast_S1x1x512_S1x4096x512_0_1_2 (broadcastInDim S1x1x512 ![2] bcast_S512_S1x1x512_2 (shapeCast _ (extractStridedSlice S1x512 ![15, 0] A1 slices_S31x512_S1x512_15_0) shapeCasts_S1x512_S512))))) (mulf (extractStridedSlice S1x4096x512 ![0, 16, 0] (v11 A0) slices_S1x4126x512_S1x4096x512_0_16_0) (broadcastInDim S1x4096x512 ![0, 1, 2] bcast_S1x1x512_S1x4096x512_0_1_2 (broadcastInDim S1x1x512 ![2] bcast_S512_S1x1x512_2 (shapeCast _ (extractStridedSlice S1x512 ![16, 0] A1 slices_S31x512_S1x512_16_0) shapeCasts_S1x512_S512))))) (mulf (extractStridedSlice S1x4096x512 ![0, 17, 0] (v11 A0) slices_S1x4126x512_S1x4096x512_0_17_0) (broadcastInDim S1x4096x512 ![0, 1, 2] bcast_S1x1x512_S1x4096x512_0_1_2 (broadcastInDim S1x1x512 ![2] bcast_S512_S1x1x512_2 (shapeCast _ (extractStridedSlice S1x512 ![17, 0] A1 slices_S31x512_S1x512_17_0) shapeCasts_S1x512_S512))))) (mulf (extractStridedSlice S1x4096x512 ![0, 18, 0] (v11 A0) slices_S1x4126x512_S1x4096x512_0_18_0) (broadcastInDim S1x4096x512 ![0, 1, 2] bcast_S1x1x512_S1x4096x512_0_1_2 (broadcastInDim S1x1x512 ![2] bcast_S512_S1x1x512_2 (shapeCast _ (extractStridedSlice S1x512 ![18, 0] A1 slices_S31x512_S1x512_18_0) shapeCasts_S1x512_S512))))) (mulf (extractStridedSlice S1x4096x512 ![0, 19, 0] (v11 A0) slices_S1x4126x512_S1x4096x512_0_19_0) (broadcastInDim S1x4096x512 ![0, 1, 2] bcast_S1x1x512_S1x4096x512_0_1_2 (broadcastInDim S1x1x512 ![2] bcast_S512_S1x1x512_2 (shapeCast _ (extractStridedSlice S1x512 ![19, 0] A1 slices_S31x512_S1x512_19_0) shapeCasts_S1x512_S512))))) (mulf (extractStridedSlice S1x4096x512 ![0, 20, 0] (v11 A0) slices_S1x4126x512_S1x4096x512_0_20_0) (broadcastInDim S1x4096x512 ![0, 1, 2] bcast_S1x1x512_S1x4096x512_0_1_2 (broadcastInDim S1x1x512 ![2] bcast_S512_S1x1x512_2 (shapeCast _ (extractStridedSlice S1x512 ![20, 0] A1 slices_S31x512_S1x512_20_0) shapeCasts_S1x512_S512))))) (mulf (extractStridedSlice S1x4096x512 ![0, 21, 0] (v11 A0) slices_S1x4126x512_S1x4096x512_0_21_0) (broadcastInDim S1x4096x512 ![0, 1, 2] bcast_S1x1x512_S1x4096x512_0_1_2 (broadcastInDim S1x1x512 ![2] bcast_S512_S1x1x512_2 (shapeCast _ (extractStridedSlice S1x512 ![21, 0] A1 slices_S31x512_S1x512_21_0) shapeCasts_S1x512_S512))))

/-- The convolved rows and their bias. -/
def v232 (A0 : FVec Ideal S4096x3584 .f32) (A1 : FVec Ideal S31x512 .f32) (A2 : FVec Ideal S512 .f32) : FVec Ideal S1x4096x512 .f32 :=
  addf (addf (addf (addf (addf (addf (addf (addf (addf (addf (v166 A0 A1) (mulf (extractStridedSlice S1x4096x512 ![0, 22, 0] (v11 A0) slices_S1x4126x512_S1x4096x512_0_22_0) (broadcastInDim S1x4096x512 ![0, 1, 2] bcast_S1x1x512_S1x4096x512_0_1_2 (broadcastInDim S1x1x512 ![2] bcast_S512_S1x1x512_2 (shapeCast _ (extractStridedSlice S1x512 ![22, 0] A1 slices_S31x512_S1x512_22_0) shapeCasts_S1x512_S512))))) (mulf (extractStridedSlice S1x4096x512 ![0, 23, 0] (v11 A0) slices_S1x4126x512_S1x4096x512_0_23_0) (broadcastInDim S1x4096x512 ![0, 1, 2] bcast_S1x1x512_S1x4096x512_0_1_2 (broadcastInDim S1x1x512 ![2] bcast_S512_S1x1x512_2 (shapeCast _ (extractStridedSlice S1x512 ![23, 0] A1 slices_S31x512_S1x512_23_0) shapeCasts_S1x512_S512))))) (mulf (extractStridedSlice S1x4096x512 ![0, 24, 0] (v11 A0) slices_S1x4126x512_S1x4096x512_0_24_0) (broadcastInDim S1x4096x512 ![0, 1, 2] bcast_S1x1x512_S1x4096x512_0_1_2 (broadcastInDim S1x1x512 ![2] bcast_S512_S1x1x512_2 (shapeCast _ (extractStridedSlice S1x512 ![24, 0] A1 slices_S31x512_S1x512_24_0) shapeCasts_S1x512_S512))))) (mulf (extractStridedSlice S1x4096x512 ![0, 25, 0] (v11 A0) slices_S1x4126x512_S1x4096x512_0_25_0) (broadcastInDim S1x4096x512 ![0, 1, 2] bcast_S1x1x512_S1x4096x512_0_1_2 (broadcastInDim S1x1x512 ![2] bcast_S512_S1x1x512_2 (shapeCast _ (extractStridedSlice S1x512 ![25, 0] A1 slices_S31x512_S1x512_25_0) shapeCasts_S1x512_S512))))) (mulf (extractStridedSlice S1x4096x512 ![0, 26, 0] (v11 A0) slices_S1x4126x512_S1x4096x512_0_26_0) (broadcastInDim S1x4096x512 ![0, 1, 2] bcast_S1x1x512_S1x4096x512_0_1_2 (broadcastInDim S1x1x512 ![2] bcast_S512_S1x1x512_2 (shapeCast _ (extractStridedSlice S1x512 ![26, 0] A1 slices_S31x512_S1x512_26_0) shapeCasts_S1x512_S512))))) (mulf (extractStridedSlice S1x4096x512 ![0, 27, 0] (v11 A0) slices_S1x4126x512_S1x4096x512_0_27_0) (broadcastInDim S1x4096x512 ![0, 1, 2] bcast_S1x1x512_S1x4096x512_0_1_2 (broadcastInDim S1x1x512 ![2] bcast_S512_S1x1x512_2 (shapeCast _ (extractStridedSlice S1x512 ![27, 0] A1 slices_S31x512_S1x512_27_0) shapeCasts_S1x512_S512))))) (mulf (extractStridedSlice S1x4096x512 ![0, 28, 0] (v11 A0) slices_S1x4126x512_S1x4096x512_0_28_0) (broadcastInDim S1x4096x512 ![0, 1, 2] bcast_S1x1x512_S1x4096x512_0_1_2 (broadcastInDim S1x1x512 ![2] bcast_S512_S1x1x512_2 (shapeCast _ (extractStridedSlice S1x512 ![28, 0] A1 slices_S31x512_S1x512_28_0) shapeCasts_S1x512_S512))))) (mulf (extractStridedSlice S1x4096x512 ![0, 29, 0] (v11 A0) slices_S1x4126x512_S1x4096x512_0_29_0) (broadcastInDim S1x4096x512 ![0, 1, 2] bcast_S1x1x512_S1x4096x512_0_1_2 (broadcastInDim S1x1x512 ![2] bcast_S512_S1x1x512_2 (shapeCast _ (extractStridedSlice S1x512 ![29, 0] A1 slices_S31x512_S1x512_29_0) shapeCasts_S1x512_S512))))) (mulf (extractStridedSlice S1x4096x512 ![0, 30, 0] (v11 A0) slices_S1x4126x512_S1x4096x512_0_30_0) (broadcastInDim S1x4096x512 ![0, 1, 2] bcast_S1x1x512_S1x4096x512_0_1_2 (broadcastInDim S1x1x512 ![2] bcast_S512_S1x1x512_2 (shapeCast _ (extractStridedSlice S1x512 ![30, 0] A1 slices_S31x512_S1x512_30_0) shapeCasts_S1x512_S512))))) (broadcastInDim S1x4096x512 ![0, 1, 2] bcast_S1x1x512_S1x4096x512_0_1_2 (broadcastInDim S1x1x512 ![2] bcast_S512_S1x1x512_2 A2))

/-- The convolved rows less their means. -/
def v238 (A0 : FVec Ideal S4096x3584 .f32) (A1 : FVec Ideal S31x512 .f32) (A2 : FVec Ideal S512 .f32) : FVec Ideal S1x4096x512 .f32 :=
  subf (v232 A0 A1 A2) (broadcastInDim S1x4096x512 ![0, 1, 2] bcast_S1x4096x1_S1x4096x512_0_1_2 (Host.divf (broadcastInDim S1x4096x1 ![0, 1] bcast_S1x4096_S1x4096x1_0_1 (Host.reduceAdd (v232 A0 A1 A2) (constant S_ .f32 0x00000000#32) reducesTo_S1x4096x512_S1x4096_d2 h_S_)) (broadcastInDim S1x4096x1 ![] bcast_S_S1x4096x1 (constant S_ .f32 0x44000000#32))))

/-- The normalised rows, scaled and shifted. -/
def v254 (A0 : FVec Ideal S4096x3584 .f32) (A1 : FVec Ideal S31x512 .f32) (A2 : FVec Ideal S512 .f32) (A3 : FVec Ideal S512 .f32) (A4 : FVec Ideal S512 .f32) : FVec Ideal S1x4096x512 .f32 :=
  addf (mulf (mulf (v238 A0 A1 A2) (broadcastInDim S1x4096x512 ![0, 1, 2] bcast_S1x4096x1_S1x4096x512_0_1_2 (Host.rsqrt (addf (Host.divf (broadcastInDim S1x4096x1 ![0, 1] bcast_S1x4096_S1x4096x1_0_1 (Host.reduceAdd (mulf (v238 A0 A1 A2) (v238 A0 A1 A2)) (constant S_ .f32 0x00000000#32) reducesTo_S1x4096x512_S1x4096_d2 h_S_)) (broadcastInDim S1x4096x1 ![] bcast_S_S1x4096x1 (constant S_ .f32 0x44000000#32))) (broadcastInDim S1x4096x1 ![] bcast_S_S1x4096x1 (constant S_ .f32 0x3727C5AC#32)))))) (broadcastInDim S1x4096x512 ![0, 1, 2] bcast_S1x1x512_S1x4096x512_0_1_2 (broadcastInDim S1x1x512 ![2] bcast_S512_S1x1x512_2 A3))) (broadcastInDim S1x4096x512 ![0, 1, 2] bcast_S1x1x512_S1x4096x512_0_1_2 (broadcastInDim S1x1x512 ![2] bcast_S512_S1x1x512_2 A4))

variable (A0 : FVec Ideal S4096x3584 .f32) (A1 : FVec Ideal S31x512 .f32) (A2 A3 A4 : FVec Ideal S512 .f32)

/-- The reference's first result: the normalised rows times their logistic function, as a matrix. -/
def OUT : FVec Ideal S4096x512 .bf16 :=
  truncf .bf16 (shapeCast S4096x512 (mulf (v254 A0 A1 A2 A3 A4) (Host.divf (broadcastInDim S1x4096x512 ![] bcast_S_S1x4096x512 (constant S_ .f32 0x3F800000#32)) (addf (broadcastInDim S1x4096x512 ![] bcast_S_S1x4096x512 (constant S_ .f32 0x3F800000#32)) (Host.exp (Host.negf (v254 A0 A1 A2 A3 A4)))))) shapeCasts_S1x4096x512_S4096x512) bitsLt_bf16_f32

/-- The reference's second result: the convolved rows, as a matrix. -/
def Y : FVec Ideal S4096x512 .f32 := shapeCast S4096x512 (v232 A0 A1 A2) shapeCasts_S1x4096x512_S4096x512

/-- The gated rows. -/
def grows (R : Fin 4096) (k : Fin 512) : EReal := gate (A0 (ix2 R ⟨1536 + k.val, by omega⟩)) (A0 (ix2 R ⟨2048 + k.val, by omega⟩))

/-- The gated rows, thirty zero rows in front. -/
def pad30 (q : Fin 4126) (k : Fin 512) : EReal := if h : q.val < 30 then 0 else grows A0 ⟨q.val - 30, by omega⟩ k

/-- The padded rows, read. -/
theorem v11_at (q : Fin 4126) (k : Fin 512) : v11 A0 (ix3 0 q k) = pad30 A0 q k := by
  unfold v11 pad30
  by_cases h : q.val < 30
  · rw [dif_pos h]
    pointwise
    rw [dif_neg (by omega)]
    show (((0#32 : BitVec 32).toInt : ℝ) : EReal) = 0
    simp
  · rw [dif_neg h]
    unfold grows gate
    pointwise [v1]
    rw [dif_pos ⟨by omega, by omega⟩]
    have e : ∀ hk, (⟨1536 + (512 + k.val), hk⟩ : Fin 3584) = ⟨2048 + k.val, by omega⟩ := fun _ => Fin.ext (by show 1536 + (512 + k.val) = 2048 + k.val; omega)
    rw [e]

/-- The convolved rows, read. -/
theorem y_at (R : Fin 4096) (k : Fin 512) :
    Y A0 A1 A2 (ix2 R k) = (∑ j : Fin 31, pad30 A0 ⟨j.val + R.val, by omega⟩ k * A1 (ix2 j k)) + A2 (ix1 k) := by
  rw [sum31]
  simp only [← v11_at]
  unfold Y v232 v166 v89
  generalize v11 A0 = H
  pointwise

/-- The first result, from the second. -/
theorem out_at (R : Fin 4096) (k : Fin 512) :
    OUT A0 A1 A2 A3 A4 (ix2 R k)
      = gate (vn (fun l => A3 (ix1 l)) (fun l => A4 (ix1 l)) (fun l => Y A0 A1 A2 (ix2 R l)) k)
          (vn (fun l => A3 (ix1 l)) (fun l => A4 (ix1 l)) (fun l => Y A0 A1 A2 (ix2 R l)) k) := by
  unfold OUT Y v254 v238
  generalize v232 A0 A1 A2 = X
  pointwise [gate, vn, yh, rstd, cen, mean]
  rfl

end Cert.Reference18Ideal.ConvFwd

end
-- ==== Proof.ConvFwd.lean ====
/- The convolution mixer's forward pass: the kernel's two results against the reference. -/
module

public import proofs.«01_k».proof.Proof.Gen.Kernel18Ideal.Value
public import proofs.«01_k».proof.Proof.Gen.Reference18Ideal.Run
public import Idealize.ShloMosaic.Lib.Pointwise
public import Idealize.ShloMosaic.Lib.Pipeline.ValueKit
public import Idealize.ShloMosaic.Lib.Pipeline.ReadBack
public import proofs.«01_k».proof.Proof.ConvKer
public import proofs.«01_k».proof.Proof.ConvRef

@[expose] public section

set_option maxRecDepth 16384

noncomputable section

open Idealize.ShloMosaic Idealize.ShloMosaic.TcCoe Idealize.SL.Sem
open Idealize.ShloMosaic.Pipeline (Dat)

namespace Cert.Kernel18Ideal.ConvFwd

open Cert.Kernel18Ideal Cert.Kernel18Ideal.Gen Cert.Sgu Cert.Conv
open Cert.Reference18Ideal.ConvFwd (grows pad30 OUT Y)

variable (m : (ℓ : Loc nD τ sig) → Buf (Elt Ideal) ℓ)

/-- Every window's index map at a point. -/
theorem idx : ∀ t : Fin cfg0.N,
    win0_0.index t = ![t.val, 3] ∧ win0_1.index t = ![t.val, 4] ∧ win0_2.index t = ![8 * t.val - 1, 3]
      ∧ win0_3.index t = ![8 * t.val - 1, 4] ∧ win0_4.index t = ![0, 0] ∧ win0_5.index t = ![0, 0]
      ∧ win0_6.index t = ![0, 0] ∧ win0_7.index t = ![0, 0] ∧ win0_8.index t = ![t.val, 0] ∧ win0_9.index t = ![t.val, 0] :=
  (by decide +kernel : ∀ t : Fin grid0.N, _)

/-- The test for the first point. -/
theorem flag : ∀ t : Fin cfg0.N, Scalar.cmpi .sgt (BitVec.ofNat 32 (grid0.coords t 0).val) 0#32 = if t.val = 0 then 0#1 else 1#1 :=
  (by decide +kernel : ∀ t : Fin grid0.N, _)

/-- The input projection, as the run finds it. -/
abbrev a0 (c : Dev nD) : FVec Ideal S4096x3584 .f32 := m ((c : Thread nD τ).loc main_arg0)
/-- The taps. -/
abbrev a1 (c : Dev nD) : FVec Ideal S31x512 .f32 := m ((c : Thread nD τ).loc main_arg1)
/-- The convolution's bias. -/
abbrev a2 (c : Dev nD) : FVec Ideal S512 .f32 := m ((c : Thread nD τ).loc main_arg2)
/-- The normalisation's scale. -/
abbrev a3 (c : Dev nD) : FVec Ideal S512 .f32 := m ((c : Thread nD τ).loc main_arg3)
/-- The normalisation's shift. -/
abbrev a4 (c : Dev nD) : FVec Ideal S512 .f32 := m ((c : Thread nD τ).loc main_arg4)

/-- The taps, padded to 32 rows before the grid. -/
theorem host0 (c : Dev nD) : V m c main_v0 = pad S32x512 ![0, 0] ![1, 0] ![0, 0] (a1 m c) (sitofp .f32 (constantI S_ 32 0#32)) pads_S31x512_S32x512_010_000 h_S_ := by
  unfold V
  simp only [List.flatten_cons, List.flatten_nil, List.append_nil, List.cons_append, List.nil_append]
  entry_read
  rfl

/-- The bias, as a row. -/
theorem host1 (c : Dev nD) : V m c main_v1 = shapeCast S1x512 (a2 m c) shapeCasts_S512_S1x512 := by
  unfold V
  simp only [List.flatten_cons, List.flatten_nil, List.append_nil, List.cons_append, List.nil_append]
  entry_read
  rfl

/-- The scale, as a row. -/
theorem host2 (c : Dev nD) : V m c main_v2 = shapeCast S1x512 (a3 m c) shapeCasts_S512_S1x512 := by
  unfold V
  simp only [List.flatten_cons, List.flatten_nil, List.append_nil, List.cons_append, List.nil_append]
  entry_read
  rfl

/-- The shift, as a row. -/
theorem host3 (c : Dev nD) : V m c main_v3 = shapeCast S1x512 (a4 m c) shapeCasts_S512_S1x512 := by
  unfold V
  simp only [List.flatten_cons, List.flatten_nil, List.append_nil, List.cons_append, List.nil_append]
  entry_read
  rfl

/-- Row `r` of block `t` in the arrays. -/
def grow (t : Fin cfg0.N) (r : Fin 256) : Fin 4096 :=
  ⟨256 * t.val + r.val, by have := lt_of_lt_of_eq t.isLt N_0; omega⟩

/-- Row `p` of the 32 rows before block `t`, past the first block. -/
def hrow (t : Fin cfg0.N) (p : Fin 32) : Fin 4096 :=
  ⟨32 * (8 * t.val - 1) + p.val, by have := lt_of_lt_of_eq t.isLt N_0; omega⟩

/-- The gated half's block. -/
theorem b0 (c : Dev nD) (t : Fin cfg0.N) (r : Fin 256) (k : Fin 512) :
    iblk m c 0 t (ix2 r k) = a0 m c (ix2 (grow t r) ⟨1536 + k.val, by omega⟩) := by
  unfold grow a0
  blk_ext [iblk, V, idx t]

/-- The gating half's block. -/
theorem b1 (c : Dev nD) (t : Fin cfg0.N) (r : Fin 256) (k : Fin 512) :
    iblk m c 1 t (ix2 r k) = a0 m c (ix2 (grow t r) ⟨2048 + k.val, by omega⟩) := by
  unfold grow a0
  blk_ext [iblk, V, idx t]

/-- The gated half's rows before the block. -/
theorem b2 (c : Dev nD) (t : Fin cfg0.N) (r : Fin 32) (k : Fin 512) :
    iblk m c 2 t (ix2 r k) = a0 m c (ix2 (hrow t r) ⟨1536 + k.val, by omega⟩) := by
  unfold hrow a0
  blk_ext [iblk, V, idx t]

/-- The gating half's rows before the block. -/
theorem b3 (c : Dev nD) (t : Fin cfg0.N) (r : Fin 32) (k : Fin 512) :
    iblk m c 3 t (ix2 r k) = a0 m c (ix2 (hrow t r) ⟨2048 + k.val, by omega⟩) := by
  unfold hrow a0
  blk_ext [iblk, V, idx t]

/-- The taps' block. -/
theorem b4 (c : Dev nD) (t : Fin cfg0.N) (j : Fin 31) (k : Fin 512) :
    iblk m c 4 t (ix2 ⟨j.val, by omega⟩ k) = a1 m c (ix2 j k) := by
  have h : iblk m c 4 t (ix2 ⟨j.val, by omega⟩ k) = V m c main_v0 (ix2 ⟨j.val, by omega⟩ k) := by
    generalize hX : V m c = X
    rw [iblk, hX]
    blk_ext [idx t]
  rw [h, host0]
  generalize a1 m c = A
  pointwise

/-- The bias's block. -/
theorem b5 (c : Dev nD) (t : Fin cfg0.N) (z : Fin 1) (k : Fin 512) :
    iblk m c 5 t (ix2 z k) = a2 m c (ix1 k) := by
  have h : iblk m c 5 t (ix2 z k) = V m c main_v1 (ix2 z k) := by
    generalize hX : V m c = X
    rw [iblk, hX]
    blk_ext [idx t]
  rw [h, host1]
  generalize a2 m c = A
  pointwise

/-- The scale's block. -/
theorem b6 (c : Dev nD) (t : Fin cfg0.N) (z : Fin 1) (k : Fin 512) :
    iblk m c 6 t (ix2 z k) = a3 m c (ix1 k) := by
  have h : iblk m c 6 t (ix2 z k) = V m c main_v2 (ix2 z k) := by
    generalize hX : V m c = X
    rw [iblk, hX]
    blk_ext [idx t]
  rw [h, host2]
  generalize a3 m c = A
  pointwise

/-- The shift's block. -/
theorem b7 (c : Dev nD) (t : Fin cfg0.N) (z : Fin 1) (k : Fin 512) :
    iblk m c 7 t (ix2 z k) = a4 m c (ix1 k) := by
  have h : iblk m c 7 t (ix2 z k) = V m c main_v3 (ix2 z k) := by
    generalize hX : V m c = X
    rw [iblk, hX]
    blk_ext [idx t]
  rw [h, host3]
  generalize a4 m c = A
  pointwise

/-- The gated block. -/
theorem pay2_at (x0 x1 : FVec Ideal S256x512 .f32) (r : Fin 256) (k : Fin 512) :
    k0_pay2 (F := Ideal) x0 x1 (ix2 r k) = gate (x0 (ix2 r k)) (x1 (ix2 r k)) := by
  pointwise [k0_pay2, gate]
  simp only [zero_sub]

/-- At the first point the rows before the block are zero. -/
theorem pay1_zero (t : Fin cfg0.N) (h : t.val = 0) (x0 x1 : FVec Ideal S32x512 .f32) (r : Fin 32) (k : Fin 512) :
    k0_pay1 (F := Ideal) (grid0.coords t) x0 x1 (ix2 r k) = 0 := by
  unfold k0_pay1
  dsimp only
  rw [flag t, if_pos h]
  rw [show ∀ (u v : FVec Ideal S32x512 .f32), Scalar.select 0#1 u v = v from fun _ _ => rfl]
  pointwise

/-- At a later point the rows before the block are gated too. -/
theorem pay1_at (t : Fin cfg0.N) (h : ¬t.val = 0) (x0 x1 : FVec Ideal S32x512 .f32) (r : Fin 32) (k : Fin 512) :
    k0_pay1 (F := Ideal) (grid0.coords t) x0 x1 (ix2 r k) = gate (x0 (ix2 r k)) (x1 (ix2 r k)) := by
  unfold k0_pay1
  dsimp only
  rw [flag t, if_neg h]
  rw [show ∀ (u v : FVec Ideal S32x512 .f32), Scalar.select 1#1 u v = u from fun _ _ => rfl]
  pointwise [gate]
  simp only [zero_sub]

/-- A scratch row is a row of the gated rows, zeros before the first. -/
theorem rows_at (c : Dev nD) (t : Fin cfg0.N) (j : Fin 31) (r : Fin 256) (k : Fin 512) (q : Fin 4126) (hq : q.val = 256 * t.val + r.val + j.val) :
    rows (grid0.coords t) (iblk m c 0 t) (iblk m c 1 t) (iblk m c 2 t) (iblk m c 3 t) ⟨2 + j.val + r.val, by omega⟩ k = pad30 (a0 m c) q k := by
  unfold rows pad30
  by_cases h : 2 + j.val + r.val < 32
  · rw [dif_pos h]
    by_cases h0 : t.val = 0
    · rw [pay1_zero t h0, dif_pos (by omega)]
    · rw [pay1_at t h0, dif_neg (by omega), b2, b3]
      unfold grows
      rw [show hrow t ⟨2 + j.val + r.val, h⟩ = ⟨q.val - 30, by omega⟩ from Fin.ext (by show 32 * (8 * t.val - 1) + (2 + j.val + r.val) = q.val - 30; omega)]
  · rw [dif_neg h, pay2_at, dif_neg (by omega), b0, b1]
    unfold grows
    rw [show grow t ⟨2 + j.val + r.val - 32, by omega⟩ = ⟨q.val - 30, by omega⟩ from Fin.ext (by show 256 * t.val + (2 + j.val + r.val - 32) = q.val - 30; omega)]

/-- The second output block, against the reference. -/
theorem y_blk (c : Dev nD) (t : Fin cfg0.N) (r : Fin 256) (k : Fin 512) :
    (outsAt0 (F := Ideal) m c t).2 (ix2 r k) = Y (a0 m c) (a1 m c) (a2 m c) (ix2 (grow t r) k) := by
  rw [y_at, Cert.Reference18Ideal.ConvFwd.y_at]
  unfold conv
  rw [b5]
  refine congrArg (· + _) (Finset.sum_congr rfl fun j _ => ?_)
  rw [scratch_at, b4, rows_at m c t j r k ⟨j.val + (grow t r).val, by omega⟩ (by show j.val + (256 * t.val + r.val) = 256 * t.val + r.val + j.val; omega)]

/-- The first output block, against the reference. -/
theorem z_blk (c : Dev nD) (t : Fin cfg0.N) (r : Fin 256) (k : Fin 512) :
    (outsAt0 (F := Ideal) m c t).1 (ix2 r k) = OUT (a0 m c) (a1 m c) (a2 m c) (a3 m c) (a4 m c) (ix2 (grow t r) k) := by
  rw [z_at, Cert.Reference18Ideal.ConvFwd.out_at]
  rw [show (fun l => iblk m c 6 t (ix2 0 l)) = fun l => a3 m c (ix1 l) from funext fun l => b6 m c t 0 l,
    show (fun l => iblk m c 7 t (ix2 0 l)) = fun l => a4 m c (ix1 l) from funext fun l => b7 m c t 0 l,
    show (fun l => (outsAt0 (F := Ideal) m c t).2 (ix2 r l)) = fun l => Y (a0 m c) (a1 m c) (a2 m c) (ix2 (grow t r) l) from funext fun l => y_blk m c t r l]

/-- The kernel's first result is the reference's. -/
theorem final8 (c : Dev nD) : (dats m 0 c).arrAt 8 cfg0.N = OUT (a0 m c) (a1 m c) (a2 m c) (a3 m c) (a4 m c) :=
  (dats m 0 c).arrAt_eq_of_covers 8 _ (by decide +kernel) fun t _ y => by
    obtain ⟨r, k, rfl⟩ : ∃ (r : Fin 256) (k : Fin 512), y = ix2 r k := ⟨_, _, eq_ix2 y⟩
    blk_simp
    rw [after0_8]
    refine Eq.trans (z_blk m c t r k) ?_
    generalize OUT (a0 m c) (a1 m c) (a2 m c) (a3 m c) (a4 m c) = Z
    unfold grow
    blk_point [idx t]

/-- The kernel's second result is the reference's. -/
theorem final9 (c : Dev nD) : (dats m 0 c).arrAt 9 cfg0.N = Y (a0 m c) (a1 m c) (a2 m c) :=
  (dats m 0 c).arrAt_eq_of_covers 9 _ (by decide +kernel) fun t _ y => by
    obtain ⟨r, k, rfl⟩ : ∃ (r : Fin 256) (k : Fin 512), y = ix2 r k := ⟨_, _, eq_ix2 y⟩
    blk_simp
    rw [after0_9]
    refine Eq.trans (y_blk m c t r k) ?_
    generalize Y (a0 m c) (a1 m c) (a2 m c) = Z
    unfold grow
    blk_point [idx t]

end Cert.Kernel18Ideal.ConvFwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.SguEnd
public import Idealize.ShloMosaic.Adequacy
public import Idealize.ShloMosaic.Init
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.FfnDact
public import proofs.«01_k».proof.Proof.FfnDwIn
public import proofs.«01_k».proof.Proof.FfnDh
public import proofs.«01_k».proof.Proof.FfnDwOut
public import proofs.«01_k».proof.Proof.FfnIn
public import proofs.«01_k».proof.Proof.FfnOut
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.MixProd
public import proofs.«01_k».proof.Proof.NormBwd
public import proofs.«01_k».proof.Proof.NormFwd
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Loss
public import proofs.«01_k».proof.Proof.SguFwd
public import proofs.«01_k».proof.Proof.ConvFwd

@[expose] public section

noncomputable section

namespace Cert.Proof

open Idealize.ShloMosaic Idealize.SL.Sem

/-- The reference runs and leaves its arguments unchanged. -/
theorem frame_R (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The kernel's results are the reference's, from equal finite arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hpre hag
  have hp := fun c => hpre c
  refine ⟨Cert.KernelIdeal.Value.G8 m, Cert.KernelIdeal.Value.G9 m, Cert.KernelIdeal.Value.G10 m, Cert.KernelIdeal.Value.G11 m,
    Cert.KernelIdeal.Value.G12 m, Cert.KernelIdeal.Value.run m ρ, ?_⟩
  refine (θ_run Cert.ReferenceIdeal.defs _ _).mono (fun r h c => ?_) (Cert.ReferenceIdeal.Value.run (F := Ideal) m' ρ')
  obtain ⟨e0, e1, e2, e3, e4, e5⟩ := hag c
  obtain ⟨f0, f1, f2, f4⟩ := hp c
  have r0 := @Cert.Pre_finite.real0 Cert.Pre_finite.facts _ _ _ _ _ _ f0
  have r1 := @Cert.Pre_finite.real1 Cert.Pre_finite.facts _ _ _ _ _ _ f1
  have r2 := @Cert.Pre_finite.real2 Cert.Pre_finite.facts _ _ _ _ _ _ f2
  have r4 := @Cert.Pre_finite.real4 Cert.Pre_finite.facts _ _ _ _ _ _ f4
  refine ⟨(h c).1.trans ?_, (h c).2.1.trans ?_, (h c).2.2.1.trans ?_, (h c).2.2.2.1.trans ?_, (h c).2.2.2.2.1.trans ?_, (h c).2.2.2.2.2⟩
  · rw [Cert.ReferenceIdeal.Read.val_main_v95_eq, e0, e1, e2, e3, e4, e5]
    exact (Cert.KernelIdeal.SguEnd.out8 m c r0 r1 r2 r4).symm
  · rw [Cert.ReferenceIdeal.Read.val_main_v56_eq, e0, e1, e2, e3]
    exact (Cert.KernelIdeal.SguEnd.out9 m c).symm
  · rw [Cert.ReferenceIdeal.Read.val_main_v97_eq, e0, e1]
    exact (Cert.KernelIdeal.SguEnd.out10 m c).symm
  · rw [Cert.ReferenceIdeal.Read.val_main_v98_eq, e0, e1, e4]
    exact (Cert.KernelIdeal.SguEnd.out11 m c).symm
  · rw [Cert.ReferenceIdeal.Read.val_main_v99_eq, e0, e1, e4]
    exact (Cert.KernelIdeal.SguEnd.out12 m c).symm

/-- The reference of the gradient of the gated activation runs and leaves its arguments unchanged. -/
theorem frame_R2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0) :=
  (θ_run Cert.Reference2Ideal.defs _ _).mono
    (fun r h => ⟨fun c => (h c).2, sem_eq_zero_of_no_sems (by decide) r.2⟩)
    (Cert.Reference2Ideal.Value.run (F := Ideal) m ρ)

/-- The kernel of the gradient of the gated activation and its reference have equal results, from equal finite arguments. -/
theorem algebraic2 : Cert.algebraic_Kernel2Ideal_Reference2Ideal_pre_finite2 (hKernel2Ideal := Cert.Kernel2Ideal.Gen.facts)
    (hReference2Ideal := Cert.Reference2Ideal.Gen.facts) (hPre_finite2 := Cert.Pre_finite2.facts) := by
  intro m ρ m' ρ' hpre hag
  refine ⟨fun c => (Cert.Kernel2Ideal.Gen.dats m 0 c).arrAt 3 Cert.Kernel2Ideal.cfg0.N, Cert.Kernel2Ideal.Value.run_blocks m ρ, ?_⟩
  refine (θ_run Cert.Reference2Ideal.defs _ _).mono (fun r h c => ?_) (Cert.Reference2Ideal.Value.run (F := Ideal) m' ρ')
  obtain ⟨e0, e1, e2⟩ := hag c
  obtain ⟨f0, f1, f2⟩ := hpre c
  have r0 := @Cert.Pre_finite2.real0 Cert.Pre_finite2.facts _ _ _ f0
  have r1 := @Cert.Pre_finite2.real1 Cert.Pre_finite2.facts _ _ _ f1
  have r2 := @Cert.Pre_finite2.real2 Cert.Pre_finite2.facts _ _ _ f2
  refine ⟨(h c).1.trans ?_, (h c).2⟩
  · rw [e0, e1, e2]
    exact (Cert.Kernel2Ideal.FfnDact.final m c r0 r1 r2).symm

/-- The reference of the gradient of the input weights runs and leaves its arguments unchanged. -/
theorem frame_R3 (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run Cert.Reference3Ideal.defs _ _).mono
    (fun r h => ⟨fun c => (h c).2, sem_eq_zero_of_no_sems (by decide) r.2⟩)
    (Cert.Reference3Ideal.Value.run (F := Ideal) m ρ)

/-- The kernel of the gradient of the input weights and its reference have equal results, from equal arguments. -/
theorem algebraic3 : Cert.algebraic_Kernel3Ideal_Reference3Ideal (hKernel3Ideal := Cert.Kernel3Ideal.Gen.facts)
    (hReference3Ideal := Cert.Reference3Ideal.Gen.facts) := by
  intro m ρ m' ρ' _ hag
  refine ⟨fun c => (Cert.Kernel3Ideal.Gen.dats m 0 c).arrAt 2 Cert.Kernel3Ideal.cfg0.N, Cert.Kernel3Ideal.Value.run_blocks m ρ, ?_⟩
  refine (θ_run Cert.Reference3Ideal.defs _ _).mono (fun r h c => ?_) (Cert.Reference3Ideal.Value.run (F := Ideal) m' ρ')
  obtain ⟨e0, e1⟩ := hag c
  refine ⟨(h c).1.trans ?_, (h c).2⟩
  · rw [e0, e1]
    exact (Cert.Kernel3Ideal.FfnDwIn.final m c).symm

/-- The reference of the gradient of the layer's input runs and leaves its arguments unchanged. -/
theorem frame_R4 (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono
    (fun r h => ⟨fun c => (h c).2, sem_eq_zero_of_no_sems (by decide) r.2⟩)
    (Cert.Reference4Ideal.Value.run (F := Ideal) m ρ)

/-- The kernel of the gradient of the layer's input and its reference have equal results, from equal arguments. -/
theorem algebraic4 : Cert.algebraic_Kernel4Ideal_Reference4Ideal (hKernel4Ideal := Cert.Kernel4Ideal.Gen.facts)
    (hReference4Ideal := Cert.Reference4Ideal.Gen.facts) := by
  intro m ρ m' ρ' _ hag
  refine ⟨fun c => (Cert.Kernel4Ideal.Gen.dats m 0 c).arrAt 2 Cert.Kernel4Ideal.cfg0.N, Cert.Kernel4Ideal.Value.run_blocks m ρ, ?_⟩
  refine (θ_run Cert.Reference4Ideal.defs _ _).mono (fun r h c => ?_) (Cert.Reference4Ideal.Value.run (F := Ideal) m' ρ')
  obtain ⟨e0, e1⟩ := hag c
  refine ⟨(h c).1.trans ?_, (h c).2⟩
  · rw [e0, e1]
    exact (Cert.Kernel4Ideal.FfnDh.final m c).symm

/-- The reference of the gradient of the output weights runs and leaves its arguments unchanged. -/
theorem frame_R5 (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono
    (fun r h => ⟨fun c => (h c).2, sem_eq_zero_of_no_sems (by decide) r.2⟩)
    (Cert.Reference5Ideal.Value.run (F := Ideal) m ρ)

/-- The kernel of the gradient of the output weights and its reference have equal results, from equal arguments. -/
theorem algebraic5 : Cert.algebraic_Kernel5Ideal_Reference5Ideal (hKernel5Ideal := Cert.Kernel5Ideal.Gen.facts)
    (hReference5Ideal := Cert.Reference5Ideal.Gen.facts) := by
  intro m ρ m' ρ' _ hag
  refine ⟨fun c => (Cert.Kernel5Ideal.Gen.dats m 0 c).arrAt 2 Cert.Kernel5Ideal.cfg0.N, Cert.Kernel5Ideal.Value.run_blocks m ρ, ?_⟩
  refine (θ_run Cert.Reference5Ideal.defs _ _).mono (fun r h c => ?_) (Cert.Reference5Ideal.Value.run (F := Ideal) m' ρ')
  obtain ⟨e0, e1⟩ := hag c
  refine ⟨(h c).1.trans ?_, (h c).2⟩
  · rw [e0, e1]
    exact (Cert.Kernel5Ideal.FfnDwOut.final m c).symm

/-- The reference of the projections and gated activations runs and leaves its arguments unchanged. -/
theorem frame_R6 (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run Cert.Reference6Ideal.defs _ _).mono
    (fun r h => ⟨fun c => (h c).2.2.2, sem_eq_zero_of_no_sems (by decide) r.2⟩)
    (Cert.Reference6Ideal.Value.run (F := Ideal) m ρ)

/-- The kernel of the projections and gated activations and its reference have equal results, from equal arguments. -/
theorem algebraic6 : Cert.algebraic_Kernel6Ideal_Reference6Ideal (hKernel6Ideal := Cert.Kernel6Ideal.Gen.facts)
    (hReference6Ideal := Cert.Reference6Ideal.Gen.facts) := by
  intro m ρ m' ρ' _ hag
  refine ⟨fun c => (Cert.Kernel6Ideal.Gen.dats m 0 c).arrAt 2 Cert.Kernel6Ideal.cfg0.N, fun c => (Cert.Kernel6Ideal.Gen.dats m 0 c).arrAt 3 Cert.Kernel6Ideal.cfg0.N, fun c => (Cert.Kernel6Ideal.Gen.dats m 0 c).arrAt 4 Cert.Kernel6Ideal.cfg0.N, Cert.Kernel6Ideal.Value.run_blocks m ρ, ?_⟩
  refine (θ_run Cert.Reference6Ideal.defs _ _).mono (fun r h c => ?_) (Cert.Reference6Ideal.Value.run (F := Ideal) m' ρ')
  obtain ⟨e0, e1⟩ := hag c
  refine ⟨(h c).1.trans ?_, (h c).2.1.trans ?_, (h c).2.2.1.trans ?_, (h c).2.2.2⟩
  · rw [e0, e1]
    exact (Cert.Kernel6Ideal.FfnIn.final0 m c).symm
  · rw [e0, e1]
    exact (Cert.Kernel6Ideal.FfnIn.final1 m c).symm
  · rw [e0, e1]
    exact (Cert.Kernel6Ideal.FfnIn.final2 m c).symm

/-- The reference of the output projection with its residual runs and leaves its arguments unchanged. -/
theorem frame_R7 (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run Cert.Reference7Ideal.defs _ _).mono
    (fun r h => ⟨fun c => (h c).2, sem_eq_zero_of_no_sems (by decide) r.2⟩)
    (Cert.Reference7Ideal.Value.run (F := Ideal) m ρ)

/-- The kernel of the output projection with its residual and its reference have equal results, from equal arguments. -/
theorem algebraic7 : Cert.algebraic_Kernel7Ideal_Reference7Ideal (hKernel7Ideal := Cert.Kernel7Ideal.Gen.facts)
    (hReference7Ideal := Cert.Reference7Ideal.Gen.facts) := by
  intro m ρ m' ρ' _ hag
  refine ⟨fun c => (Cert.Kernel7Ideal.Gen.dats m 0 c).arrAt 3 Cert.Kernel7Ideal.cfg0.N, Cert.Kernel7Ideal.Value.run_blocks m ρ, ?_⟩
  refine (θ_run Cert.Reference7Ideal.defs _ _).mono (fun r h c => ?_) (Cert.Reference7Ideal.Value.run (F := Ideal) m' ρ')
  obtain ⟨e0, e1, e2⟩ := hag c
  refine ⟨(h c).1.trans ?_, (h c).2⟩
  · rw [e0, e1, e2]
    exact (Cert.Kernel7Ideal.FfnOut.final m c).symm

/-- The reference of the gradient of the mixers' output weights runs and leaves its arguments unchanged. -/
theorem frame_R8 (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run Cert.Reference8Ideal.defs _ _).mono
    (fun r h => ⟨fun c => (h c).2, sem_eq_zero_of_no_sems (by decide) r.2⟩)
    (Cert.Reference8Ideal.Value.run (F := Ideal) m ρ)

/-- The kernel of the gradient of the mixers' output weights and its reference have equal results, from equal arguments. -/
theorem algebraic8 : Cert.algebraic_Kernel8Ideal_Reference8Ideal (hKernel8Ideal := Cert.Kernel8Ideal.Gen.facts)
    (hReference8Ideal := Cert.Reference8Ideal.Gen.facts) := by
  intro m ρ m' ρ' _ hag
  refine ⟨fun c => (Cert.Kernel8Ideal.Gen.dats m 0 c).arrAt 2 Cert.Kernel8Ideal.cfg0.N, Cert.Kernel8Ideal.Value.run_blocks m ρ, ?_⟩
  refine (θ_run Cert.Reference8Ideal.defs _ _).mono (fun r h c => ?_) (Cert.Reference8Ideal.Value.run (F := Ideal) m' ρ')
  obtain ⟨e0, e1⟩ := hag c
  refine ⟨(h c).1.trans ?_, (h c).2⟩
  · rw [e0, e1]
    exact (Cert.Kernel8Ideal.Mix.final m c).symm

/-- The reference of the gradient of the mixers' outputs runs and leaves its arguments unchanged. -/
theorem frame_R9 (m : (ℓ : Loc Cert.Reference9Ideal.nD Cert.Reference9Ideal.τ Cert.Reference9Ideal.sig) → Buf (Elt Ideal) ℓ) (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0) :=
  (θ_run Cert.Reference9Ideal.defs _ _).mono
    (fun r h => ⟨fun c => (h c).2, sem_eq_zero_of_no_sems (by decide) r.2⟩)
    (Cert.Reference9Ideal.Value.run (F := Ideal) m ρ)

/-- The kernel of the gradient of the mixers' outputs and its reference have equal results, from equal arguments. -/
theorem algebraic9 : Cert.algebraic_Kernel9Ideal_Reference9Ideal (hKernel9Ideal := Cert.Kernel9Ideal.Gen.facts)
    (hReference9Ideal := Cert.Reference9Ideal.Gen.facts) := by
  intro m ρ m' ρ' _ hag
  refine ⟨fun c => (Cert.Kernel9Ideal.Gen.dats m 0 c).arrAt 2 Cert.Kernel9Ideal.cfg0.N, Cert.Kernel9Ideal.Value.run_blocks m ρ, ?_⟩
  refine (θ_run Cert.Reference9Ideal.defs _ _).mono (fun r h c => ?_) (Cert.Reference9Ideal.Value.run (F := Ideal) m' ρ')
  obtain ⟨e0, e1⟩ := hag c
  refine ⟨(h c).1.trans ?_, (h c).2⟩
  · rw [e0, e1]
    exact (Cert.Kernel9Ideal.Mix.final m c).symm

/-- The reference of the gradient of the mixers' input weights runs and leaves its arguments unchanged. -/
theorem frame_R10 (m : (ℓ : Loc Cert.Reference10Ideal.nD Cert.Reference10Ideal.τ Cert.Reference10Ideal.sig) → Buf (Elt Ideal) ℓ) (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0) :=
  (θ_run Cert.Reference10Ideal.defs _ _).mono
    (fun r h => ⟨fun c => (h c).2, sem_eq_zero_of_no_sems (by decide) r.2⟩)
    (Cert.Reference10Ideal.Value.run (F := Ideal) m ρ)

/-- The kernel of the gradient of the mixers' input weights and its reference have equal results, from equal arguments. -/
theorem algebraic10 : Cert.algebraic_Kernel10Ideal_Reference10Ideal (hKernel10Ideal := Cert.Kernel10Ideal.Gen.facts)
    (hReference10Ideal := Cert.Reference10Ideal.Gen.facts) := by
  intro m ρ m' ρ' _ hag
  refine ⟨fun c => (Cert.Kernel10Ideal.Gen.dats m 0 c).arrAt 2 Cert.Kernel10Ideal.cfg0.N, Cert.Kernel10Ideal.Value.run_blocks m ρ, ?_⟩
  refine (θ_run Cert.Reference10Ideal.defs _ _).mono (fun r h c => ?_) (Cert.Reference10Ideal.Value.run (F := Ideal) m' ρ')
  obtain ⟨e0, e1⟩ := hag c
  refine ⟨(h c).1.trans ?_, (h c).2⟩
  · rw [e0, e1]
    exact (Cert.Kernel10Ideal.Mix.final m c).symm

/-- The reference of the gradient of the mixers' normalised input runs and leaves its arguments unchanged. -/
theorem frame_R11 (m : (ℓ : Loc Cert.Reference11Ideal.nD Cert.Reference11Ideal.τ Cert.Reference11Ideal.sig) → Buf (Elt Ideal) ℓ) (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0) :=
  (θ_run Cert.Reference11Ideal.defs _ _).mono
    (fun r h => ⟨fun c => (h c).2, sem_eq_zero_of_no_sems (by decide) r.2⟩)
    (Cert.Reference11Ideal.Value.run (F := Ideal) m ρ)

/-- The kernel of the gradient of the mixers' normalised input and its reference have equal results, from equal arguments. -/
theorem algebraic11 : Cert.algebraic_Kernel11Ideal_Reference11Ideal (hKernel11Ideal := Cert.Kernel11Ideal.Gen.facts)
    (hReference11Ideal := Cert.Reference11Ideal.Gen.facts) := by
  intro m ρ m' ρ' _ hag
  refine ⟨fun c => (Cert.Kernel11Ideal.Gen.dats m 0 c).arrAt 2 Cert.Kernel11Ideal.cfg0.N, Cert.Kernel11Ideal.Value.run_blocks m ρ, ?_⟩
  refine (θ_run Cert.Reference11Ideal.defs _ _).mono (fun r h c => ?_) (Cert.Reference11Ideal.Value.run (F := Ideal) m' ρ')
  obtain ⟨e0, e1⟩ := hag c
  refine ⟨(h c).1.trans ?_, (h c).2⟩
  · rw [e0, e1]
    exact (Cert.Kernel11Ideal.Mix.final m c).symm

/-- The reference of the mixers' input projection runs and leaves its arguments unchanged. -/
theorem frame_R12 (m : (ℓ : Loc Cert.Reference12Ideal.nD Cert.Reference12Ideal.τ Cert.Reference12Ideal.sig) → Buf (Elt Ideal) ℓ) (ρ : Dev Cert.Reference12Ideal.nD → PrngReg) :
    θ_run (Cert.Reference12Ideal.defs (F := Ideal)) (onTc (τ := Cert.Reference12Ideal.τ) (Cert.Reference12Ideal.main (F := Ideal))) ⟨m, fun _ => 0, ρ⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0) :=
  (θ_run Cert.Reference12Ideal.defs _ _).mono
    (fun r h => ⟨fun c => (h c).2, sem_eq_zero_of_no_sems (by decide) r.2⟩)
    (Cert.Reference12Ideal.Value.run (F := Ideal) m ρ)

/-- The kernel of the mixers' input projection and its reference have equal results, from equal arguments. -/
theorem algebraic12 : Cert.algebraic_Kernel12Ideal_Reference12Ideal (hKernel12Ideal := Cert.Kernel12Ideal.Gen.facts)
    (hReference12Ideal := Cert.Reference12Ideal.Gen.facts) := by
  intro m ρ m' ρ' _ hag
  refine ⟨fun c => (Cert.Kernel12Ideal.Gen.dats m 0 c).arrAt 2 Cert.Kernel12Ideal.cfg0.N, Cert.Kernel12Ideal.Value.run_blocks m ρ, ?_⟩
  refine (θ_run Cert.Reference12Ideal.defs _ _).mono (fun r h c => ?_) (Cert.Reference12Ideal.Value.run (F := Ideal) m' ρ')
  obtain ⟨e0, e1⟩ := hag c
  refine ⟨(h c).1.trans ?_, (h c).2⟩
  · rw [e0, e1]
    exact (Cert.Kernel12Ideal.Mix.final m c).symm

/-- The reference of the mixers' output projection with its residual runs and leaves its arguments unchanged. -/
theorem frame_R13 (m : (ℓ : Loc Cert.Reference13Ideal.nD Cert.Reference13Ideal.τ Cert.Reference13Ideal.sig) → Buf (Elt Ideal) ℓ) (ρ : Dev Cert.Reference13Ideal.nD → PrngReg) :
    θ_run (Cert.Reference13Ideal.defs (F := Ideal)) (onTc (τ := Cert.Reference13Ideal.τ) (Cert.Reference13Ideal.main (F := Ideal))) ⟨m, fun _ => 0, ρ⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0) :=
  (θ_run Cert.Reference13Ideal.defs _ _).mono
    (fun r h => ⟨fun c => (h c).2, sem_eq_zero_of_no_sems (by decide) r.2⟩)
    (Cert.Reference13Ideal.Value.run (F := Ideal) m ρ)

/-- The kernel of the mixers' output projection with its residual and its reference have equal results, from equal arguments. -/
theorem algebraic13 : Cert.algebraic_Kernel13Ideal_Reference13Ideal (hKernel13Ideal := Cert.Kernel13Ideal.Gen.facts)
    (hReference13Ideal := Cert.Reference13Ideal.Gen.facts) := by
  intro m ρ m' ρ' _ hag
  refine ⟨fun c => (Cert.Kernel13Ideal.Gen.dats m 0 c).arrAt 3 Cert.Kernel13Ideal.cfg0.N, Cert.Kernel13Ideal.Value.run_blocks m ρ, ?_⟩
  refine (θ_run Cert.Reference13Ideal.defs _ _).mono (fun r h c => ?_) (Cert.Reference13Ideal.Value.run (F := Ideal) m' ρ')
  obtain ⟨e0, e1, e2⟩ := hag c
  refine ⟨(h c).1.trans ?_, (h c).2⟩
  · rw [e0, e1, e2]
    exact (Cert.Kernel13Ideal.Mix.final m c).symm

/-- The reference of the gradient of the normalisation runs and leaves its arguments unchanged. -/
theorem frame_R14 (m : (ℓ : Loc Cert.Reference14Ideal.nD Cert.Reference14Ideal.τ Cert.Reference14Ideal.sig) → Buf (Elt Ideal) ℓ) (ρ : Dev Cert.Reference14Ideal.nD → PrngReg) :
    θ_run (Cert.Reference14Ideal.defs (F := Ideal)) (onTc (τ := Cert.Reference14Ideal.τ) (Cert.Reference14Ideal.main (F := Ideal))) ⟨m, fun _ => 0, ρ⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0) :=
  (θ_run Cert.Reference14Ideal.defs _ _).mono
    (fun r h => ⟨fun c => (h c).2.2.2, sem_eq_zero_of_no_sems (by decide) r.2⟩)
    (Cert.Reference14Ideal.Value.run (F := Ideal) m ρ)

/-- The kernel of the gradient of the normalisation and its reference have equal results, from equal arguments. -/
theorem algebraic14 : Cert.algebraic_Kernel14Ideal_Reference14Ideal (hKernel14Ideal := Cert.Kernel14Ideal.Gen.facts)
    (hReference14Ideal := Cert.Reference14Ideal.Gen.facts) := by
  intro m ρ m' ρ' _ hag
  refine ⟨fun c => Cert.Kernel14Ideal.Value.G4 m c, fun c => Cert.Kernel14Ideal.Value.G5 m c, fun c => Cert.Kernel14Ideal.Value.G6 m c, Cert.Kernel14Ideal.Value.run m ρ, ?_⟩
  refine (θ_run Cert.Reference14Ideal.defs _ _).mono (fun r h c => ?_) (Cert.Reference14Ideal.Value.run (F := Ideal) m' ρ')
  obtain ⟨e0, e1, e2, e3⟩ := hag c
  refine ⟨(h c).1.trans ?_, (h c).2.1.trans ?_, (h c).2.2.1.trans ?_, (h c).2.2.2⟩
  · rw [e0, e1, e2, e3]
    exact (Cert.Kernel14Ideal.Norm.out4 m c).symm
  · rw [e0, e1, e2, e3]
    exact (Cert.Kernel14Ideal.Norm.out5 m c).symm
  · rw [e0, e1]
    exact (Cert.Kernel14Ideal.Norm.out6 m c).symm

/-- The reference of the normalisation of the rows runs and leaves its arguments unchanged. -/
theorem frame_R15 (m : (ℓ : Loc Cert.Reference15Ideal.nD Cert.Reference15Ideal.τ Cert.Reference15Ideal.sig) → Buf (Elt Ideal) ℓ) (ρ : Dev Cert.Reference15Ideal.nD → PrngReg) :
    θ_run (Cert.Reference15Ideal.defs (F := Ideal)) (onTc (τ := Cert.Reference15Ideal.τ) (Cert.Reference15Ideal.main (F := Ideal))) ⟨m, fun _ => 0, ρ⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0) :=
  (θ_run Cert.Reference15Ideal.defs _ _).mono
    (fun r h => ⟨fun c => (h c).2.2, sem_eq_zero_of_no_sems (by decide) r.2⟩)
    (Cert.Reference15Ideal.Value.run (F := Ideal) m ρ)

/-- The kernel of the normalisation of the rows and its reference have equal results, from equal arguments. -/
theorem algebraic15 : Cert.algebraic_Kernel15Ideal_Reference15Ideal (hKernel15Ideal := Cert.Kernel15Ideal.Gen.facts)
    (hReference15Ideal := Cert.Reference15Ideal.Gen.facts) := by
  intro m ρ m' ρ' _ hag
  refine ⟨fun c => (Cert.Kernel15Ideal.Gen.dats m 0 c).arrAt 2 Cert.Kernel15Ideal.cfg0.N, fun c => (Cert.Kernel15Ideal.Gen.dats m 0 c).arrAt 3 Cert.Kernel15Ideal.cfg0.N, Cert.Kernel15Ideal.Value.run_blocks m ρ, ?_⟩
  refine (θ_run Cert.Reference15Ideal.defs _ _).mono (fun r h c => ?_) (Cert.Reference15Ideal.Value.run (F := Ideal) m' ρ')
  obtain ⟨e0, e1⟩ := hag c
  refine ⟨(h c).1.trans ?_, (h c).2.1.trans ?_, (h c).2.2⟩
  · rw [e0, e1]
    exact (Cert.Kernel15Ideal.Norm.final2 m c).symm
  · rw [e0, e1]
    exact (Cert.Kernel15Ideal.Norm.final3 m c).symm

/-- The reference of the loss and its gradients runs and leaves its arguments unchanged. -/
theorem frame_R16 (m : (ℓ : Loc Cert.Reference16Ideal.nD Cert.Reference16Ideal.τ Cert.Reference16Ideal.sig) → Buf (Elt Ideal) ℓ) (ρ : Dev Cert.Reference16Ideal.nD → PrngReg) :
    θ_run (Cert.Reference16Ideal.defs (F := Ideal)) (onTc (τ := Cert.Reference16Ideal.τ) (Cert.Reference16Ideal.main (F := Ideal))) ⟨m, fun _ => 0, ρ⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0) :=
  (θ_run Cert.Reference16Ideal.defs _ _).mono
    (fun r h => ⟨fun c => (h c).2.2.2.2, sem_eq_zero_of_no_sems (by decide) r.2⟩)
    (Cert.Reference16Ideal.Value.run (F := Ideal) m ρ)

/-- The kernel of the loss and its gradients and its reference have equal results, from equal arguments. -/
theorem algebraic16 : Cert.algebraic_Kernel16Ideal_Reference16Ideal (hKernel16Ideal := Cert.Kernel16Ideal.Gen.facts)
    (hReference16Ideal := Cert.Reference16Ideal.Gen.facts) := by
  intro m ρ m' ρ' _ hag
  refine ⟨fun c => Cert.Kernel16Ideal.Value.G3 m c, fun c => Cert.Kernel16Ideal.Value.G4 m c, fun c => Cert.Kernel16Ideal.Value.G5 m c, fun c => Cert.Kernel16Ideal.Value.G6 m c, Cert.Kernel16Ideal.Value.run m ρ, ?_⟩
  refine (θ_run Cert.Reference16Ideal.defs _ _).mono (fun r h c => ?_) (Cert.Reference16Ideal.Value.run (F := Ideal) m' ρ')
  obtain ⟨e0, e1, e2⟩ := hag c
  refine ⟨(h c).1.trans ?_, (h c).2.1.trans ?_, (h c).2.2.1.trans ?_, (h c).2.2.2.1.trans ?_, (h c).2.2.2.2⟩
  · unfold Cert.Reference16Ideal.Value.res_main_v50
    rw [e0, e1, e2]
    exact (Cert.Kernel16Ideal.Loss.out3 m c).symm
  · unfold Cert.Reference16Ideal.Value.res_main_v51
    rw [e0, e1, e2]
    exact (Cert.Kernel16Ideal.Loss.out4 m c).symm
  · rw [e0, e1, e2]
    exact (Cert.Kernel16Ideal.Loss.out5 m c).symm
  · rw [e0, e1, e2]
    exact (Cert.Kernel16Ideal.Loss.out6 m c).symm

/-- The reference of the gating runs and leaves its arguments unchanged. -/
theorem frame_R17 (m : (ℓ : Loc Cert.Reference17Ideal.nD Cert.Reference17Ideal.τ Cert.Reference17Ideal.sig) → Buf (Elt Ideal) ℓ) (ρ : Dev Cert.Reference17Ideal.nD → PrngReg) :
    θ_run (Cert.Reference17Ideal.defs (F := Ideal)) (onTc (τ := Cert.Reference17Ideal.τ) (Cert.Reference17Ideal.main (F := Ideal))) ⟨m, fun _ => 0, ρ⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0) :=
  (θ_run Cert.Reference17Ideal.defs _ _).mono
    (fun r h => ⟨fun c => (h c).2, sem_eq_zero_of_no_sems (by decide) r.2⟩)
    (Cert.Reference17Ideal.Value.run (F := Ideal) m ρ)

/-- The kernel of the gating and its reference have equal results, from equal arguments. -/
theorem algebraic17 : Cert.algebraic_Kernel17Ideal_Reference17Ideal (hKernel17Ideal := Cert.Kernel17Ideal.Gen.facts)
    (hReference17Ideal := Cert.Reference17Ideal.Gen.facts) := by
  intro m ρ m' ρ' _ hag
  refine ⟨fun c => (Cert.Kernel17Ideal.Gen.dats m 0 c).arrAt 6 Cert.Kernel17Ideal.cfg0.N, Cert.Kernel17Ideal.Value.run_blocks m ρ, ?_⟩
  refine (θ_run Cert.Reference17Ideal.defs _ _).mono (fun r h c => ?_) (Cert.Reference17Ideal.Value.run (F := Ideal) m' ρ')
  obtain ⟨e0, e1, e2, e3, e4⟩ := hag c
  refine ⟨(h c).1.trans ?_, (h c).2⟩
  · unfold Cert.Reference17Ideal.Value.res_main_v41
    rw [e0, e1, e2, e3, e4]
    exact (Cert.Kernel17Ideal.SguFwd.final m c).symm

/-- The reference of the convolution runs and leaves its arguments unchanged. -/
theorem frame_R18 (m : (ℓ : Loc Cert.Reference18Ideal.nD Cert.Reference18Ideal.τ Cert.Reference18Ideal.sig) → Buf (Elt Ideal) ℓ) (ρ : Dev Cert.Reference18Ideal.nD → PrngReg) :
    θ_run (Cert.Reference18Ideal.defs (F := Ideal)) (onTc (τ := Cert.Reference18Ideal.τ) (Cert.Reference18Ideal.main (F := Ideal))) ⟨m, fun _ => 0, ρ⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0) :=
  (θ_run Cert.Reference18Ideal.defs _ _).mono
    (fun r h => ⟨fun c => (h c).2.2, sem_eq_zero_of_no_sems (by decide) r.2⟩)
    (Cert.Reference18Ideal.Value.run (F := Ideal) m ρ)

/-- The kernel of the convolution and its reference have equal results, from equal arguments. -/
theorem algebraic18 : Cert.algebraic_Kernel18Ideal_Reference18Ideal (hKernel18Ideal := Cert.Kernel18Ideal.Gen.facts)
    (hReference18Ideal := Cert.Reference18Ideal.Gen.facts) := by
  intro m ρ m' ρ' _ hag
  refine ⟨fun c => (Cert.Kernel18Ideal.Gen.dats m 0 c).arrAt 8 Cert.Kernel18Ideal.cfg0.N, fun c => (Cert.Kernel18Ideal.Gen.dats m 0 c).arrAt 9 Cert.Kernel18Ideal.cfg0.N, Cert.Kernel18Ideal.Value.run_blocks m ρ, ?_⟩
  refine (θ_run Cert.Reference18Ideal.defs _ _).mono (fun r h c => ?_) (Cert.Reference18Ideal.Value.run (F := Ideal) m' ρ')
  obtain ⟨e0, e1, e2, e3, e4⟩ := hag c
  refine ⟨(h c).1.trans ?_, (h c).2.1.trans ?_, (h c).2.2⟩
  · refine Eq.trans (b := Cert.Reference18Ideal.ConvFwd.OUT (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg3)) (m' ((c.tc : Thread Cert.Reference18Ideal.nD Cert.Reference18Ideal.τ).loc Cert.Reference18Ideal.main_arg4))) rfl ?_
    rw [e0, e1, e2, e3, e4]
    exact (Cert.Kernel18Ideal.ConvFwd.final8 m c).symm
  · refine Eq.trans (b := Cert.Reference18Ideal.ConvFwd.Y (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2))) rfl ?_
    rw [e0, e1, e2]
    exact (Cert.Kernel18Ideal.ConvFwd.final9 m c).symm

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Pre_finite.facts, Cert.Pre_finite2.facts,
    fun m ρ _ => Cert.Kernel.Gen.frame m ρ, fun m ρ _ => Cert.KernelIdeal.Gen.frame m ρ, fun m ρ _ => Cert.KernelIdeal.Gen.frame m ρ,
    fun m ρ _ => frame_R m ρ, fun m ρ _ => frame_R m ρ,
    fun m ρ _ => Cert.Kernel2.Gen.frame m ρ, fun m ρ _ => Cert.Kernel2Ideal.Gen.frame m ρ, fun m ρ _ => Cert.Kernel2Ideal.Gen.frame m ρ, fun m ρ _ => frame_R2 m ρ, fun m ρ _ => frame_R2 m ρ,
    fun m ρ _ => Cert.Kernel3.Gen.frame m ρ, fun m ρ _ => Cert.Kernel3Ideal.Gen.frame m ρ, fun m ρ _ => frame_R3 m ρ,
    fun m ρ _ => Cert.Kernel4.Gen.frame m ρ, fun m ρ _ => Cert.Kernel4Ideal.Gen.frame m ρ, fun m ρ _ => frame_R4 m ρ,
    fun m ρ _ => Cert.Kernel5.Gen.frame m ρ, fun m ρ _ => Cert.Kernel5Ideal.Gen.frame m ρ, fun m ρ _ => frame_R5 m ρ,
    fun m ρ _ => Cert.Kernel6.Gen.frame m ρ, fun m ρ _ => Cert.Kernel6Ideal.Gen.frame m ρ, fun m ρ _ => frame_R6 m ρ,
    fun m ρ _ => Cert.Kernel7.Gen.frame m ρ, fun m ρ _ => Cert.Kernel7Ideal.Gen.frame m ρ, fun m ρ _ => frame_R7 m ρ,
    fun m ρ _ => Cert.Kernel8.Gen.frame m ρ, fun m ρ _ => Cert.Kernel8Ideal.Gen.frame m ρ, fun m ρ _ => frame_R8 m ρ,
    fun m ρ _ => Cert.Kernel9.Gen.frame m ρ, fun m ρ _ => Cert.Kernel9Ideal.Gen.frame m ρ, fun m ρ _ => frame_R9 m ρ,
    fun m ρ _ => Cert.Kernel10.Gen.frame m ρ, fun m ρ _ => Cert.Kernel10Ideal.Gen.frame m ρ, fun m ρ _ => frame_R10 m ρ,
    fun m ρ _ => Cert.Kernel11.Gen.frame m ρ, fun m ρ _ => Cert.Kernel11Ideal.Gen.frame m ρ, fun m ρ _ => frame_R11 m ρ,
    fun m ρ _ => Cert.Kernel12.Gen.frame m ρ, fun m ρ _ => Cert.Kernel12Ideal.Gen.frame m ρ, fun m ρ _ => frame_R12 m ρ,
    fun m ρ _ => Cert.Kernel13.Gen.frame m ρ, fun m ρ _ => Cert.Kernel13Ideal.Gen.frame m ρ, fun m ρ _ => frame_R13 m ρ,
    fun m ρ _ => Cert.Kernel14.Gen.frame m ρ, fun m ρ _ => Cert.Kernel14Ideal.Gen.frame m ρ, fun m ρ _ => frame_R14 m ρ,
    fun m ρ _ => Cert.Kernel15.Gen.frame m ρ, fun m ρ _ => Cert.Kernel15Ideal.Gen.frame m ρ, fun m ρ _ => frame_R15 m ρ,
    fun m ρ _ => Cert.Kernel16.Gen.frame m ρ, fun m ρ _ => Cert.Kernel16Ideal.Gen.frame m ρ, fun m ρ _ => frame_R16 m ρ,
    fun m ρ _ => Cert.Kernel17.Gen.frame m ρ, fun m ρ _ => Cert.Kernel17Ideal.Gen.frame m ρ, fun m ρ _ => frame_R17 m ρ,
    fun m ρ _ => Cert.Kernel18.Gen.frame m ρ, fun m ρ _ => Cert.Kernel18Ideal.Gen.frame m ρ, fun m ρ _ => frame_R18 m ρ,
    trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18⟩

end Cert.Proof

end
